-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_ok [hPre_scales_ok : Cert.Pre_scales_ok.Facts] (m : (ℓ : Loc Cert.KernelIdeal.nD Cert.KernelIdeal.τ Cert.KernelIdeal.sig) → Buf (Elt Ideal) ℓ) : Prop :=
  ∀ c : Dev Cert.KernelIdeal.nD,
    (Cert.Pre_scales_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_scales_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_ok [hPre_scales_ok : Cert.Pre_scales_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_scales_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_scales_ok [hKernelIdeal : Cert.KernelIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_scales_ok [hReferenceIdeal : Cert.ReferenceIdeal.Facts] [hPre_scales_ok : Cert.Pre_scales_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "sm_scale_log2e" .f32 0x3DE995B3#32 (((Real.sqrt 160)⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_scales_ok [hKernelIdeal : Cert.KernelIdeal.Facts] [hReferenceIdeal : Cert.ReferenceIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_scales_ok : Cert.Pre_scales_ok.Facts),
    quiescent_Kernel (hKernel := hKernel)
    ∧ quiescent_KernelIdeal (hKernelIdeal := hKernelIdeal)
    ∧ quiescent_KernelIdeal_pre_scales_ok (hKernelIdeal := hKernelIdeal) (hPre_scales_ok := hPre_scales_ok)
    ∧ quiescent_ReferenceIdeal (hReferenceIdeal := hReferenceIdeal)
    ∧ quiescent_ReferenceIdeal_pre_scales_ok (hReferenceIdeal := hReferenceIdeal) (hPre_scales_ok := hPre_scales_ok)
    ∧ preserves_Kernel_KernelIdeal
    ∧ algebraic_KernelIdeal_ReferenceIdeal_pre_scales_ok (hKernelIdeal := hKernelIdeal) (hReferenceIdeal := hReferenceIdeal) (hPre_scales_ok := hPre_scales_ok)
-- ==== Pre_scales_ok.lean ====
abbrev S2x8192x20x576 : Shape := ⟨4, ![2, 8192, 20, 576]⟩
abbrev S2x8192x20 : Shape := ⟨3, ![2, 8192, 20]⟩
abbrev S2x8192x576 : Shape := ⟨3, ![2, 8192, 576]⟩
abbrev S2x8192 : Shape := ⟨2, ![2, 8192]⟩
abbrev S2x20x8192 : Shape := ⟨3, ![2, 20, 8192]⟩
abbrev S2x8192x48x128 : Shape := ⟨4, ![2, 8192, 48, 128]⟩
abbrev S2x8192x48 : Shape := ⟨3, ![2, 8192, 48]⟩
abbrev S2x8192x128 : Shape := ⟨3, ![2, 8192, 128]⟩
abbrev S_ : Shape := ⟨0, ![]⟩

class Facts : Prop where
  bcast_S_S2x8192x48 : S_.BroadcastsInDim S2x8192x48 (![] : Fin 0 → Fin S2x8192x48.rank)
  bcast_S_S2x8192 : S_.BroadcastsInDim S2x8192 (![] : Fin 0 → Fin S2x8192.rank)

variable [Facts]

def fn {F : FTy → Type} [FloatOps F] (main_arg0 : FVec F S2x8192x20x576 .fp8e4m3) (main_arg1 : FVec F S2x8192x20 .f32) (main_arg2 : FVec F S2x8192x576 .fp8e4m3) (main_arg3 : FVec F S2x8192 .f32) (main_arg4 : FVec F S2x20x8192 .f32) (main_arg5 : FVec F S2x8192x48x128 .fp8e4m3) (main_arg6 : FVec F S2x8192x48 .f32) (main_arg7 : FVec F S2x8192x128 .fp8e4m3) (main_arg8 : FVec F S2x8192 .f32) (main_arg9 : FVec F S2x8192x48 .bf16) : IVec S2x8192x48 1 × IVec S2x8192 1 :=
  let main_cst : FVec F S_ .f32 := constant S_ .f32 0x00000000#32
  let main_v0 : FVec F S2x8192x48 .f32 := broadcastInDim S2x8192x48 ![] bcast_S_S2x8192x48 main_cst
  let main_v1 : IVec S2x8192x48 1 := cmpf .oge main_arg6 main_v0
  let main_cst_0 : FVec F S_ .f32 := constant S_ .f32 0x7F800000#32
  let main_v2 : FVec F S2x8192x48 .f32 := broadcastInDim S2x8192x48 ![] bcast_S_S2x8192x48 main_cst_0
  let main_v3 : IVec S2x8192x48 1 := cmpf .olt main_arg6 main_v2
  let main_v4 : IVec S2x8192x48 1 := andi main_v1 main_v3
  let main_cst_1 : FVec F S_ .f32 := constant S_ .f32 0x00000000#32
  let main_v5 : FVec F S2x8192 .f32 := broadcastInDim S2x8192 ![] bcast_S_S2x8192 main_cst_1
  let main_v6 : IVec S2x8192 1 := cmpf .oge main_arg8 main_v5
  let main_cst_2 : FVec F S_ .f32 := constant S_ .f32 0x7F800000#32
  let main_v7 : FVec F S2x8192 .f32 := broadcastInDim S2x8192 ![] bcast_S_S2x8192 main_cst_2
  let main_v8 : IVec S2x8192 1 := cmpf .olt main_arg8 main_v7
  let main_v9 : IVec S2x8192 1 := andi main_v6 main_v8
  (main_v4, main_v9)
-- ==== Kernel.lean ====
abbrev S2x8192x20x576 : Shape := ⟨4, ![2, 8192, 20, 576]⟩
abbrev S2x8192x20 : Shape := ⟨3, ![2, 8192, 20]⟩
abbrev S2x8192x576 : Shape := ⟨3, ![2, 8192, 576]⟩
abbrev S2x8192 : Shape := ⟨2, ![2, 8192]⟩
abbrev S2x20x8192 : Shape := ⟨3, ![2, 20, 8192]⟩
abbrev S2x8192x48x128 : Shape := ⟨4, ![2, 8192, 48, 128]⟩
abbrev S2x8192x48 : Shape := ⟨3, ![2, 8192, 48]⟩
abbrev S2x8192x128 : Shape := ⟨3, ![2, 8192, 128]⟩
abbrev S2x512x16x20x576 : Shape := ⟨5, ![2, 512, 16, 20, 576]⟩
abbrev S2x512x20x16x576 : Shape := ⟨5, ![2, 512, 20, 16, 576]⟩
abbrev S2x512x320x576 : Shape := ⟨4, ![2, 512, 320, 576]⟩
abbrev S2x512x16x48x128 : Shape := ⟨5, ![2, 512, 16, 48, 128]⟩
abbrev S2x512x48x16x128 : Shape := ⟨5, ![2, 512, 48, 16, 128]⟩
abbrev S2x512x768x128 : Shape := ⟨4, ![2, 512, 768, 128]⟩
abbrev S2x512x16x48 : Shape := ⟨4, ![2, 512, 16, 48]⟩
abbrev S2x512x48x16 : Shape := ⟨4, ![2, 512, 48, 16]⟩
abbrev S2x512x1x768 : Shape := ⟨4, ![2, 512, 1, 768]⟩
abbrev S2x576x8192 : Shape := ⟨3, ![2, 576, 8192]⟩
abbrev S2x128x8192 : Shape := ⟨3, ![2, 128, 8192]⟩
abbrev S2x8192x1 : Shape := ⟨3, ![2, 8192, 1]⟩
abbrev S2x1x8192 : Shape := ⟨3, ![2, 1, 8192]⟩
abbrev S1x1x320x576 : Shape := ⟨4, ![1, 1, 320, 576]⟩
abbrev S1x16x20 : Shape := ⟨3, ![1, 16, 20]⟩
abbrev S1x1x768x128 : Shape := ⟨4, ![1, 1, 768, 128]⟩
abbrev S1x16x48 : Shape := ⟨3, ![1, 16, 48]⟩
abbrev S1x1x1x768 : Shape := ⟨4, ![1, 1, 1, 768]⟩
abbrev S1x576x8192 : Shape := ⟨3, ![1, 576, 8192]⟩
abbrev S1x1x8192 : Shape := ⟨3, ![1, 1, 8192]⟩
abbrev S1x128x8192 : Shape := ⟨3, ![1, 128, 8192]⟩
abbrev S1x8192x128 : Shape := ⟨3, ![1, 8192, 128]⟩
abbrev S1x8192x1 : Shape := ⟨3, ![1, 8192, 1]⟩
abbrev S1x16x1 : Shape := ⟨3, ![1, 16, 1]⟩
abbrev S1x16x48x128 : Shape := ⟨4, ![1, 16, 48, 128]⟩
abbrev S768x8192 : Shape := ⟨2, ![768, 8192]⟩
abbrev S16x8192 : Shape := ⟨2, ![16, 8192]⟩
abbrev S768x128 : Shape := ⟨2, ![768, 128]⟩
abbrev S320x128 : Shape := ⟨2, ![320, 128]⟩
abbrev S128x768 : Shape := ⟨2, ![128, 768]⟩
abbrev S16x48 : Shape := ⟨2, ![16, 48]⟩
abbrev S16x1 : Shape := ⟨2, ![16, 1]⟩
abbrev S16x128 : Shape := ⟨2, ![16, 128]⟩
abbrev S1x768 : Shape := ⟨2, ![1, 768]⟩
abbrev S16x512 : Shape := ⟨2, ![16, 512]⟩
abbrev S1x128x512 : Shape := ⟨3, ![1, 128, 512]⟩
abbrev S128x512 : Shape := ⟨2, ![128, 512]⟩
abbrev S1x1x256x128 : Shape := ⟨4, ![1, 1, 256, 128]⟩
abbrev S256x128 : Shape := ⟨2, ![256, 128]⟩
abbrev S256x512 : Shape := ⟨2, ![256, 512]⟩
abbrev S1x1x512 : Shape := ⟨3, ![1, 1, 512]⟩
abbrev S1x512 : Shape := ⟨2, ![1, 512]⟩
abbrev S1x576x512 : Shape := ⟨3, ![1, 576, 512]⟩
abbrev S576x512 : Shape := ⟨2, ![576, 512]⟩
abbrev S1x1x80x576 : Shape := ⟨4, ![1, 1, 80, 576]⟩
abbrev S80x576 : Shape := ⟨2, ![80, 576]⟩
abbrev S80x512 : Shape := ⟨2, ![80, 512]⟩
abbrev S16 : Shape := ⟨1, ![16]⟩
abbrev S1x512x128 : Shape := ⟨3, ![1, 512, 128]⟩
abbrev S512x128 : Shape := ⟨2, ![512, 128]⟩
abbrev S1x512x1 : Shape := ⟨3, ![1, 512, 1]⟩
abbrev S512x1 : Shape := ⟨2, ![512, 1]⟩
abbrev S128x256 : Shape := ⟨2, ![128, 256]⟩
abbrev S1x16x1x128 : Shape := ⟨4, ![1, 16, 1, 128]⟩

abbrev nBuf : Space → Nat
  | .hbm => 30
  | .vmem => 44
  | .smem => 0
  | _ => 0

abbrev bufTy : (tb : Table) → Fin (tcTables nBuf tb) → BufTy
  | .hbm, ⟨0, _⟩ => ⟨S2x8192x20x576, .fp8e4m3⟩
  | .hbm, ⟨1, _⟩ => ⟨S2x8192x20, .f32⟩
  | .hbm, ⟨2, _⟩ => ⟨S2x8192x576, .fp8e4m3⟩
  | .hbm, ⟨3, _⟩ => ⟨S2x8192, .f32⟩
  | .hbm, ⟨4, _⟩ => ⟨S2x20x8192, .f32⟩
  | .hbm, ⟨5, _⟩ => ⟨S2x8192x48x128, .fp8e4m3⟩
  | .hbm, ⟨6, _⟩ => ⟨S2x8192x48, .f32⟩
  | .hbm, ⟨7, _⟩ => ⟨S2x8192x128, .fp8e4m3⟩
  | .hbm, ⟨8, _⟩ => ⟨S2x8192, .f32⟩
  | .hbm, ⟨9, _⟩ => ⟨S2x8192x48, .bf16⟩
  | .hbm, ⟨10, _⟩ => ⟨S2x512x16x20x576, .fp8e4m3⟩
  | .hbm, ⟨11, _⟩ => ⟨S2x512x20x16x576, .fp8e4m3⟩
  | .hbm, ⟨12, _⟩ => ⟨S2x512x320x576, .fp8e4m3⟩
  | .hbm, ⟨13, _⟩ => ⟨S2x512x16x48x128, .fp8e4m3⟩
  | .hbm, ⟨14, _⟩ => ⟨S2x512x48x16x128, .fp8e4m3⟩
  | .hbm, ⟨15, _⟩ => ⟨S2x512x768x128, .fp8e4m3⟩
  | .hbm, ⟨16, _⟩ => ⟨S2x512x16x48, .f32⟩
  | .hbm, ⟨17, _⟩ => ⟨S2x512x48x16, .f32⟩
  | .hbm, ⟨18, _⟩ => ⟨S2x512x1x768, .f32⟩
  | .hbm, ⟨19, _⟩ => ⟨S2x8192x20, .f32⟩
  | .hbm, ⟨20, _⟩ => ⟨S2x8192x48, .f32⟩
  | .hbm, ⟨21, _⟩ => ⟨S2x576x8192, .fp8e4m3⟩
  | .hbm, ⟨22, _⟩ => ⟨S2x128x8192, .fp8e4m3⟩
  | .hbm, ⟨23, _⟩ => ⟨S2x8192x1, .f32⟩
  | .hbm, ⟨24, _⟩ => ⟨S2x1x8192, .f32⟩
  | .hbm, ⟨25, _⟩ => ⟨S2x1x8192, .f32⟩
  | .hbm, ⟨26, _⟩ => ⟨S2x8192x1, .f32⟩
  | .hbm, ⟨27, _⟩ => ⟨S2x8192x48x128, .f32⟩
  | .hbm, ⟨28, _⟩ => ⟨S2x128x8192, .f32⟩
  | .hbm, ⟨29, _⟩ => ⟨S2x8192x48, .f32⟩
  | .local _ .vmem, ⟨0, _⟩ => ⟨S1x1x320x576, .fp8e4m3⟩
  | .local _ .vmem, ⟨1, _⟩ => ⟨S1x1x320x576, .fp8e4m3⟩
  | .local _ .vmem, ⟨2, _⟩ => ⟨S1x16x20, .f32⟩
  | .local _ .vmem, ⟨3, _⟩ => ⟨S1x16x20, .f32⟩
  | .local _ .vmem, ⟨4, _⟩ => ⟨S1x16x20, .f32⟩
  | .local _ .vmem, ⟨5, _⟩ => ⟨S1x16x20, .f32⟩
  | .local _ .vmem, ⟨6, _⟩ => ⟨S1x1x768x128, .fp8e4m3⟩
  | .local _ .vmem, ⟨7, _⟩ => ⟨S1x1x768x128, .fp8e4m3⟩
  | .local _ .vmem, ⟨8, _⟩ => ⟨S1x16x48, .f32⟩
  | .local _ .vmem, ⟨9, _⟩ => ⟨S1x16x48, .f32⟩
  | .local _ .vmem, ⟨10, _⟩ => ⟨S1x16x48, .f32⟩
  | .local _ .vmem, ⟨11, _⟩ => ⟨S1x16x48, .f32⟩
  | .local _ .vmem, ⟨12, _⟩ => ⟨S1x1x1x768, .f32⟩
  | .local _ .vmem, ⟨13, _⟩ => ⟨S1x1x1x768, .f32⟩
  | .local _ .vmem, ⟨14, _⟩ => ⟨S1x576x8192, .fp8e4m3⟩
  | .local _ .vmem, ⟨15, _⟩ => ⟨S1x576x8192, .fp8e4m3⟩
  | .local _ .vmem, ⟨16, _⟩ => ⟨S1x1x8192, .f32⟩
  | .local _ .vmem, ⟨17, _⟩ => ⟨S1x1x8192, .f32⟩
  | .local _ .vmem, ⟨18, _⟩ => ⟨S1x128x8192, .fp8e4m3⟩
  | .local _ .vmem, ⟨19, _⟩ => ⟨S1x128x8192, .fp8e4m3⟩
  | .local _ .vmem, ⟨20, _⟩ => ⟨S1x1x8192, .f32⟩
  | .local _ .vmem, ⟨21, _⟩ => ⟨S1x1x8192, .f32⟩
  | .local _ .vmem, ⟨22, _⟩ => ⟨S1x8192x128, .fp8e4m3⟩
  | .local _ .vmem, ⟨23, _⟩ => ⟨S1x8192x128, .fp8e4m3⟩
  | .local _ .vmem, ⟨24, _⟩ => ⟨S1x8192x1, .f32⟩
  | .local _ .vmem, ⟨25, _⟩ => ⟨S1x8192x1, .f32⟩
  | .local _ .vmem, ⟨26, _⟩ => ⟨S1x16x1, .f32⟩
  | .local _ .vmem, ⟨27, _⟩ => ⟨S1x16x1, .f32⟩
  | .local _ .vmem, ⟨28, _⟩ => ⟨S1x16x48x128, .f32⟩
  | .local _ .vmem, ⟨29, _⟩ => ⟨S1x16x48x128, .f32⟩
  | .local _ .vmem, ⟨30, _⟩ => ⟨S1x128x8192, .f32⟩
  | .local _ .vmem, ⟨31, _⟩ => ⟨S1x128x8192, .f32⟩
  | .local _ .vmem, ⟨32, _⟩ => ⟨S1x16x48, .f32⟩
  | .local _ .vmem, ⟨33, _⟩ => ⟨S1x16x48, .f32⟩
  | .local _ .vmem, ⟨34, _⟩ => ⟨S768x8192, .f32⟩
  | .local _ .vmem, ⟨35, _⟩ => ⟨S16x8192, .f32⟩
  | .local _ .vmem, ⟨36, _⟩ => ⟨S16x8192, .f32⟩
  | .local _ .vmem, ⟨37, _⟩ => ⟨S768x128, .f32⟩
  | .local _ .vmem, ⟨38, _⟩ => ⟨S768x128, .f32⟩
  | .local _ .vmem, ⟨39, _⟩ => ⟨S320x128, .f32⟩
  | .local _ .vmem, ⟨40, _⟩ => ⟨S320x128, .f32⟩
  | .local _ .vmem, ⟨41, _⟩ => ⟨S128x768, .bf16⟩
  | .local _ .vmem, ⟨42, _⟩ => ⟨S768x128, .f32⟩
  | .local _ .vmem, ⟨43, _⟩ => ⟨S768x128, .f32⟩
  | _, _ => ⟨S2x8192x20x576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_scratch4 : Ref sig .tc := ⟨.vmem, 38, rfl⟩
abbrev cc0_scratch5 : Ref sig .tc := ⟨.vmem, 39, rfl⟩
abbrev cc0_scratch6 : Ref sig .tc := ⟨.vmem, 40, rfl⟩
abbrev cc0_scratch7 : Ref sig .tc := ⟨.vmem, 41, rfl⟩
abbrev cc0_scratch8 : Ref sig .tc := ⟨.vmem, 42, rfl⟩
abbrev cc0_scratch9 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![2, 512], ![false, false]⟩

@[reducible] def k0_t1_loop (i : grid0.Coords) : Scf.Loop 32 :=
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_509 : BitVec 32 := 1#32
  ⟨c0_i32_507, v1034, c1_i32_509⟩
def k0_mult1 (i : grid0.Coords) (k0_t1 : Fin (k0_t1_loop i).trips) : BitVec 32 :=
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  v1660
def k0_off1 (i : grid0.Coords) (k0_t1 : Fin (k0_t1_loop i).trips) : Fin 3 → Nat :=
  let c0_976 : Index := 0#32
  let c0_977 : Index := 0#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1665 : Index := Scalar.indexCast v1661
  ![0, 0, v1665.toNat]
def k0_off2 (i : grid0.Coords) (k0_t1 : Fin (k0_t1_loop i).trips) : Fin 2 → Nat :=
  let c0_985 : Index := 0#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1675 : Index := Scalar.indexCast v1661
  ![0, v1675.toNat]
def k0_off3 (i : grid0.Coords) (k0_t1 : Fin (k0_t1_loop i).trips) : Fin 2 → Nat :=
  let c16_989 : Index := 16#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1686 : Index := Scalar.indexCast v1661
  ![16, v1686.toNat]
def k0_off4 (i : grid0.Coords) (k0_t1 : Fin (k0_t1_loop i).trips) : Fin 2 → Nat :=
  let c32_993 : Index := 32#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1697 : Index := Scalar.indexCast v1661
  ![32, v1697.toNat]
def k0_off5 (i : grid0.Coords) (k0_t1 : Fin (k0_t1_loop i).trips) : Fin 2 → Nat :=
  let c48_997 : Index := 48#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1708 : Index := Scalar.indexCast v1661
  ![48, v1708.toNat]
def k0_off6 (i : grid0.Coords) (k0_t1 : Fin (k0_t1_loop i).trips) : Fin 2 → Nat :=
  let c64_1001 : Index := 64#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1719 : Index := Scalar.indexCast v1661
  ![64, v1719.toNat]
def k0_off7 (i : grid0.Coords) (k0_t1 : Fin (k0_t1_loop i).trips) : Fin 2 → Nat :=
  let c80_1005 : Index := 80#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1730 : Index := Scalar.indexCast v1661
  ![80, v1730.toNat]
def k0_off8 (i : grid0.Coords) (k0_t1 : Fin (k0_t1_loop i).trips) : Fin 2 → Nat :=
  let c96_1009 : Index := 96#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1741 : Index := Scalar.indexCast v1661
  ![96, v1741.toNat]
def k0_off9 (i : grid0.Coords) (k0_t1 : Fin (k0_t1_loop i).trips) : Fin 2 → Nat :=
  let c112_1013 : Index := 112#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1752 : Index := Scalar.indexCast v1661
  ![112, v1752.toNat]
def k0_off10 (i : grid0.Coords) (k0_t1 : Fin (k0_t1_loop i).trips) : Fin 2 → Nat :=
  let c128_1017 : Index := 128#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1763 : Index := Scalar.indexCast v1661
  ![128, v1763.toNat]
def k0_off11 (i : grid0.Coords) (k0_t1 : Fin (k0_t1_loop i).trips) : Fin 2 → Nat :=
  let c144_1021 : Index := 144#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1774 : Index := Scalar.indexCast v1661
  ![144, v1774.toNat]
def k0_off12 (i : grid0.Coords) (k0_t1 : Fin (k0_t1_loop i).trips) : Fin 2 → Nat :=
  let c160_1025 : Index := 160#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1785 : Index := Scalar.indexCast v1661
  ![160, v1785.toNat]
def k0_off13 (i : grid0.Coords) (k0_t1 : Fin (k0_t1_loop i).trips) : Fin 2 → Nat :=
  let c176_1029 : Index := 176#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1796 : Index := Scalar.indexCast v1661
  ![176, v1796.toNat]
def k0_off14 (i : grid0.Coords) (k0_t1 : Fin (k0_t1_loop i).trips) : Fin 2 → Nat :=
  let c192_1033 : Index := 192#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1807 : Index := Scalar.indexCast v1661
  ![192, v1807.toNat]
def k0_off15 (i : grid0.Coords) (k0_t1 : Fin (k0_t1_loop i).trips) : Fin 2 → Nat :=
  let c208_1037 : Index := 208#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1818 : Index := Scalar.indexCast v1661
  ![208, v1818.toNat]
def k0_off16 (i : grid0.Coords) (k0_t1 : Fin (k0_t1_loop i).trips) : Fin 2 → Nat :=
  let c224_1041 : Index := 224#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1829 : Index := Scalar.indexCast v1661
  ![224, v1829.toNat]
def k0_off17 (i : grid0.Coords) (k0_t1 : Fin (k0_t1_loop i).trips) : Fin 2 → Nat :=
  let c240_1045 : Index := 240#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1840 : Index := Scalar.indexCast v1661
  ![240, v1840.toNat]
def k0_off18 (i : grid0.Coords) (k0_t1 : Fin (k0_t1_loop i).trips) : Fin 2 → Nat :=
  let c256_1054 : Index := 256#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1854 : Index := Scalar.indexCast v1661
  ![256, v1854.toNat]
def k0_off19 (i : grid0.Coords) (k0_t1 : Fin (k0_t1_loop i).trips) : Fin 2 → Nat :=
  let c272_1058 : Index := 272#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1865 : Index := Scalar.indexCast v1661
  ![272, v1865.toNat]
def k0_off20 (i : grid0.Coords) (k0_t1 : Fin (k0_t1_loop i).trips) : Fin 2 → Nat :=
  let c288_1062 : Index := 288#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1876 : Index := Scalar.indexCast v1661
  ![288, v1876.toNat]
def k0_off21 (i : grid0.Coords) (k0_t1 : Fin (k0_t1_loop i).trips) : Fin 2 → Nat :=
  let c304_1066 : Index := 304#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1887 : Index := Scalar.indexCast v1661
  ![304, v1887.toNat]
def k0_off22 (i : grid0.Coords) (k0_t1 : Fin (k0_t1_loop i).trips) : Fin 2 → Nat :=
  let c320_1070 : Index := 320#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1898 : Index := Scalar.indexCast v1661
  ![320, v1898.toNat]
def k0_off23 (i : grid0.Coords) (k0_t1 : Fin (k0_t1_loop i).trips) : Fin 2 → Nat :=
  let c336_1074 : Index := 336#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1909 : Index := Scalar.indexCast v1661
  ![336, v1909.toNat]
def k0_off24 (i : grid0.Coords) (k0_t1 : Fin (k0_t1_loop i).trips) : Fin 2 → Nat :=
  let c352_1078 : Index := 352#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1920 : Index := Scalar.indexCast v1661
  ![352, v1920.toNat]
def k0_off25 (i : grid0.Coords) (k0_t1 : Fin (k0_t1_loop i).trips) : Fin 2 → Nat :=
  let c368_1082 : Index := 368#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1931 : Index := Scalar.indexCast v1661
  ![368, v1931.toNat]
def k0_off26 (i : grid0.Coords) (k0_t1 : Fin (k0_t1_loop i).trips) : Fin 2 → Nat :=
  let c384_1086 : Index := 384#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1942 : Index := Scalar.indexCast v1661
  ![384, v1942.toNat]
def k0_off27 (i : grid0.Coords) (k0_t1 : Fin (k0_t1_loop i).trips) : Fin 2 → Nat :=
  let c400_1090 : Index := 400#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1953 : Index := Scalar.indexCast v1661
  ![400, v1953.toNat]
def k0_off28 (i : grid0.Coords) (k0_t1 : Fin (k0_t1_loop i).trips) : Fin 2 → Nat :=
  let c416_1094 : Index := 416#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1964 : Index := Scalar.indexCast v1661
  ![416, v1964.toNat]
def k0_off29 (i : grid0.Coords) (k0_t1 : Fin (k0_t1_loop i).trips) : Fin 2 → Nat :=
  let c432_1098 : Index := 432#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1975 : Index := Scalar.indexCast v1661
  ![432, v1975.toNat]
def k0_off30 (i : grid0.Coords) (k0_t1 : Fin (k0_t1_loop i).trips) : Fin 2 → Nat :=
  let c448_1102 : Index := 448#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1986 : Index := Scalar.indexCast v1661
  ![448, v1986.toNat]
def k0_off31 (i : grid0.Coords) (k0_t1 : Fin (k0_t1_loop i).trips) : Fin 2 → Nat :=
  let c464_1106 : Index := 464#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v1997 : Index := Scalar.indexCast v1661
  ![464, v1997.toNat]
def k0_off32 (i : grid0.Coords) (k0_t1 : Fin (k0_t1_loop i).trips) : Fin 2 → Nat :=
  let c480_1110 : Index := 480#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v2008 : Index := Scalar.indexCast v1661
  ![480, v2008.toNat]
def k0_off33 (i : grid0.Coords) (k0_t1 : Fin (k0_t1_loop i).trips) : Fin 2 → Nat :=
  let c496_1114 : Index := 496#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v2019 : Index := Scalar.indexCast v1661
  ![496, v2019.toNat]
def k0_off34 (i : grid0.Coords) (k0_t1 : Fin (k0_t1_loop i).trips) : Fin 2 → Nat :=
  let c512_1123 : Index := 512#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v2033 : Index := Scalar.indexCast v1661
  ![512, v2033.toNat]
def k0_off35 (i : grid0.Coords) (k0_t1 : Fin (k0_t1_loop i).trips) : Fin 2 → Nat :=
  let c528_1127 : Index := 528#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v2044 : Index := Scalar.indexCast v1661
  ![528, v2044.toNat]
def k0_off36 (i : grid0.Coords) (k0_t1 : Fin (k0_t1_loop i).trips) : Fin 2 → Nat :=
  let c544_1131 : Index := 544#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v2055 : Index := Scalar.indexCast v1661
  ![544, v2055.toNat]
def k0_off37 (i : grid0.Coords) (k0_t1 : Fin (k0_t1_loop i).trips) : Fin 2 → Nat :=
  let c560_1135 : Index := 560#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v2066 : Index := Scalar.indexCast v1661
  ![560, v2066.toNat]
def k0_off38 (i : grid0.Coords) (k0_t1 : Fin (k0_t1_loop i).trips) : Fin 2 → Nat :=
  let c576_1139 : Index := 576#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v2077 : Index := Scalar.indexCast v1661
  ![576, v2077.toNat]
def k0_off39 (i : grid0.Coords) (k0_t1 : Fin (k0_t1_loop i).trips) : Fin 2 → Nat :=
  let c592_1143 : Index := 592#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v2088 : Index := Scalar.indexCast v1661
  ![592, v2088.toNat]
def k0_off40 (i : grid0.Coords) (k0_t1 : Fin (k0_t1_loop i).trips) : Fin 2 → Nat :=
  let c608_1147 : Index := 608#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v2099 : Index := Scalar.indexCast v1661
  ![608, v2099.toNat]
def k0_off41 (i : grid0.Coords) (k0_t1 : Fin (k0_t1_loop i).trips) : Fin 2 → Nat :=
  let c624_1151 : Index := 624#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v2110 : Index := Scalar.indexCast v1661
  ![624, v2110.toNat]
def k0_off42 (i : grid0.Coords) (k0_t1 : Fin (k0_t1_loop i).trips) : Fin 2 → Nat :=
  let c640_1155 : Index := 640#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v2121 : Index := Scalar.indexCast v1661
  ![640, v2121.toNat]
def k0_off43 (i : grid0.Coords) (k0_t1 : Fin (k0_t1_loop i).trips) : Fin 2 → Nat :=
  let c656_1159 : Index := 656#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v2132 : Index := Scalar.indexCast v1661
  ![656, v2132.toNat]
def k0_off44 (i : grid0.Coords) (k0_t1 : Fin (k0_t1_loop i).trips) : Fin 2 → Nat :=
  let c672_1163 : Index := 672#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v2143 : Index := Scalar.indexCast v1661
  ![672, v2143.toNat]
def k0_off45 (i : grid0.Coords) (k0_t1 : Fin (k0_t1_loop i).trips) : Fin 2 → Nat :=
  let c688_1167 : Index := 688#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v2154 : Index := Scalar.indexCast v1661
  ![688, v2154.toNat]
def k0_off46 (i : grid0.Coords) (k0_t1 : Fin (k0_t1_loop i).trips) : Fin 2 → Nat :=
  let c704_1171 : Index := 704#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v2165 : Index := Scalar.indexCast v1661
  ![704, v2165.toNat]
def k0_off47 (i : grid0.Coords) (k0_t1 : Fin (k0_t1_loop i).trips) : Fin 2 → Nat :=
  let c720_1175 : Index := 720#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v2176 : Index := Scalar.indexCast v1661
  ![720, v2176.toNat]
def k0_off48 (i : grid0.Coords) (k0_t1 : Fin (k0_t1_loop i).trips) : Fin 2 → Nat :=
  let c736_1179 : Index := 736#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v2187 : Index := Scalar.indexCast v1661
  ![736, v2187.toNat]
def k0_off49 (i : grid0.Coords) (k0_t1 : Fin (k0_t1_loop i).trips) : Fin 2 → Nat :=
  let c752_1183 : Index := 752#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v2198 : Index := Scalar.indexCast v1661
  ![752, v2198.toNat]
def k0_off50 (i : grid0.Coords) (k0_t1 : Fin (k0_t1_loop i).trips) : Fin 3 → Nat :=
  let c0_1186 : Index := 0#32
  let c0_1187 : Index := 0#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v2206 : Index := Scalar.indexCast v1661
  ![0, 0, v2206.toNat]
def k0_off51 (i : grid0.Coords) (k0_t1 : Fin (k0_t1_loop i).trips) : Fin 2 → Nat :=
  let c0_1189 : Index := 0#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v2213 : Index := Scalar.indexCast v1661
  ![0, v2213.toNat]
def k0_off52 (i : grid0.Coords) (k0_t1 : Fin (k0_t1_loop i).trips) : Fin 3 → Nat :=
  let c0_1190 : Index := 0#32
  let c0_1191 : Index := 0#32
  let c0_i32_507 : BitVec 32 := 0#32
  let c1_i32_509 : BitVec 32 := 1#32
  let arg29 : BitVec 32 := Scf.iv c0_i32_507 c1_i32_509 k0_t1
  let c512_i32_975 : BitVec 32 := 512#32
  let v1660 : BitVec 32 := Scalar.muli arg29 c512_i32_975
  let v1661 : BitVec 32 := v1660
  let v2217 : Index := Scalar.indexCast v1661
  ![0, 0, v2217.toNat]
@[reducible] def k0_t2_loop (i : grid0.Coords) : Scf.Loop 32 :=
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let v1031 : BitVec 32 := Scalar.addi c0_i32_507 v1030
  let c1_i32_510 : BitVec 32 := 1#32
  ⟨v1034, v1031, c1_i32_510⟩
def k0_mult2 (i : grid0.Coords) (k0_t2 : Fin (k0_t2_loop i).trips) : BitVec 32 :=
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  v1660
def k0_off53 (i : grid0.Coords) (k0_t2 : Fin (k0_t2_loop i).trips) : Fin 3 → Nat :=
  let c0_976 : Index := 0#32
  let c0_977 : Index := 0#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1665 : Index := Scalar.indexCast v1661
  ![0, 0, v1665.toNat]
def k0_off54 (i : grid0.Coords) (k0_t2 : Fin (k0_t2_loop i).trips) : Fin 2 → Nat :=
  let c0_985 : Index := 0#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1675 : Index := Scalar.indexCast v1661
  ![0, v1675.toNat]
def k0_off55 (i : grid0.Coords) (k0_t2 : Fin (k0_t2_loop i).trips) : Fin 2 → Nat :=
  let c16_989 : Index := 16#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1686 : Index := Scalar.indexCast v1661
  ![16, v1686.toNat]
def k0_off56 (i : grid0.Coords) (k0_t2 : Fin (k0_t2_loop i).trips) : Fin 2 → Nat :=
  let c32_993 : Index := 32#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1697 : Index := Scalar.indexCast v1661
  ![32, v1697.toNat]
def k0_off57 (i : grid0.Coords) (k0_t2 : Fin (k0_t2_loop i).trips) : Fin 2 → Nat :=
  let c48_997 : Index := 48#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1708 : Index := Scalar.indexCast v1661
  ![48, v1708.toNat]
def k0_off58 (i : grid0.Coords) (k0_t2 : Fin (k0_t2_loop i).trips) : Fin 2 → Nat :=
  let c64_1001 : Index := 64#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1719 : Index := Scalar.indexCast v1661
  ![64, v1719.toNat]
def k0_off59 (i : grid0.Coords) (k0_t2 : Fin (k0_t2_loop i).trips) : Fin 2 → Nat :=
  let c80_1005 : Index := 80#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1730 : Index := Scalar.indexCast v1661
  ![80, v1730.toNat]
def k0_off60 (i : grid0.Coords) (k0_t2 : Fin (k0_t2_loop i).trips) : Fin 2 → Nat :=
  let c96_1009 : Index := 96#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1741 : Index := Scalar.indexCast v1661
  ![96, v1741.toNat]
def k0_off61 (i : grid0.Coords) (k0_t2 : Fin (k0_t2_loop i).trips) : Fin 2 → Nat :=
  let c112_1013 : Index := 112#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1752 : Index := Scalar.indexCast v1661
  ![112, v1752.toNat]
def k0_off62 (i : grid0.Coords) (k0_t2 : Fin (k0_t2_loop i).trips) : Fin 2 → Nat :=
  let c128_1017 : Index := 128#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1763 : Index := Scalar.indexCast v1661
  ![128, v1763.toNat]
def k0_off63 (i : grid0.Coords) (k0_t2 : Fin (k0_t2_loop i).trips) : Fin 2 → Nat :=
  let c144_1021 : Index := 144#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1774 : Index := Scalar.indexCast v1661
  ![144, v1774.toNat]
def k0_off64 (i : grid0.Coords) (k0_t2 : Fin (k0_t2_loop i).trips) : Fin 2 → Nat :=
  let c160_1025 : Index := 160#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1785 : Index := Scalar.indexCast v1661
  ![160, v1785.toNat]
def k0_off65 (i : grid0.Coords) (k0_t2 : Fin (k0_t2_loop i).trips) : Fin 2 → Nat :=
  let c176_1029 : Index := 176#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1796 : Index := Scalar.indexCast v1661
  ![176, v1796.toNat]
def k0_off66 (i : grid0.Coords) (k0_t2 : Fin (k0_t2_loop i).trips) : Fin 2 → Nat :=
  let c192_1033 : Index := 192#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1807 : Index := Scalar.indexCast v1661
  ![192, v1807.toNat]
def k0_off67 (i : grid0.Coords) (k0_t2 : Fin (k0_t2_loop i).trips) : Fin 2 → Nat :=
  let c208_1037 : Index := 208#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1818 : Index := Scalar.indexCast v1661
  ![208, v1818.toNat]
def k0_off68 (i : grid0.Coords) (k0_t2 : Fin (k0_t2_loop i).trips) : Fin 2 → Nat :=
  let c224_1041 : Index := 224#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1829 : Index := Scalar.indexCast v1661
  ![224, v1829.toNat]
def k0_off69 (i : grid0.Coords) (k0_t2 : Fin (k0_t2_loop i).trips) : Fin 2 → Nat :=
  let c240_1045 : Index := 240#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1840 : Index := Scalar.indexCast v1661
  ![240, v1840.toNat]
def k0_off70 (i : grid0.Coords) (k0_t2 : Fin (k0_t2_loop i).trips) : Fin 2 → Nat :=
  let c256_1054 : Index := 256#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1854 : Index := Scalar.indexCast v1661
  ![256, v1854.toNat]
def k0_off71 (i : grid0.Coords) (k0_t2 : Fin (k0_t2_loop i).trips) : Fin 2 → Nat :=
  let c272_1058 : Index := 272#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1865 : Index := Scalar.indexCast v1661
  ![272, v1865.toNat]
def k0_off72 (i : grid0.Coords) (k0_t2 : Fin (k0_t2_loop i).trips) : Fin 2 → Nat :=
  let c288_1062 : Index := 288#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1876 : Index := Scalar.indexCast v1661
  ![288, v1876.toNat]
def k0_off73 (i : grid0.Coords) (k0_t2 : Fin (k0_t2_loop i).trips) : Fin 2 → Nat :=
  let c304_1066 : Index := 304#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1887 : Index := Scalar.indexCast v1661
  ![304, v1887.toNat]
def k0_off74 (i : grid0.Coords) (k0_t2 : Fin (k0_t2_loop i).trips) : Fin 2 → Nat :=
  let c320_1070 : Index := 320#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1898 : Index := Scalar.indexCast v1661
  ![320, v1898.toNat]
def k0_off75 (i : grid0.Coords) (k0_t2 : Fin (k0_t2_loop i).trips) : Fin 2 → Nat :=
  let c336_1074 : Index := 336#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1909 : Index := Scalar.indexCast v1661
  ![336, v1909.toNat]
def k0_off76 (i : grid0.Coords) (k0_t2 : Fin (k0_t2_loop i).trips) : Fin 2 → Nat :=
  let c352_1078 : Index := 352#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1920 : Index := Scalar.indexCast v1661
  ![352, v1920.toNat]
def k0_off77 (i : grid0.Coords) (k0_t2 : Fin (k0_t2_loop i).trips) : Fin 2 → Nat :=
  let c368_1082 : Index := 368#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1931 : Index := Scalar.indexCast v1661
  ![368, v1931.toNat]
def k0_off78 (i : grid0.Coords) (k0_t2 : Fin (k0_t2_loop i).trips) : Fin 2 → Nat :=
  let c384_1086 : Index := 384#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1942 : Index := Scalar.indexCast v1661
  ![384, v1942.toNat]
def k0_off79 (i : grid0.Coords) (k0_t2 : Fin (k0_t2_loop i).trips) : Fin 2 → Nat :=
  let c400_1090 : Index := 400#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1953 : Index := Scalar.indexCast v1661
  ![400, v1953.toNat]
def k0_off80 (i : grid0.Coords) (k0_t2 : Fin (k0_t2_loop i).trips) : Fin 2 → Nat :=
  let c416_1094 : Index := 416#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1964 : Index := Scalar.indexCast v1661
  ![416, v1964.toNat]
def k0_off81 (i : grid0.Coords) (k0_t2 : Fin (k0_t2_loop i).trips) : Fin 2 → Nat :=
  let c432_1098 : Index := 432#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1975 : Index := Scalar.indexCast v1661
  ![432, v1975.toNat]
def k0_off82 (i : grid0.Coords) (k0_t2 : Fin (k0_t2_loop i).trips) : Fin 2 → Nat :=
  let c448_1102 : Index := 448#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1986 : Index := Scalar.indexCast v1661
  ![448, v1986.toNat]
def k0_off83 (i : grid0.Coords) (k0_t2 : Fin (k0_t2_loop i).trips) : Fin 2 → Nat :=
  let c464_1106 : Index := 464#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v1997 : Index := Scalar.indexCast v1661
  ![464, v1997.toNat]
def k0_off84 (i : grid0.Coords) (k0_t2 : Fin (k0_t2_loop i).trips) : Fin 2 → Nat :=
  let c480_1110 : Index := 480#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v2008 : Index := Scalar.indexCast v1661
  ![480, v2008.toNat]
def k0_off85 (i : grid0.Coords) (k0_t2 : Fin (k0_t2_loop i).trips) : Fin 2 → Nat :=
  let c496_1114 : Index := 496#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v2019 : Index := Scalar.indexCast v1661
  ![496, v2019.toNat]
def k0_off86 (i : grid0.Coords) (k0_t2 : Fin (k0_t2_loop i).trips) : Fin 2 → Nat :=
  let c512_1123 : Index := 512#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v2033 : Index := Scalar.indexCast v1661
  ![512, v2033.toNat]
def k0_off87 (i : grid0.Coords) (k0_t2 : Fin (k0_t2_loop i).trips) : Fin 2 → Nat :=
  let c528_1127 : Index := 528#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v2044 : Index := Scalar.indexCast v1661
  ![528, v2044.toNat]
def k0_off88 (i : grid0.Coords) (k0_t2 : Fin (k0_t2_loop i).trips) : Fin 2 → Nat :=
  let c544_1131 : Index := 544#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v2055 : Index := Scalar.indexCast v1661
  ![544, v2055.toNat]
def k0_off89 (i : grid0.Coords) (k0_t2 : Fin (k0_t2_loop i).trips) : Fin 2 → Nat :=
  let c560_1135 : Index := 560#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v2066 : Index := Scalar.indexCast v1661
  ![560, v2066.toNat]
def k0_off90 (i : grid0.Coords) (k0_t2 : Fin (k0_t2_loop i).trips) : Fin 2 → Nat :=
  let c576_1139 : Index := 576#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v2077 : Index := Scalar.indexCast v1661
  ![576, v2077.toNat]
def k0_off91 (i : grid0.Coords) (k0_t2 : Fin (k0_t2_loop i).trips) : Fin 2 → Nat :=
  let c592_1143 : Index := 592#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v2088 : Index := Scalar.indexCast v1661
  ![592, v2088.toNat]
def k0_off92 (i : grid0.Coords) (k0_t2 : Fin (k0_t2_loop i).trips) : Fin 2 → Nat :=
  let c608_1147 : Index := 608#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v2099 : Index := Scalar.indexCast v1661
  ![608, v2099.toNat]
def k0_off93 (i : grid0.Coords) (k0_t2 : Fin (k0_t2_loop i).trips) : Fin 2 → Nat :=
  let c624_1151 : Index := 624#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v2110 : Index := Scalar.indexCast v1661
  ![624, v2110.toNat]
def k0_off94 (i : grid0.Coords) (k0_t2 : Fin (k0_t2_loop i).trips) : Fin 2 → Nat :=
  let c640_1155 : Index := 640#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v2121 : Index := Scalar.indexCast v1661
  ![640, v2121.toNat]
def k0_off95 (i : grid0.Coords) (k0_t2 : Fin (k0_t2_loop i).trips) : Fin 2 → Nat :=
  let c656_1159 : Index := 656#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v2132 : Index := Scalar.indexCast v1661
  ![656, v2132.toNat]
def k0_off96 (i : grid0.Coords) (k0_t2 : Fin (k0_t2_loop i).trips) : Fin 2 → Nat :=
  let c672_1163 : Index := 672#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v2143 : Index := Scalar.indexCast v1661
  ![672, v2143.toNat]
def k0_off97 (i : grid0.Coords) (k0_t2 : Fin (k0_t2_loop i).trips) : Fin 2 → Nat :=
  let c688_1167 : Index := 688#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v2154 : Index := Scalar.indexCast v1661
  ![688, v2154.toNat]
def k0_off98 (i : grid0.Coords) (k0_t2 : Fin (k0_t2_loop i).trips) : Fin 2 → Nat :=
  let c704_1171 : Index := 704#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v2165 : Index := Scalar.indexCast v1661
  ![704, v2165.toNat]
def k0_off99 (i : grid0.Coords) (k0_t2 : Fin (k0_t2_loop i).trips) : Fin 2 → Nat :=
  let c720_1175 : Index := 720#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v2176 : Index := Scalar.indexCast v1661
  ![720, v2176.toNat]
def k0_off100 (i : grid0.Coords) (k0_t2 : Fin (k0_t2_loop i).trips) : Fin 2 → Nat :=
  let c736_1179 : Index := 736#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v2187 : Index := Scalar.indexCast v1661
  ![736, v2187.toNat]
def k0_off101 (i : grid0.Coords) (k0_t2 : Fin (k0_t2_loop i).trips) : Fin 2 → Nat :=
  let c752_1183 : Index := 752#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v2198 : Index := Scalar.indexCast v1661
  ![752, v2198.toNat]
def k0_off102 (i : grid0.Coords) (k0_t2 : Fin (k0_t2_loop i).trips) : Fin 3 → Nat :=
  let c0_1186 : Index := 0#32
  let c0_1187 : Index := 0#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v2206 : Index := Scalar.indexCast v1661
  ![0, 0, v2206.toNat]
def k0_off103 (i : grid0.Coords) (k0_t2 : Fin (k0_t2_loop i).trips) : Fin 2 → Nat :=
  let c0_1189 : Index := 0#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v2213 : Index := Scalar.indexCast v1661
  ![0, v2213.toNat]
def k0_off104 (i : grid0.Coords) (k0_t2 : Fin (k0_t2_loop i).trips) : Fin 3 → Nat :=
  let c0_1190 : Index := 0#32
  let c0_1191 : Index := 0#32
  let c0_i32_507 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1030 : BitVec 32 := Scalar.subi v18 c0_i32_507
  let c1_i32_508 : BitVec 32 := 1#32
  let v1032 : BitVec 32 := Scalar.divsi v1030 c1_i32_508
  let v1033 : BitVec 32 := Scalar.muli v1032 c1_i32_508
  let v1034 : BitVec 32 := Scalar.addi c0_i32_507 v1033
  let c1_i32_510 : BitVec 32 := 1#32
  let arg29 : BitVec 32 := Scf.iv v1034 c1_i32_510 k0_t2
  let c512_i32_975 : BitVec 32 := 512#32
  let v1660 : BitVec 32 := Scalar.muli arg29 c512_i32_975
  let v1661 : BitVec 32 := v1660
  let v2217 : Index := Scalar.indexCast v1661
  ![0, 0, v2217.toNat]
@[reducible] def k0_t3_loop (i : grid0.Coords) : Scf.Loop 32 :=
  let c0_i32_513 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1042 : BitVec 32 := Scalar.subi v18 c0_i32_513
  let c1_i32_514 : BitVec 32 := 1#32
  let v1044 : BitVec 32 := Scalar.divsi v1042 c1_i32_514
  let v1045 : BitVec 32 := Scalar.muli v1044 c1_i32_514
  let v1046 : BitVec 32 := Scalar.addi c0_i32_513 v1045
  let c1_i32_515 : BitVec 32 := 1#32
  ⟨c0_i32_513, v1046, c1_i32_515⟩
def k0_mult3 (i : grid0.Coords) (k0_t3 : Fin (k0_t3_loop i).trips) : BitVec 32 :=
  let c0_i32_513 : BitVec 32 := 0#32
  let c1_i32_515 : BitVec 32 := 1#32
  let arg29 : BitVec 32 := Scf.iv c0_i32_513 c1_i32_515 k0_t3
  let c512_i32_975 : BitVec 32 := 512#32
  let v1660 : BitVec 32 := Scalar.muli arg29 c512_i32_975
  v1660
def k0_off105 (i : grid0.Coords) (k0_t3 : Fin (k0_t3_loop i).trips) : Fin 2 → Nat :=
  let c0_976 : Index := 0#32
  let c0_i32_513 : BitVec 32 := 0#32
  let c1_i32_515 : BitVec 32 := 1#32
  let arg29 : BitVec 32 := Scf.iv c0_i32_513 c1_i32_515 k0_t3
  let c512_i32_975 : BitVec 32 := 512#32
  let v1660 : BitVec 32 := Scalar.muli arg29 c512_i32_975
  let v1661 : BitVec 32 := v1660
  let v1662 : Index := Scalar.indexCast v1661
  ![0, v1662.toNat]
@[reducible] def k0_t4_loop (i : grid0.Coords) : Scf.Loop 32 :=
  let c0_i32_513 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1042 : BitVec 32 := Scalar.subi v18 c0_i32_513
  let c1_i32_514 : BitVec 32 := 1#32
  let v1044 : BitVec 32 := Scalar.divsi v1042 c1_i32_514
  let v1045 : BitVec 32 := Scalar.muli v1044 c1_i32_514
  let v1046 : BitVec 32 := Scalar.addi c0_i32_513 v1045
  let v1043 : BitVec 32 := Scalar.addi c0_i32_513 v1042
  let c1_i32_516 : BitVec 32 := 1#32
  ⟨v1046, v1043, c1_i32_516⟩
def k0_mult4 (i : grid0.Coords) (k0_t4 : Fin (k0_t4_loop i).trips) : BitVec 32 :=
  let c0_i32_513 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1042 : BitVec 32 := Scalar.subi v18 c0_i32_513
  let c1_i32_514 : BitVec 32 := 1#32
  let v1044 : BitVec 32 := Scalar.divsi v1042 c1_i32_514
  let v1045 : BitVec 32 := Scalar.muli v1044 c1_i32_514
  let v1046 : BitVec 32 := Scalar.addi c0_i32_513 v1045
  let c1_i32_516 : BitVec 32 := 1#32
  let arg29 : BitVec 32 := Scf.iv v1046 c1_i32_516 k0_t4
  let c512_i32_975 : BitVec 32 := 512#32
  let v1660 : BitVec 32 := Scalar.muli arg29 c512_i32_975
  v1660
def k0_off106 (i : grid0.Coords) (k0_t4 : Fin (k0_t4_loop i).trips) : Fin 2 → Nat :=
  let c0_976 : Index := 0#32
  let c0_i32_513 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1042 : BitVec 32 := Scalar.subi v18 c0_i32_513
  let c1_i32_514 : BitVec 32 := 1#32
  let v1044 : BitVec 32 := Scalar.divsi v1042 c1_i32_514
  let v1045 : BitVec 32 := Scalar.muli v1044 c1_i32_514
  let v1046 : BitVec 32 := Scalar.addi c0_i32_513 v1045
  let c1_i32_516 : BitVec 32 := 1#32
  let arg29 : BitVec 32 := Scf.iv v1046 c1_i32_516 k0_t4
  let c512_i32_975 : BitVec 32 := 512#32
  let v1660 : BitVec 32 := Scalar.muli arg29 c512_i32_975
  let v1661 : BitVec 32 := v1660
  let v1662 : Index := Scalar.indexCast v1661
  ![0, v1662.toNat]
@[reducible] def k0_t5_loop (i : grid0.Coords) : Scf.Loop 32 :=
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_527 : BitVec 32 := 1#32
  ⟨c0_i32_525, v1068, c1_i32_527⟩
def k0_mult5 (i : grid0.Coords) (k0_t5 : Fin (k0_t5_loop i).trips) : BitVec 32 :=
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  v1660
def k0_off107 (i : grid0.Coords) (k0_t5 : Fin (k0_t5_loop i).trips) : Fin 2 → Nat :=
  let c0_976 : Index := 0#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v1665 : Index := Scalar.indexCast v1661
  ![0, v1665.toNat]
def k0_off108 (i : grid0.Coords) (k0_t5 : Fin (k0_t5_loop i).trips) : Fin 3 → Nat :=
  let c0_980 : Index := 0#32
  let c0_981 : Index := 0#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v1688 : Index := Scalar.indexCast v1661
  ![0, 0, v1688.toNat]
def k0_off109 (i : grid0.Coords) (k0_t5 : Fin (k0_t5_loop i).trips) : Fin 3 → Nat :=
  let c0_982 : Index := 0#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v1693 : Index := Scalar.indexCast v1661
  let c0_983 : Index := 0#32
  ![0, v1693.toNat, 0]
def k0_off110 (i : grid0.Coords) (k0_t5 : Fin (k0_t5_loop i).trips) : Fin 3 → Nat :=
  let c0_984 : Index := 0#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v1697 : Index := Scalar.indexCast v1661
  let c0_985 : Index := 0#32
  ![0, v1697.toNat, 0]
def k0_off111 (i : grid0.Coords) (k0_t5 : Fin (k0_t5_loop i).trips) : Fin 3 → Nat :=
  let c0_986 : Index := 0#32
  let c0_987 : Index := 0#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v1703 : Index := Scalar.indexCast v1661
  ![0, 0, v1703.toNat]
def k0_off112 (i : grid0.Coords) (k0_t5 : Fin (k0_t5_loop i).trips) : Fin 2 → Nat :=
  let c0_988 : Index := 0#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v1706 : Index := Scalar.indexCast v1661
  ![0, v1706.toNat]
def k0_off113 (i : grid0.Coords) (k0_t5 : Fin (k0_t5_loop i).trips) : Fin 2 → Nat :=
  let c16_997 : Index := 16#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v1729 : Index := Scalar.indexCast v1661
  ![16, v1729.toNat]
def k0_off114 (i : grid0.Coords) (k0_t5 : Fin (k0_t5_loop i).trips) : Fin 2 → Nat :=
  let c32_1006 : Index := 32#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v1752 : Index := Scalar.indexCast v1661
  ![32, v1752.toNat]
def k0_off115 (i : grid0.Coords) (k0_t5 : Fin (k0_t5_loop i).trips) : Fin 2 → Nat :=
  let c48_1015 : Index := 48#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v1775 : Index := Scalar.indexCast v1661
  ![48, v1775.toNat]
def k0_off116 (i : grid0.Coords) (k0_t5 : Fin (k0_t5_loop i).trips) : Fin 2 → Nat :=
  let c64_1024 : Index := 64#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v1798 : Index := Scalar.indexCast v1661
  ![64, v1798.toNat]
def k0_off117 (i : grid0.Coords) (k0_t5 : Fin (k0_t5_loop i).trips) : Fin 2 → Nat :=
  let c80_1033 : Index := 80#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v1821 : Index := Scalar.indexCast v1661
  ![80, v1821.toNat]
def k0_off118 (i : grid0.Coords) (k0_t5 : Fin (k0_t5_loop i).trips) : Fin 2 → Nat :=
  let c96_1042 : Index := 96#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v1844 : Index := Scalar.indexCast v1661
  ![96, v1844.toNat]
def k0_off119 (i : grid0.Coords) (k0_t5 : Fin (k0_t5_loop i).trips) : Fin 2 → Nat :=
  let c112_1051 : Index := 112#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v1867 : Index := Scalar.indexCast v1661
  ![112, v1867.toNat]
def k0_off120 (i : grid0.Coords) (k0_t5 : Fin (k0_t5_loop i).trips) : Fin 2 → Nat :=
  let c128_1060 : Index := 128#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v1890 : Index := Scalar.indexCast v1661
  ![128, v1890.toNat]
def k0_off121 (i : grid0.Coords) (k0_t5 : Fin (k0_t5_loop i).trips) : Fin 2 → Nat :=
  let c144_1069 : Index := 144#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v1913 : Index := Scalar.indexCast v1661
  ![144, v1913.toNat]
def k0_off122 (i : grid0.Coords) (k0_t5 : Fin (k0_t5_loop i).trips) : Fin 2 → Nat :=
  let c160_1078 : Index := 160#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v1936 : Index := Scalar.indexCast v1661
  ![160, v1936.toNat]
def k0_off123 (i : grid0.Coords) (k0_t5 : Fin (k0_t5_loop i).trips) : Fin 2 → Nat :=
  let c176_1087 : Index := 176#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v1959 : Index := Scalar.indexCast v1661
  ![176, v1959.toNat]
def k0_off124 (i : grid0.Coords) (k0_t5 : Fin (k0_t5_loop i).trips) : Fin 2 → Nat :=
  let c192_1096 : Index := 192#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v1982 : Index := Scalar.indexCast v1661
  ![192, v1982.toNat]
def k0_off125 (i : grid0.Coords) (k0_t5 : Fin (k0_t5_loop i).trips) : Fin 2 → Nat :=
  let c208_1105 : Index := 208#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2005 : Index := Scalar.indexCast v1661
  ![208, v2005.toNat]
def k0_off126 (i : grid0.Coords) (k0_t5 : Fin (k0_t5_loop i).trips) : Fin 2 → Nat :=
  let c224_1114 : Index := 224#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2028 : Index := Scalar.indexCast v1661
  ![224, v2028.toNat]
def k0_off127 (i : grid0.Coords) (k0_t5 : Fin (k0_t5_loop i).trips) : Fin 2 → Nat :=
  let c240_1123 : Index := 240#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2051 : Index := Scalar.indexCast v1661
  ![240, v2051.toNat]
def k0_off128 (i : grid0.Coords) (k0_t5 : Fin (k0_t5_loop i).trips) : Fin 2 → Nat :=
  let c256_1140 : Index := 256#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2084 : Index := Scalar.indexCast v1661
  ![256, v2084.toNat]
def k0_off129 (i : grid0.Coords) (k0_t5 : Fin (k0_t5_loop i).trips) : Fin 2 → Nat :=
  let c272_1149 : Index := 272#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2107 : Index := Scalar.indexCast v1661
  ![272, v2107.toNat]
def k0_off130 (i : grid0.Coords) (k0_t5 : Fin (k0_t5_loop i).trips) : Fin 2 → Nat :=
  let c288_1158 : Index := 288#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2130 : Index := Scalar.indexCast v1661
  ![288, v2130.toNat]
def k0_off131 (i : grid0.Coords) (k0_t5 : Fin (k0_t5_loop i).trips) : Fin 2 → Nat :=
  let c304_1167 : Index := 304#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2153 : Index := Scalar.indexCast v1661
  ![304, v2153.toNat]
def k0_off132 (i : grid0.Coords) (k0_t5 : Fin (k0_t5_loop i).trips) : Fin 2 → Nat :=
  let c320_1176 : Index := 320#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2176 : Index := Scalar.indexCast v1661
  ![320, v2176.toNat]
def k0_off133 (i : grid0.Coords) (k0_t5 : Fin (k0_t5_loop i).trips) : Fin 2 → Nat :=
  let c336_1185 : Index := 336#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2199 : Index := Scalar.indexCast v1661
  ![336, v2199.toNat]
def k0_off134 (i : grid0.Coords) (k0_t5 : Fin (k0_t5_loop i).trips) : Fin 2 → Nat :=
  let c352_1194 : Index := 352#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2222 : Index := Scalar.indexCast v1661
  ![352, v2222.toNat]
def k0_off135 (i : grid0.Coords) (k0_t5 : Fin (k0_t5_loop i).trips) : Fin 2 → Nat :=
  let c368_1203 : Index := 368#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2245 : Index := Scalar.indexCast v1661
  ![368, v2245.toNat]
def k0_off136 (i : grid0.Coords) (k0_t5 : Fin (k0_t5_loop i).trips) : Fin 2 → Nat :=
  let c384_1212 : Index := 384#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2268 : Index := Scalar.indexCast v1661
  ![384, v2268.toNat]
def k0_off137 (i : grid0.Coords) (k0_t5 : Fin (k0_t5_loop i).trips) : Fin 2 → Nat :=
  let c400_1221 : Index := 400#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2291 : Index := Scalar.indexCast v1661
  ![400, v2291.toNat]
def k0_off138 (i : grid0.Coords) (k0_t5 : Fin (k0_t5_loop i).trips) : Fin 2 → Nat :=
  let c416_1230 : Index := 416#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2314 : Index := Scalar.indexCast v1661
  ![416, v2314.toNat]
def k0_off139 (i : grid0.Coords) (k0_t5 : Fin (k0_t5_loop i).trips) : Fin 2 → Nat :=
  let c432_1239 : Index := 432#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2337 : Index := Scalar.indexCast v1661
  ![432, v2337.toNat]
def k0_off140 (i : grid0.Coords) (k0_t5 : Fin (k0_t5_loop i).trips) : Fin 2 → Nat :=
  let c448_1248 : Index := 448#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2360 : Index := Scalar.indexCast v1661
  ![448, v2360.toNat]
def k0_off141 (i : grid0.Coords) (k0_t5 : Fin (k0_t5_loop i).trips) : Fin 2 → Nat :=
  let c464_1257 : Index := 464#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2383 : Index := Scalar.indexCast v1661
  ![464, v2383.toNat]
def k0_off142 (i : grid0.Coords) (k0_t5 : Fin (k0_t5_loop i).trips) : Fin 2 → Nat :=
  let c480_1266 : Index := 480#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2406 : Index := Scalar.indexCast v1661
  ![480, v2406.toNat]
def k0_off143 (i : grid0.Coords) (k0_t5 : Fin (k0_t5_loop i).trips) : Fin 2 → Nat :=
  let c496_1275 : Index := 496#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2429 : Index := Scalar.indexCast v1661
  ![496, v2429.toNat]
def k0_off144 (i : grid0.Coords) (k0_t5 : Fin (k0_t5_loop i).trips) : Fin 2 → Nat :=
  let c512_1292 : Index := 512#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2462 : Index := Scalar.indexCast v1661
  ![512, v2462.toNat]
def k0_off145 (i : grid0.Coords) (k0_t5 : Fin (k0_t5_loop i).trips) : Fin 2 → Nat :=
  let c528_1301 : Index := 528#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2485 : Index := Scalar.indexCast v1661
  ![528, v2485.toNat]
def k0_off146 (i : grid0.Coords) (k0_t5 : Fin (k0_t5_loop i).trips) : Fin 2 → Nat :=
  let c544_1310 : Index := 544#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2508 : Index := Scalar.indexCast v1661
  ![544, v2508.toNat]
def k0_off147 (i : grid0.Coords) (k0_t5 : Fin (k0_t5_loop i).trips) : Fin 2 → Nat :=
  let c560_1319 : Index := 560#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2531 : Index := Scalar.indexCast v1661
  ![560, v2531.toNat]
def k0_off148 (i : grid0.Coords) (k0_t5 : Fin (k0_t5_loop i).trips) : Fin 2 → Nat :=
  let c576_1328 : Index := 576#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2554 : Index := Scalar.indexCast v1661
  ![576, v2554.toNat]
def k0_off149 (i : grid0.Coords) (k0_t5 : Fin (k0_t5_loop i).trips) : Fin 2 → Nat :=
  let c592_1337 : Index := 592#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2577 : Index := Scalar.indexCast v1661
  ![592, v2577.toNat]
def k0_off150 (i : grid0.Coords) (k0_t5 : Fin (k0_t5_loop i).trips) : Fin 2 → Nat :=
  let c608_1346 : Index := 608#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2600 : Index := Scalar.indexCast v1661
  ![608, v2600.toNat]
def k0_off151 (i : grid0.Coords) (k0_t5 : Fin (k0_t5_loop i).trips) : Fin 2 → Nat :=
  let c624_1355 : Index := 624#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2623 : Index := Scalar.indexCast v1661
  ![624, v2623.toNat]
def k0_off152 (i : grid0.Coords) (k0_t5 : Fin (k0_t5_loop i).trips) : Fin 2 → Nat :=
  let c640_1364 : Index := 640#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2646 : Index := Scalar.indexCast v1661
  ![640, v2646.toNat]
def k0_off153 (i : grid0.Coords) (k0_t5 : Fin (k0_t5_loop i).trips) : Fin 2 → Nat :=
  let c656_1373 : Index := 656#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2669 : Index := Scalar.indexCast v1661
  ![656, v2669.toNat]
def k0_off154 (i : grid0.Coords) (k0_t5 : Fin (k0_t5_loop i).trips) : Fin 2 → Nat :=
  let c672_1382 : Index := 672#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2692 : Index := Scalar.indexCast v1661
  ![672, v2692.toNat]
def k0_off155 (i : grid0.Coords) (k0_t5 : Fin (k0_t5_loop i).trips) : Fin 2 → Nat :=
  let c688_1391 : Index := 688#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2715 : Index := Scalar.indexCast v1661
  ![688, v2715.toNat]
def k0_off156 (i : grid0.Coords) (k0_t5 : Fin (k0_t5_loop i).trips) : Fin 2 → Nat :=
  let c704_1400 : Index := 704#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2738 : Index := Scalar.indexCast v1661
  ![704, v2738.toNat]
def k0_off157 (i : grid0.Coords) (k0_t5 : Fin (k0_t5_loop i).trips) : Fin 2 → Nat :=
  let c720_1409 : Index := 720#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2761 : Index := Scalar.indexCast v1661
  ![720, v2761.toNat]
def k0_off158 (i : grid0.Coords) (k0_t5 : Fin (k0_t5_loop i).trips) : Fin 2 → Nat :=
  let c736_1418 : Index := 736#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2784 : Index := Scalar.indexCast v1661
  ![736, v2784.toNat]
def k0_off159 (i : grid0.Coords) (k0_t5 : Fin (k0_t5_loop i).trips) : Fin 2 → Nat :=
  let c752_1427 : Index := 752#32
  let c0_i32_525 : BitVec 32 := 0#32
  let c1_i32_527 : BitVec 32 := 1#32
  let arg29 : BitVec 32 := Scf.iv c0_i32_525 c1_i32_527 k0_t5
  let c512_i32_975 : BitVec 32 := 512#32
  let v1660 : BitVec 32 := Scalar.muli arg29 c512_i32_975
  let v1661 : BitVec 32 := v1660
  let v2807 : Index := Scalar.indexCast v1661
  ![752, v2807.toNat]
@[reducible] def k0_t6_loop (i : grid0.Coords) : Scf.Loop 32 :=
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let v1065 : BitVec 32 := Scalar.addi c0_i32_525 v1064
  let c1_i32_528 : BitVec 32 := 1#32
  ⟨v1068, v1065, c1_i32_528⟩
def k0_mult6 (i : grid0.Coords) (k0_t6 : Fin (k0_t6_loop i).trips) : BitVec 32 :=
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  v1660
def k0_off160 (i : grid0.Coords) (k0_t6 : Fin (k0_t6_loop i).trips) : Fin 2 → Nat :=
  let c0_976 : Index := 0#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v1665 : Index := Scalar.indexCast v1661
  ![0, v1665.toNat]
def k0_off161 (i : grid0.Coords) (k0_t6 : Fin (k0_t6_loop i).trips) : Fin 3 → Nat :=
  let c0_980 : Index := 0#32
  let c0_981 : Index := 0#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v1688 : Index := Scalar.indexCast v1661
  ![0, 0, v1688.toNat]
def k0_off162 (i : grid0.Coords) (k0_t6 : Fin (k0_t6_loop i).trips) : Fin 3 → Nat :=
  let c0_982 : Index := 0#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v1693 : Index := Scalar.indexCast v1661
  let c0_983 : Index := 0#32
  ![0, v1693.toNat, 0]
def k0_off163 (i : grid0.Coords) (k0_t6 : Fin (k0_t6_loop i).trips) : Fin 3 → Nat :=
  let c0_984 : Index := 0#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v1697 : Index := Scalar.indexCast v1661
  let c0_985 : Index := 0#32
  ![0, v1697.toNat, 0]
def k0_off164 (i : grid0.Coords) (k0_t6 : Fin (k0_t6_loop i).trips) : Fin 3 → Nat :=
  let c0_986 : Index := 0#32
  let c0_987 : Index := 0#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v1703 : Index := Scalar.indexCast v1661
  ![0, 0, v1703.toNat]
def k0_off165 (i : grid0.Coords) (k0_t6 : Fin (k0_t6_loop i).trips) : Fin 2 → Nat :=
  let c0_988 : Index := 0#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v1706 : Index := Scalar.indexCast v1661
  ![0, v1706.toNat]
def k0_off166 (i : grid0.Coords) (k0_t6 : Fin (k0_t6_loop i).trips) : Fin 2 → Nat :=
  let c16_997 : Index := 16#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v1729 : Index := Scalar.indexCast v1661
  ![16, v1729.toNat]
def k0_off167 (i : grid0.Coords) (k0_t6 : Fin (k0_t6_loop i).trips) : Fin 2 → Nat :=
  let c32_1006 : Index := 32#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v1752 : Index := Scalar.indexCast v1661
  ![32, v1752.toNat]
def k0_off168 (i : grid0.Coords) (k0_t6 : Fin (k0_t6_loop i).trips) : Fin 2 → Nat :=
  let c48_1015 : Index := 48#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v1775 : Index := Scalar.indexCast v1661
  ![48, v1775.toNat]
def k0_off169 (i : grid0.Coords) (k0_t6 : Fin (k0_t6_loop i).trips) : Fin 2 → Nat :=
  let c64_1024 : Index := 64#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v1798 : Index := Scalar.indexCast v1661
  ![64, v1798.toNat]
def k0_off170 (i : grid0.Coords) (k0_t6 : Fin (k0_t6_loop i).trips) : Fin 2 → Nat :=
  let c80_1033 : Index := 80#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v1821 : Index := Scalar.indexCast v1661
  ![80, v1821.toNat]
def k0_off171 (i : grid0.Coords) (k0_t6 : Fin (k0_t6_loop i).trips) : Fin 2 → Nat :=
  let c96_1042 : Index := 96#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v1844 : Index := Scalar.indexCast v1661
  ![96, v1844.toNat]
def k0_off172 (i : grid0.Coords) (k0_t6 : Fin (k0_t6_loop i).trips) : Fin 2 → Nat :=
  let c112_1051 : Index := 112#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v1867 : Index := Scalar.indexCast v1661
  ![112, v1867.toNat]
def k0_off173 (i : grid0.Coords) (k0_t6 : Fin (k0_t6_loop i).trips) : Fin 2 → Nat :=
  let c128_1060 : Index := 128#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v1890 : Index := Scalar.indexCast v1661
  ![128, v1890.toNat]
def k0_off174 (i : grid0.Coords) (k0_t6 : Fin (k0_t6_loop i).trips) : Fin 2 → Nat :=
  let c144_1069 : Index := 144#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v1913 : Index := Scalar.indexCast v1661
  ![144, v1913.toNat]
def k0_off175 (i : grid0.Coords) (k0_t6 : Fin (k0_t6_loop i).trips) : Fin 2 → Nat :=
  let c160_1078 : Index := 160#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v1936 : Index := Scalar.indexCast v1661
  ![160, v1936.toNat]
def k0_off176 (i : grid0.Coords) (k0_t6 : Fin (k0_t6_loop i).trips) : Fin 2 → Nat :=
  let c176_1087 : Index := 176#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v1959 : Index := Scalar.indexCast v1661
  ![176, v1959.toNat]
def k0_off177 (i : grid0.Coords) (k0_t6 : Fin (k0_t6_loop i).trips) : Fin 2 → Nat :=
  let c192_1096 : Index := 192#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v1982 : Index := Scalar.indexCast v1661
  ![192, v1982.toNat]
def k0_off178 (i : grid0.Coords) (k0_t6 : Fin (k0_t6_loop i).trips) : Fin 2 → Nat :=
  let c208_1105 : Index := 208#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2005 : Index := Scalar.indexCast v1661
  ![208, v2005.toNat]
def k0_off179 (i : grid0.Coords) (k0_t6 : Fin (k0_t6_loop i).trips) : Fin 2 → Nat :=
  let c224_1114 : Index := 224#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2028 : Index := Scalar.indexCast v1661
  ![224, v2028.toNat]
def k0_off180 (i : grid0.Coords) (k0_t6 : Fin (k0_t6_loop i).trips) : Fin 2 → Nat :=
  let c240_1123 : Index := 240#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2051 : Index := Scalar.indexCast v1661
  ![240, v2051.toNat]
def k0_off181 (i : grid0.Coords) (k0_t6 : Fin (k0_t6_loop i).trips) : Fin 2 → Nat :=
  let c256_1140 : Index := 256#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2084 : Index := Scalar.indexCast v1661
  ![256, v2084.toNat]
def k0_off182 (i : grid0.Coords) (k0_t6 : Fin (k0_t6_loop i).trips) : Fin 2 → Nat :=
  let c272_1149 : Index := 272#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2107 : Index := Scalar.indexCast v1661
  ![272, v2107.toNat]
def k0_off183 (i : grid0.Coords) (k0_t6 : Fin (k0_t6_loop i).trips) : Fin 2 → Nat :=
  let c288_1158 : Index := 288#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2130 : Index := Scalar.indexCast v1661
  ![288, v2130.toNat]
def k0_off184 (i : grid0.Coords) (k0_t6 : Fin (k0_t6_loop i).trips) : Fin 2 → Nat :=
  let c304_1167 : Index := 304#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2153 : Index := Scalar.indexCast v1661
  ![304, v2153.toNat]
def k0_off185 (i : grid0.Coords) (k0_t6 : Fin (k0_t6_loop i).trips) : Fin 2 → Nat :=
  let c320_1176 : Index := 320#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2176 : Index := Scalar.indexCast v1661
  ![320, v2176.toNat]
def k0_off186 (i : grid0.Coords) (k0_t6 : Fin (k0_t6_loop i).trips) : Fin 2 → Nat :=
  let c336_1185 : Index := 336#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2199 : Index := Scalar.indexCast v1661
  ![336, v2199.toNat]
def k0_off187 (i : grid0.Coords) (k0_t6 : Fin (k0_t6_loop i).trips) : Fin 2 → Nat :=
  let c352_1194 : Index := 352#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2222 : Index := Scalar.indexCast v1661
  ![352, v2222.toNat]
def k0_off188 (i : grid0.Coords) (k0_t6 : Fin (k0_t6_loop i).trips) : Fin 2 → Nat :=
  let c368_1203 : Index := 368#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2245 : Index := Scalar.indexCast v1661
  ![368, v2245.toNat]
def k0_off189 (i : grid0.Coords) (k0_t6 : Fin (k0_t6_loop i).trips) : Fin 2 → Nat :=
  let c384_1212 : Index := 384#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2268 : Index := Scalar.indexCast v1661
  ![384, v2268.toNat]
def k0_off190 (i : grid0.Coords) (k0_t6 : Fin (k0_t6_loop i).trips) : Fin 2 → Nat :=
  let c400_1221 : Index := 400#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2291 : Index := Scalar.indexCast v1661
  ![400, v2291.toNat]
def k0_off191 (i : grid0.Coords) (k0_t6 : Fin (k0_t6_loop i).trips) : Fin 2 → Nat :=
  let c416_1230 : Index := 416#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2314 : Index := Scalar.indexCast v1661
  ![416, v2314.toNat]
def k0_off192 (i : grid0.Coords) (k0_t6 : Fin (k0_t6_loop i).trips) : Fin 2 → Nat :=
  let c432_1239 : Index := 432#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2337 : Index := Scalar.indexCast v1661
  ![432, v2337.toNat]
def k0_off193 (i : grid0.Coords) (k0_t6 : Fin (k0_t6_loop i).trips) : Fin 2 → Nat :=
  let c448_1248 : Index := 448#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2360 : Index := Scalar.indexCast v1661
  ![448, v2360.toNat]
def k0_off194 (i : grid0.Coords) (k0_t6 : Fin (k0_t6_loop i).trips) : Fin 2 → Nat :=
  let c464_1257 : Index := 464#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2383 : Index := Scalar.indexCast v1661
  ![464, v2383.toNat]
def k0_off195 (i : grid0.Coords) (k0_t6 : Fin (k0_t6_loop i).trips) : Fin 2 → Nat :=
  let c480_1266 : Index := 480#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2406 : Index := Scalar.indexCast v1661
  ![480, v2406.toNat]
def k0_off196 (i : grid0.Coords) (k0_t6 : Fin (k0_t6_loop i).trips) : Fin 2 → Nat :=
  let c496_1275 : Index := 496#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2429 : Index := Scalar.indexCast v1661
  ![496, v2429.toNat]
def k0_off197 (i : grid0.Coords) (k0_t6 : Fin (k0_t6_loop i).trips) : Fin 2 → Nat :=
  let c512_1292 : Index := 512#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2462 : Index := Scalar.indexCast v1661
  ![512, v2462.toNat]
def k0_off198 (i : grid0.Coords) (k0_t6 : Fin (k0_t6_loop i).trips) : Fin 2 → Nat :=
  let c528_1301 : Index := 528#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2485 : Index := Scalar.indexCast v1661
  ![528, v2485.toNat]
def k0_off199 (i : grid0.Coords) (k0_t6 : Fin (k0_t6_loop i).trips) : Fin 2 → Nat :=
  let c544_1310 : Index := 544#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2508 : Index := Scalar.indexCast v1661
  ![544, v2508.toNat]
def k0_off200 (i : grid0.Coords) (k0_t6 : Fin (k0_t6_loop i).trips) : Fin 2 → Nat :=
  let c560_1319 : Index := 560#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2531 : Index := Scalar.indexCast v1661
  ![560, v2531.toNat]
def k0_off201 (i : grid0.Coords) (k0_t6 : Fin (k0_t6_loop i).trips) : Fin 2 → Nat :=
  let c576_1328 : Index := 576#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2554 : Index := Scalar.indexCast v1661
  ![576, v2554.toNat]
def k0_off202 (i : grid0.Coords) (k0_t6 : Fin (k0_t6_loop i).trips) : Fin 2 → Nat :=
  let c592_1337 : Index := 592#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2577 : Index := Scalar.indexCast v1661
  ![592, v2577.toNat]
def k0_off203 (i : grid0.Coords) (k0_t6 : Fin (k0_t6_loop i).trips) : Fin 2 → Nat :=
  let c608_1346 : Index := 608#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2600 : Index := Scalar.indexCast v1661
  ![608, v2600.toNat]
def k0_off204 (i : grid0.Coords) (k0_t6 : Fin (k0_t6_loop i).trips) : Fin 2 → Nat :=
  let c624_1355 : Index := 624#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2623 : Index := Scalar.indexCast v1661
  ![624, v2623.toNat]
def k0_off205 (i : grid0.Coords) (k0_t6 : Fin (k0_t6_loop i).trips) : Fin 2 → Nat :=
  let c640_1364 : Index := 640#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2646 : Index := Scalar.indexCast v1661
  ![640, v2646.toNat]
def k0_off206 (i : grid0.Coords) (k0_t6 : Fin (k0_t6_loop i).trips) : Fin 2 → Nat :=
  let c656_1373 : Index := 656#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2669 : Index := Scalar.indexCast v1661
  ![656, v2669.toNat]
def k0_off207 (i : grid0.Coords) (k0_t6 : Fin (k0_t6_loop i).trips) : Fin 2 → Nat :=
  let c672_1382 : Index := 672#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2692 : Index := Scalar.indexCast v1661
  ![672, v2692.toNat]
def k0_off208 (i : grid0.Coords) (k0_t6 : Fin (k0_t6_loop i).trips) : Fin 2 → Nat :=
  let c688_1391 : Index := 688#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2715 : Index := Scalar.indexCast v1661
  ![688, v2715.toNat]
def k0_off209 (i : grid0.Coords) (k0_t6 : Fin (k0_t6_loop i).trips) : Fin 2 → Nat :=
  let c704_1400 : Index := 704#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2738 : Index := Scalar.indexCast v1661
  ![704, v2738.toNat]
def k0_off210 (i : grid0.Coords) (k0_t6 : Fin (k0_t6_loop i).trips) : Fin 2 → Nat :=
  let c720_1409 : Index := 720#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2761 : Index := Scalar.indexCast v1661
  ![720, v2761.toNat]
def k0_off211 (i : grid0.Coords) (k0_t6 : Fin (k0_t6_loop i).trips) : Fin 2 → Nat :=
  let c736_1418 : Index := 736#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2784 : Index := Scalar.indexCast v1661
  ![736, v2784.toNat]
def k0_off212 (i : grid0.Coords) (k0_t6 : Fin (k0_t6_loop i).trips) : Fin 2 → Nat :=
  let c752_1427 : Index := 752#32
  let c0_i32_525 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1064 : BitVec 32 := Scalar.subi v18 c0_i32_525
  let c1_i32_526 : BitVec 32 := 1#32
  let v1066 : BitVec 32 := Scalar.divsi v1064 c1_i32_526
  let v1067 : BitVec 32 := Scalar.muli v1066 c1_i32_526
  let v1068 : BitVec 32 := Scalar.addi c0_i32_525 v1067
  let c1_i32_528 : BitVec 32 := 1#32
  let arg29 : BitVec 32 := Scf.iv v1068 c1_i32_528 k0_t6
  let c512_i32_975 : BitVec 32 := 512#32
  let v1660 : BitVec 32 := Scalar.muli arg29 c512_i32_975
  let v1661 : BitVec 32 := v1660
  let v2807 : Index := Scalar.indexCast v1661
  ![752, v2807.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x320x576 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x768x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x48 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x48 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x576x8192 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128x8192 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8192x128 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8192x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x16x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x16x48x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x8192 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x16x48 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== KernelIdeal.lean ====
variable {F : FTy → Type} [FloatOps F] [Named F]
def κ : String → Option EReal := fun
  | "log2e" => some (((Real.log 2)⁻¹ : ℝ) : EReal)
  | "sm_scale_log2e" => some (((Real.sqrt 160)⁻¹ * (Real.log 2)⁻¹ : ℝ) : EReal)
  | _ => none
-- ==== ReferenceIdeal.lean ====
abbrev S2x8192x20x576 : Shape := ⟨4, ![2, 8192, 20, 576]⟩
abbrev S2x8192x20 : Shape := ⟨3, ![2, 8192, 20]⟩
abbrev S2x8192x576 : Shape := ⟨3, ![2, 8192, 576]⟩
abbrev S2x8192 : Shape := ⟨2, ![2, 8192]⟩
abbrev S2x20x8192 : Shape := ⟨3, ![2, 20, 8192]⟩
abbrev S2x8192x48x128 : Shape := ⟨4, ![2, 8192, 48, 128]⟩
abbrev S2x8192x48 : Shape := ⟨3, ![2, 8192, 48]⟩
abbrev S2x8192x128 : Shape := ⟨3, ![2, 8192, 128]⟩
abbrev S2x8192x1 : Shape := ⟨3, ![2, 8192, 1]⟩
abbrev S2x8192x8192 : Shape := ⟨3, ![2, 8192, 8192]⟩
abbrev S2x8192x8192x20 : Shape := ⟨4, ![2, 8192, 8192, 20]⟩
abbrev S2x20x8192x8192 : Shape := ⟨4, ![2, 20, 8192, 8192]⟩
abbrev S2x20x8192x1 : Shape := ⟨4, ![2, 20, 8192, 1]⟩
abbrev S2x1x1x8192 : Shape := ⟨4, ![2, 1, 1, 8192]⟩
abbrev S2x1x8192x8192 : Shape := ⟨4, ![2, 1, 8192, 8192]⟩
abbrev S2x8192x48x8192 : Shape := ⟨4, ![2, 8192, 48, 8192]⟩
abbrev S2x8192x48x1 : Shape := ⟨4, ![2, 8192, 48, 1]⟩

abbrev nBuf : Space → Nat
  | .hbm => 11
  | .vmem => 11
  | .smem => 0
  | _ => 0

abbrev bufTy : (tb : Table) → Fin (tcTables nBuf tb) → BufTy
  | .hbm, ⟨0, _⟩ => ⟨S2x8192x20x576, .fp8e4m3⟩
  | .hbm, ⟨1, _⟩ => ⟨S2x8192x20, .f32⟩
  | .hbm, ⟨2, _⟩ => ⟨S2x8192x576, .fp8e4m3⟩
  | .hbm, ⟨3, _⟩ => ⟨S2x8192, .f32⟩
  | .hbm, ⟨4, _⟩ => ⟨S2x20x8192, .f32⟩
  | .hbm, ⟨5, _⟩ => ⟨S2x8192x48x128, .fp8e4m3⟩
  | .hbm, ⟨6, _⟩ => ⟨S2x8192x48, .f32⟩
  | .hbm, ⟨7, _⟩ => ⟨S2x8192x128, .fp8e4m3⟩
  | .hbm, ⟨8, _⟩ => ⟨S2x8192, .f32⟩
  | .hbm, ⟨9, _⟩ => ⟨S2x8192x48, .bf16⟩
  | .hbm, ⟨10, _⟩ => ⟨S2x8192x1, .f32⟩
  | .local _ .vmem, ⟨0, _⟩ => ⟨S2x8192x20x576, .fp8e4m3⟩
  | .local _ .vmem, ⟨1, _⟩ => ⟨S2x8192x20, .f32⟩
  | .local _ .vmem, ⟨2, _⟩ => ⟨S2x8192x576, .fp8e4m3⟩
  | .local _ .vmem, ⟨3, _⟩ => ⟨S2x8192, .f32⟩
  | .local _ .vmem, ⟨4, _⟩ => ⟨S2x20x8192, .f32⟩
  | .local _ .vmem, ⟨5, _⟩ => ⟨S2x8192x48x128, .fp8e4m3⟩
  | .local _ .vmem, ⟨6, _⟩ => ⟨S2x8192x48, .f32⟩
  | .local _ .vmem, ⟨7, _⟩ => ⟨S2x8192x128, .fp8e4m3⟩
  | .local _ .vmem, ⟨8, _⟩ => ⟨S2x8192, .f32⟩
  | .local _ .vmem, ⟨9, _⟩ => ⟨S2x8192x48, .bf16⟩
  | .local _ .vmem, ⟨10, _⟩ => ⟨S2x8192x1, .f32⟩
  | _, _ => ⟨S2x8192x20x576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "sm_scale" => some (((Real.sqrt 160)⁻¹ : ℝ) : EReal)
  | _ => none

abbrev grid0 : Pipeline.Grid := .none

abbrev stage0_0 : Fin 1 → Memref sig .tc .vmem S2x8192x20x576 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8192x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8192x576 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x20x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8192x48x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8192x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x8192x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x8192x48 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x8192x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.K.Offsets.lean ====
/-
  The offsets and the trip counts of the counted loops of `Kernel`, in closed form: at grid point `i` each tile loop
  makes `(i 1) / 32 + 1` trips, its remainder loop none, and trip `k` works on the 512 columns from `512 * k`.
-/
module

public import proofs.«01_k».proof.Proof.Gen.Kernel.Skeleton
public import Idealize.ShloMosaic.Lib.Exec
public import Idealize.ShloMosaic.Lib.Tactic
public import Idealize.ShloMosaic.Lib.Pipeline.Kit

@[expose] public section

noncomputable section

namespace Cert.Proof.Kernel

open Cert.Kernel
open Idealize.ShloMosaic Idealize.ShloMosaic.TcCoe Idealize.ShloMosaic.Tactic

/-- The column a tile loop's trip starts at: the induction variable times 512, which does not wrap. -/
theorem col_eq (k : Nat) (hk : k < 16) :
    (Scalar.indexCast (Scalar.muli (Scf.iv 0#32 1#32 k) 512#32) : Index).toNat = 512 * k := by
  have h : ∀ k : Fin 16, (Scalar.indexCast (Scalar.muli (Scf.iv 0#32 1#32 k.val) 512#32) : Index).toNat = 512 * k.val := by
    decide
  exact h ⟨k, hk⟩

/-- The trip count of the first tile loop: the tiles of keys not after the last of the block's rows. -/
theorem t1_trips : ∀ i : grid0.Coords, (k0_t1_loop i).trips = (i 1).val / 32 + 1 := by decide +kernel
theorem t3_trips : ∀ i : grid0.Coords, (k0_t3_loop i).trips = (i 1).val / 32 + 1 := by decide +kernel
theorem t5_trips : ∀ i : grid0.Coords, (k0_t5_loop i).trips = (i 1).val / 32 + 1 := by decide +kernel
/-- The remainder loops make no trip. -/
theorem t2_trips : ∀ i : grid0.Coords, (k0_t2_loop i).trips = 0 := by decide +kernel
theorem t4_trips : ∀ i : grid0.Coords, (k0_t4_loop i).trips = 0 := by decide +kernel
theorem t6_trips : ∀ i : grid0.Coords, (k0_t6_loop i).trips = 0 := by decide +kernel

theorem t1_lt (i : grid0.Coords) (k : Fin (k0_t1_loop i).trips) : k.val < 16 :=
  Nat.lt_of_lt_of_le k.isLt (Gen.k0_t1_abs i).2.1
theorem t3_lt (i : grid0.Coords) (k : Fin (k0_t3_loop i).trips) : k.val < 16 :=
  Nat.lt_of_lt_of_le k.isLt (Gen.k0_t3_abs i).2.1
theorem t5_lt (i : grid0.Coords) (k : Fin (k0_t5_loop i).trips) : k.val < 16 :=
  Nat.lt_of_lt_of_le k.isLt (Gen.k0_t5_abs i).2.1

/-! ### The offsets of the loads and stores of a trip -/

theorem k0_off1_eq (i : grid0.Coords) (k : Fin (k0_t1_loop i).trips) : k0_off1 i k = ![0, 0, 512 * k.val] := by
  unfold k0_off1; simp only [col_eq k.val (t1_lt i k)]
instance (i : grid0.Coords) (k : Fin (k0_t1_loop i).trips) : ClosedOff (k0_off1 i k) := ⟨_, k0_off1_eq i k⟩
theorem k0_off2_eq (i : grid0.Coords) (k : Fin (k0_t1_loop i).trips) : k0_off2 i k = ![0, 512 * k.val] := by
  unfold k0_off2; simp only [col_eq k.val (t1_lt i k)]
instance (i : grid0.Coords) (k : Fin (k0_t1_loop i).trips) : ClosedOff (k0_off2 i k) := ⟨_, k0_off2_eq i k⟩
theorem k0_off3_eq (i : grid0.Coords) (k : Fin (k0_t1_loop i).trips) : k0_off3 i k = ![16, 512 * k.val] := by
  unfold k0_off3; simp only [col_eq k.val (t1_lt i k)]
instance (i : grid0.Coords) (k : Fin (k0_t1_loop i).trips) : ClosedOff (k0_off3 i k) := ⟨_, k0_off3_eq i k⟩
theorem k0_off4_eq (i : grid0.Coords) (k : Fin (k0_t1_loop i).trips) : k0_off4 i k = ![32, 512 * k.val] := by
  unfold k0_off4; simp only [col_eq k.val (t1_lt i k)]
instance (i : grid0.Coords) (k : Fin (k0_t1_loop i).trips) : ClosedOff (k0_off4 i k) := ⟨_, k0_off4_eq i k⟩
theorem k0_off5_eq (i : grid0.Coords) (k : Fin (k0_t1_loop i).trips) : k0_off5 i k = ![48, 512 * k.val] := by
  unfold k0_off5; simp only [col_eq k.val (t1_lt i k)]
instance (i : grid0.Coords) (k : Fin (k0_t1_loop i).trips) : ClosedOff (k0_off5 i k) := ⟨_, k0_off5_eq i k⟩
theorem k0_off6_eq (i : grid0.Coords) (k : Fin (k0_t1_loop i).trips) : k0_off6 i k = ![64, 512 * k.val] := by
  unfold k0_off6; simp only [col_eq k.val (t1_lt i k)]
instance (i : grid0.Coords) (k : Fin (k0_t1_loop i).trips) : ClosedOff (k0_off6 i k) := ⟨_, k0_off6_eq i k⟩
theorem k0_off7_eq (i : grid0.Coords) (k : Fin (k0_t1_loop i).trips) : k0_off7 i k = ![80, 512 * k.val] := by
  unfold k0_off7; simp only [col_eq k.val (t1_lt i k)]
instance (i : grid0.Coords) (k : Fin (k0_t1_loop i).trips) : ClosedOff (k0_off7 i k) := ⟨_, k0_off7_eq i k⟩
theorem k0_off8_eq (i : grid0.Coords) (k : Fin (k0_t1_loop i).trips) : k0_off8 i k = ![96, 512 * k.val] := by
  unfold k0_off8; simp only [col_eq k.val (t1_lt i k)]
instance (i : grid0.Coords) (k : Fin (k0_t1_loop i).trips) : ClosedOff (k0_off8 i k) := ⟨_, k0_off8_eq i k⟩
theorem k0_off9_eq (i : grid0.Coords) (k : Fin (k0_t1_loop i).trips) : k0_off9 i k = ![112, 512 * k.val] := by
  unfold k0_off9; simp only [col_eq k.val (t1_lt i k)]
instance (i : grid0.Coords) (k : Fin (k0_t1_loop i).trips) : ClosedOff (k0_off9 i k) := ⟨_, k0_off9_eq i k⟩
theorem k0_off10_eq (i : grid0.Coords) (k : Fin (k0_t1_loop i).trips) : k0_off10 i k = ![128, 512 * k.val] := by
  unfold k0_off10; simp only [col_eq k.val (t1_lt i k)]
instance (i : grid0.Coords) (k : Fin (k0_t1_loop i).trips) : ClosedOff (k0_off10 i k) := ⟨_, k0_off10_eq i k⟩
theorem k0_off11_eq (i : grid0.Coords) (k : Fin (k0_t1_loop i).trips) : k0_off11 i k = ![144, 512 * k.val] := by
  unfold k0_off11; simp only [col_eq k.val (t1_lt i k)]
instance (i : grid0.Coords) (k : Fin (k0_t1_loop i).trips) : ClosedOff (k0_off11 i k) := ⟨_, k0_off11_eq i k⟩
theorem k0_off12_eq (i : grid0.Coords) (k : Fin (k0_t1_loop i).trips) : k0_off12 i k = ![160, 512 * k.val] := by
  unfold k0_off12; simp only [col_eq k.val (t1_lt i k)]
instance (i : grid0.Coords) (k : Fin (k0_t1_loop i).trips) : ClosedOff (k0_off12 i k) := ⟨_, k0_off12_eq i k⟩
theorem k0_off13_eq (i : grid0.Coords) (k : Fin (k0_t1_loop i).trips) : k0_off13 i k = ![176, 512 * k.val] := by
  unfold k0_off13; simp only [col_eq k.val (t1_lt i k)]
instance (i : grid0.Coords) (k : Fin (k0_t1_loop i).trips) : ClosedOff (k0_off13 i k) := ⟨_, k0_off13_eq i k⟩
theorem k0_off14_eq (i : grid0.Coords) (k : Fin (k0_t1_loop i).trips) : k0_off14 i k = ![192, 512 * k.val] := by
  unfold k0_off14; simp only [col_eq k.val (t1_lt i k)]
instance (i : grid0.Coords) (k : Fin (k0_t1_loop i).trips) : ClosedOff (k0_off14 i k) := ⟨_, k0_off14_eq i k⟩
theorem k0_off15_eq (i : grid0.Coords) (k : Fin (k0_t1_loop i).trips) : k0_off15 i k = ![208, 512 * k.val] := by
  unfold k0_off15; simp only [col_eq k.val (t1_lt i k)]
instance (i : grid0.Coords) (k : Fin (k0_t1_loop i).trips) : ClosedOff (k0_off15 i k) := ⟨_, k0_off15_eq i k⟩
theorem k0_off16_eq (i : grid0.Coords) (k : Fin (k0_t1_loop i).trips) : k0_off16 i k = ![224, 512 * k.val] := by
  unfold k0_off16; simp only [col_eq k.val (t1_lt i k)]
instance (i : grid0.Coords) (k : Fin (k0_t1_loop i).trips) : ClosedOff (k0_off16 i k) := ⟨_, k0_off16_eq i k⟩
theorem k0_off17_eq (i : grid0.Coords) (k : Fin (k0_t1_loop i).trips) : k0_off17 i k = ![240, 512 * k.val] := by
  unfold k0_off17; simp only [col_eq k.val (t1_lt i k)]
instance (i : grid0.Coords) (k : Fin (k0_t1_loop i).trips) : ClosedOff (k0_off17 i k) := ⟨_, k0_off17_eq i k⟩
theorem k0_off18_eq (i : grid0.Coords) (k : Fin (k0_t1_loop i).trips) : k0_off18 i k = ![256, 512 * k.val] := by
  unfold k0_off18; simp only [col_eq k.val (t1_lt i k)]
instance (i : grid0.Coords) (k : Fin (k0_t1_loop i).trips) : ClosedOff (k0_off18 i k) := ⟨_, k0_off18_eq i k⟩
theorem k0_off19_eq (i : grid0.Coords) (k : Fin (k0_t1_loop i).trips) : k0_off19 i k = ![272, 512 * k.val] := by
  unfold k0_off19; simp only [col_eq k.val (t1_lt i k)]
instance (i : grid0.Coords) (k : Fin (k0_t1_loop i).trips) : ClosedOff (k0_off19 i k) := ⟨_, k0_off19_eq i k⟩
theorem k0_off20_eq (i : grid0.Coords) (k : Fin (k0_t1_loop i).trips) : k0_off20 i k = ![288, 512 * k.val] := by
  unfold k0_off20; simp only [col_eq k.val (t1_lt i k)]
instance (i : grid0.Coords) (k : Fin (k0_t1_loop i).trips) : ClosedOff (k0_off20 i k) := ⟨_, k0_off20_eq i k⟩
theorem k0_off21_eq (i : grid0.Coords) (k : Fin (k0_t1_loop i).trips) : k0_off21 i k = ![304, 512 * k.val] := by
  unfold k0_off21; simp only [col_eq k.val (t1_lt i k)]
instance (i : grid0.Coords) (k : Fin (k0_t1_loop i).trips) : ClosedOff (k0_off21 i k) := ⟨_, k0_off21_eq i k⟩
theorem k0_off22_eq (i : grid0.Coords) (k : Fin (k0_t1_loop i).trips) : k0_off22 i k = ![320, 512 * k.val] := by
  unfold k0_off22; simp only [col_eq k.val (t1_lt i k)]
instance (i : grid0.Coords) (k : Fin (k0_t1_loop i).trips) : ClosedOff (k0_off22 i k) := ⟨_, k0_off22_eq i k⟩
theorem k0_off23_eq (i : grid0.Coords) (k : Fin (k0_t1_loop i).trips) : k0_off23 i k = ![336, 512 * k.val] := by
  unfold k0_off23; simp only [col_eq k.val (t1_lt i k)]
instance (i : grid0.Coords) (k : Fin (k0_t1_loop i).trips) : ClosedOff (k0_off23 i k) := ⟨_, k0_off23_eq i k⟩
theorem k0_off24_eq (i : grid0.Coords) (k : Fin (k0_t1_loop i).trips) : k0_off24 i k = ![352, 512 * k.val] := by
  unfold k0_off24; simp only [col_eq k.val (t1_lt i k)]
instance (i : grid0.Coords) (k : Fin (k0_t1_loop i).trips) : ClosedOff (k0_off24 i k) := ⟨_, k0_off24_eq i k⟩
theorem k0_off25_eq (i : grid0.Coords) (k : Fin (k0_t1_loop i).trips) : k0_off25 i k = ![368, 512 * k.val] := by
  unfold k0_off25; simp only [col_eq k.val (t1_lt i k)]
instance (i : grid0.Coords) (k : Fin (k0_t1_loop i).trips) : ClosedOff (k0_off25 i k) := ⟨_, k0_off25_eq i k⟩
theorem k0_off26_eq (i : grid0.Coords) (k : Fin (k0_t1_loop i).trips) : k0_off26 i k = ![384, 512 * k.val] := by
  unfold k0_off26; simp only [col_eq k.val (t1_lt i k)]
instance (i : grid0.Coords) (k : Fin (k0_t1_loop i).trips) : ClosedOff (k0_off26 i k) := ⟨_, k0_off26_eq i k⟩
theorem k0_off27_eq (i : grid0.Coords) (k : Fin (k0_t1_loop i).trips) : k0_off27 i k = ![400, 512 * k.val] := by
  unfold k0_off27; simp only [col_eq k.val (t1_lt i k)]
instance (i : grid0.Coords) (k : Fin (k0_t1_loop i).trips) : ClosedOff (k0_off27 i k) := ⟨_, k0_off27_eq i k⟩
theorem k0_off28_eq (i : grid0.Coords) (k : Fin (k0_t1_loop i).trips) : k0_off28 i k = ![416, 512 * k.val] := by
  unfold k0_off28; simp only [col_eq k.val (t1_lt i k)]
instance (i : grid0.Coords) (k : Fin (k0_t1_loop i).trips) : ClosedOff (k0_off28 i k) := ⟨_, k0_off28_eq i k⟩
theorem k0_off29_eq (i : grid0.Coords) (k : Fin (k0_t1_loop i).trips) : k0_off29 i k = ![432, 512 * k.val] := by
  unfold k0_off29; simp only [col_eq k.val (t1_lt i k)]
instance (i : grid0.Coords) (k : Fin (k0_t1_loop i).trips) : ClosedOff (k0_off29 i k) := ⟨_, k0_off29_eq i k⟩
theorem k0_off30_eq (i : grid0.Coords) (k : Fin (k0_t1_loop i).trips) : k0_off30 i k = ![448, 512 * k.val] := by
  unfold k0_off30; simp only [col_eq k.val (t1_lt i k)]
instance (i : grid0.Coords) (k : Fin (k0_t1_loop i).trips) : ClosedOff (k0_off30 i k) := ⟨_, k0_off30_eq i k⟩
theorem k0_off31_eq (i : grid0.Coords) (k : Fin (k0_t1_loop i).trips) : k0_off31 i k = ![464, 512 * k.val] := by
  unfold k0_off31; simp only [col_eq k.val (t1_lt i k)]
instance (i : grid0.Coords) (k : Fin (k0_t1_loop i).trips) : ClosedOff (k0_off31 i k) := ⟨_, k0_off31_eq i k⟩
theorem k0_off32_eq (i : grid0.Coords) (k : Fin (k0_t1_loop i).trips) : k0_off32 i k = ![480, 512 * k.val] := by
  unfold k0_off32; simp only [col_eq k.val (t1_lt i k)]
instance (i : grid0.Coords) (k : Fin (k0_t1_loop i).trips) : ClosedOff (k0_off32 i k) := ⟨_, k0_off32_eq i k⟩
theorem k0_off33_eq (i : grid0.Coords) (k : Fin (k0_t1_loop i).trips) : k0_off33 i k = ![496, 512 * k.val] := by
  unfold k0_off33; simp only [col_eq k.val (t1_lt i k)]
instance (i : grid0.Coords) (k : Fin (k0_t1_loop i).trips) : ClosedOff (k0_off33 i k) := ⟨_, k0_off33_eq i k⟩
theorem k0_off34_eq (i : grid0.Coords) (k : Fin (k0_t1_loop i).trips) : k0_off34 i k = ![512, 512 * k.val] := by
  unfold k0_off34; simp only [col_eq k.val (t1_lt i k)]
instance (i : grid0.Coords) (k : Fin (k0_t1_loop i).trips) : ClosedOff (k0_off34 i k) := ⟨_, k0_off34_eq i k⟩
theorem k0_off35_eq (i : grid0.Coords) (k : Fin (k0_t1_loop i).trips) : k0_off35 i k = ![528, 512 * k.val] := by
  unfold k0_off35; simp only [col_eq k.val (t1_lt i k)]
instance (i : grid0.Coords) (k : Fin (k0_t1_loop i).trips) : ClosedOff (k0_off35 i k) := ⟨_, k0_off35_eq i k⟩
theorem k0_off36_eq (i : grid0.Coords) (k : Fin (k0_t1_loop i).trips) : k0_off36 i k = ![544, 512 * k.val] := by
  unfold k0_off36; simp only [col_eq k.val (t1_lt i k)]
instance (i : grid0.Coords) (k : Fin (k0_t1_loop i).trips) : ClosedOff (k0_off36 i k) := ⟨_, k0_off36_eq i k⟩
theorem k0_off37_eq (i : grid0.Coords) (k : Fin (k0_t1_loop i).trips) : k0_off37 i k = ![560, 512 * k.val] := by
  unfold k0_off37; simp only [col_eq k.val (t1_lt i k)]
instance (i : grid0.Coords) (k : Fin (k0_t1_loop i).trips) : ClosedOff (k0_off37 i k) := ⟨_, k0_off37_eq i k⟩
theorem k0_off38_eq (i : grid0.Coords) (k : Fin (k0_t1_loop i).trips) : k0_off38 i k = ![576, 512 * k.val] := by
  unfold k0_off38; simp only [col_eq k.val (t1_lt i k)]
instance (i : grid0.Coords) (k : Fin (k0_t1_loop i).trips) : ClosedOff (k0_off38 i k) := ⟨_, k0_off38_eq i k⟩
theorem k0_off39_eq (i : grid0.Coords) (k : Fin (k0_t1_loop i).trips) : k0_off39 i k = ![592, 512 * k.val] := by
  unfold k0_off39; simp only [col_eq k.val (t1_lt i k)]
instance (i : grid0.Coords) (k : Fin (k0_t1_loop i).trips) : ClosedOff (k0_off39 i k) := ⟨_, k0_off39_eq i k⟩
theorem k0_off40_eq (i : grid0.Coords) (k : Fin (k0_t1_loop i).trips) : k0_off40 i k = ![608, 512 * k.val] := by
  unfold k0_off40; simp only [col_eq k.val (t1_lt i k)]
instance (i : grid0.Coords) (k : Fin (k0_t1_loop i).trips) : ClosedOff (k0_off40 i k) := ⟨_, k0_off40_eq i k⟩
theorem k0_off41_eq (i : grid0.Coords) (k : Fin (k0_t1_loop i).trips) : k0_off41 i k = ![624, 512 * k.val] := by
  unfold k0_off41; simp only [col_eq k.val (t1_lt i k)]
instance (i : grid0.Coords) (k : Fin (k0_t1_loop i).trips) : ClosedOff (k0_off41 i k) := ⟨_, k0_off41_eq i k⟩
theorem k0_off42_eq (i : grid0.Coords) (k : Fin (k0_t1_loop i).trips) : k0_off42 i k = ![640, 512 * k.val] := by
  unfold k0_off42; simp only [col_eq k.val (t1_lt i k)]
instance (i : grid0.Coords) (k : Fin (k0_t1_loop i).trips) : ClosedOff (k0_off42 i k) := ⟨_, k0_off42_eq i k⟩
theorem k0_off43_eq (i : grid0.Coords) (k : Fin (k0_t1_loop i).trips) : k0_off43 i k = ![656, 512 * k.val] := by
  unfold k0_off43; simp only [col_eq k.val (t1_lt i k)]
instance (i : grid0.Coords) (k : Fin (k0_t1_loop i).trips) : ClosedOff (k0_off43 i k) := ⟨_, k0_off43_eq i k⟩
theorem k0_off44_eq (i : grid0.Coords) (k : Fin (k0_t1_loop i).trips) : k0_off44 i k = ![672, 512 * k.val] := by
  unfold k0_off44; simp only [col_eq k.val (t1_lt i k)]
instance (i : grid0.Coords) (k : Fin (k0_t1_loop i).trips) : ClosedOff (k0_off44 i k) := ⟨_, k0_off44_eq i k⟩
theorem k0_off45_eq (i : grid0.Coords) (k : Fin (k0_t1_loop i).trips) : k0_off45 i k = ![688, 512 * k.val] := by
  unfold k0_off45; simp only [col_eq k.val (t1_lt i k)]
instance (i : grid0.Coords) (k : Fin (k0_t1_loop i).trips) : ClosedOff (k0_off45 i k) := ⟨_, k0_off45_eq i k⟩
theorem k0_off46_eq (i : grid0.Coords) (k : Fin (k0_t1_loop i).trips) : k0_off46 i k = ![704, 512 * k.val] := by
  unfold k0_off46; simp only [col_eq k.val (t1_lt i k)]
instance (i : grid0.Coords) (k : Fin (k0_t1_loop i).trips) : ClosedOff (k0_off46 i k) := ⟨_, k0_off46_eq i k⟩
theorem k0_off47_eq (i : grid0.Coords) (k : Fin (k0_t1_loop i).trips) : k0_off47 i k = ![720, 512 * k.val] := by
  unfold k0_off47; simp only [col_eq k.val (t1_lt i k)]
instance (i : grid0.Coords) (k : Fin (k0_t1_loop i).trips) : ClosedOff (k0_off47 i k) := ⟨_, k0_off47_eq i k⟩
theorem k0_off48_eq (i : grid0.Coords) (k : Fin (k0_t1_loop i).trips) : k0_off48 i k = ![736, 512 * k.val] := by
  unfold k0_off48; simp only [col_eq k.val (t1_lt i k)]
instance (i : grid0.Coords) (k : Fin (k0_t1_loop i).trips) : ClosedOff (k0_off48 i k) := ⟨_, k0_off48_eq i k⟩
theorem k0_off49_eq (i : grid0.Coords) (k : Fin (k0_t1_loop i).trips) : k0_off49 i k = ![752, 512 * k.val] := by
  unfold k0_off49; simp only [col_eq k.val (t1_lt i k)]
instance (i : grid0.Coords) (k : Fin (k0_t1_loop i).trips) : ClosedOff (k0_off49 i k) := ⟨_, k0_off49_eq i k⟩
theorem k0_off50_eq (i : grid0.Coords) (k : Fin (k0_t1_loop i).trips) : k0_off50 i k = ![0, 0, 512 * k.val] := by
  unfold k0_off50; simp only [col_eq k.val (t1_lt i k)]
instance (i : grid0.Coords) (k : Fin (k0_t1_loop i).trips) : ClosedOff (k0_off50 i k) := ⟨_, k0_off50_eq i k⟩
theorem k0_off51_eq (i : grid0.Coords) (k : Fin (k0_t1_loop i).trips) : k0_off51 i k = ![0, 512 * k.val] := by
  unfold k0_off51; simp only [col_eq k.val (t1_lt i k)]
instance (i : grid0.Coords) (k : Fin (k0_t1_loop i).trips) : ClosedOff (k0_off51 i k) := ⟨_, k0_off51_eq i k⟩
theorem k0_off52_eq (i : grid0.Coords) (k : Fin (k0_t1_loop i).trips) : k0_off52 i k = ![0, 0, 512 * k.val] := by
  unfold k0_off52; simp only [col_eq k.val (t1_lt i k)]
instance (i : grid0.Coords) (k : Fin (k0_t1_loop i).trips) : ClosedOff (k0_off52 i k) := ⟨_, k0_off52_eq i k⟩
theorem k0_off105_eq (i : grid0.Coords) (k : Fin (k0_t3_loop i).trips) : k0_off105 i k = ![0, 512 * k.val] := by
  unfold k0_off105; simp only [col_eq k.val (t3_lt i k)]
instance (i : grid0.Coords) (k : Fin (k0_t3_loop i).trips) : ClosedOff (k0_off105 i k) := ⟨_, k0_off105_eq i k⟩
theorem k0_off107_eq (i : grid0.Coords) (k : Fin (k0_t5_loop i).trips) : k0_off107 i k = ![0, 512 * k.val] := by
  unfold k0_off107; simp only [col_eq k.val (t5_lt i k)]
instance (i : grid0.Coords) (k : Fin (k0_t5_loop i).trips) : ClosedOff (k0_off107 i k) := ⟨_, k0_off107_eq i k⟩
theorem k0_off108_eq (i : grid0.Coords) (k : Fin (k0_t5_loop i).trips) : k0_off108 i k = ![0, 0, 512 * k.val] := by
  unfold k0_off108; simp only [col_eq k.val (t5_lt i k)]
instance (i : grid0.Coords) (k : Fin (k0_t5_loop i).trips) : ClosedOff (k0_off108 i k) := ⟨_, k0_off108_eq i k⟩
theorem k0_off109_eq (i : grid0.Coords) (k : Fin (k0_t5_loop i).trips) : k0_off109 i k = ![0, 512 * k.val, 0] := by
  unfold k0_off109; simp only [col_eq k.val (t5_lt i k)]
instance (i : grid0.Coords) (k : Fin (k0_t5_loop i).trips) : ClosedOff (k0_off109 i k) := ⟨_, k0_off109_eq i k⟩
theorem k0_off110_eq (i : grid0.Coords) (k : Fin (k0_t5_loop i).trips) : k0_off110 i k = ![0, 512 * k.val, 0] := by
  unfold k0_off110; simp only [col_eq k.val (t5_lt i k)]
instance (i : grid0.Coords) (k : Fin (k0_t5_loop i).trips) : ClosedOff (k0_off110 i k) := ⟨_, k0_off110_eq i k⟩
theorem k0_off111_eq (i : grid0.Coords) (k : Fin (k0_t5_loop i).trips) : k0_off111 i k = ![0, 0, 512 * k.val] := by
  unfold k0_off111; simp only [col_eq k.val (t5_lt i k)]
instance (i : grid0.Coords) (k : Fin (k0_t5_loop i).trips) : ClosedOff (k0_off111 i k) := ⟨_, k0_off111_eq i k⟩
theorem k0_off112_eq (i : grid0.Coords) (k : Fin (k0_t5_loop i).trips) : k0_off112 i k = ![0, 512 * k.val] := by
  unfold k0_off112; simp only [col_eq k.val (t5_lt i k)]
instance (i : grid0.Coords) (k : Fin (k0_t5_loop i).trips) : ClosedOff (k0_off112 i k) := ⟨_, k0_off112_eq i k⟩
theorem k0_off113_eq (i : grid0.Coords) (k : Fin (k0_t5_loop i).trips) : k0_off113 i k = ![16, 512 * k.val] := by
  unfold k0_off113; simp only [col_eq k.val (t5_lt i k)]
instance (i : grid0.Coords) (k : Fin (k0_t5_loop i).trips) : ClosedOff (k0_off113 i k) := ⟨_, k0_off113_eq i k⟩
theorem k0_off114_eq (i : grid0.Coords) (k : Fin (k0_t5_loop i).trips) : k0_off114 i k = ![32, 512 * k.val] := by
  unfold k0_off114; simp only [col_eq k.val (t5_lt i k)]
instance (i : grid0.Coords) (k : Fin (k0_t5_loop i).trips) : ClosedOff (k0_off114 i k) := ⟨_, k0_off114_eq i k⟩
theorem k0_off115_eq (i : grid0.Coords) (k : Fin (k0_t5_loop i).trips) : k0_off115 i k = ![48, 512 * k.val] := by
  unfold k0_off115; simp only [col_eq k.val (t5_lt i k)]
instance (i : grid0.Coords) (k : Fin (k0_t5_loop i).trips) : ClosedOff (k0_off115 i k) := ⟨_, k0_off115_eq i k⟩
theorem k0_off116_eq (i : grid0.Coords) (k : Fin (k0_t5_loop i).trips) : k0_off116 i k = ![64, 512 * k.val] := by
  unfold k0_off116; simp only [col_eq k.val (t5_lt i k)]
instance (i : grid0.Coords) (k : Fin (k0_t5_loop i).trips) : ClosedOff (k0_off116 i k) := ⟨_, k0_off116_eq i k⟩
theorem k0_off117_eq (i : grid0.Coords) (k : Fin (k0_t5_loop i).trips) : k0_off117 i k = ![80, 512 * k.val] := by
  unfold k0_off117; simp only [col_eq k.val (t5_lt i k)]
instance (i : grid0.Coords) (k : Fin (k0_t5_loop i).trips) : ClosedOff (k0_off117 i k) := ⟨_, k0_off117_eq i k⟩
theorem k0_off118_eq (i : grid0.Coords) (k : Fin (k0_t5_loop i).trips) : k0_off118 i k = ![96, 512 * k.val] := by
  unfold k0_off118; simp only [col_eq k.val (t5_lt i k)]
instance (i : grid0.Coords) (k : Fin (k0_t5_loop i).trips) : ClosedOff (k0_off118 i k) := ⟨_, k0_off118_eq i k⟩
theorem k0_off119_eq (i : grid0.Coords) (k : Fin (k0_t5_loop i).trips) : k0_off119 i k = ![112, 512 * k.val] := by
  unfold k0_off119; simp only [col_eq k.val (t5_lt i k)]
instance (i : grid0.Coords) (k : Fin (k0_t5_loop i).trips) : ClosedOff (k0_off119 i k) := ⟨_, k0_off119_eq i k⟩
theorem k0_off120_eq (i : grid0.Coords) (k : Fin (k0_t5_loop i).trips) : k0_off120 i k = ![128, 512 * k.val] := by
  unfold k0_off120; simp only [col_eq k.val (t5_lt i k)]
instance (i : grid0.Coords) (k : Fin (k0_t5_loop i).trips) : ClosedOff (k0_off120 i k) := ⟨_, k0_off120_eq i k⟩
theorem k0_off121_eq (i : grid0.Coords) (k : Fin (k0_t5_loop i).trips) : k0_off121 i k = ![144, 512 * k.val] := by
  unfold k0_off121; simp only [col_eq k.val (t5_lt i k)]
instance (i : grid0.Coords) (k : Fin (k0_t5_loop i).trips) : ClosedOff (k0_off121 i k) := ⟨_, k0_off121_eq i k⟩
theorem k0_off122_eq (i : grid0.Coords) (k : Fin (k0_t5_loop i).trips) : k0_off122 i k = ![160, 512 * k.val] := by
  unfold k0_off122; simp only [col_eq k.val (t5_lt i k)]
instance (i : grid0.Coords) (k : Fin (k0_t5_loop i).trips) : ClosedOff (k0_off122 i k) := ⟨_, k0_off122_eq i k⟩
theorem k0_off123_eq (i : grid0.Coords) (k : Fin (k0_t5_loop i).trips) : k0_off123 i k = ![176, 512 * k.val] := by
  unfold k0_off123; simp only [col_eq k.val (t5_lt i k)]
instance (i : grid0.Coords) (k : Fin (k0_t5_loop i).trips) : ClosedOff (k0_off123 i k) := ⟨_, k0_off123_eq i k⟩
theorem k0_off124_eq (i : grid0.Coords) (k : Fin (k0_t5_loop i).trips) : k0_off124 i k = ![192, 512 * k.val] := by
  unfold k0_off124; simp only [col_eq k.val (t5_lt i k)]
instance (i : grid0.Coords) (k : Fin (k0_t5_loop i).trips) : ClosedOff (k0_off124 i k) := ⟨_, k0_off124_eq i k⟩
theorem k0_off125_eq (i : grid0.Coords) (k : Fin (k0_t5_loop i).trips) : k0_off125 i k = ![208, 512 * k.val] := by
  unfold k0_off125; simp only [col_eq k.val (t5_lt i k)]
instance (i : grid0.Coords) (k : Fin (k0_t5_loop i).trips) : ClosedOff (k0_off125 i k) := ⟨_, k0_off125_eq i k⟩
theorem k0_off126_eq (i : grid0.Coords) (k : Fin (k0_t5_loop i).trips) : k0_off126 i k = ![224, 512 * k.val] := by
  unfold k0_off126; simp only [col_eq k.val (t5_lt i k)]
instance (i : grid0.Coords) (k : Fin (k0_t5_loop i).trips) : ClosedOff (k0_off126 i k) := ⟨_, k0_off126_eq i k⟩
theorem k0_off127_eq (i : grid0.Coords) (k : Fin (k0_t5_loop i).trips) : k0_off127 i k = ![240, 512 * k.val] := by
  unfold k0_off127; simp only [col_eq k.val (t5_lt i k)]
instance (i : grid0.Coords) (k : Fin (k0_t5_loop i).trips) : ClosedOff (k0_off127 i k) := ⟨_, k0_off127_eq i k⟩
theorem k0_off128_eq (i : grid0.Coords) (k : Fin (k0_t5_loop i).trips) : k0_off128 i k = ![256, 512 * k.val] := by
  unfold k0_off128; simp only [col_eq k.val (t5_lt i k)]
instance (i : grid0.Coords) (k : Fin (k0_t5_loop i).trips) : ClosedOff (k0_off128 i k) := ⟨_, k0_off128_eq i k⟩
theorem k0_off129_eq (i : grid0.Coords) (k : Fin (k0_t5_loop i).trips) : k0_off129 i k = ![272, 512 * k.val] := by
  unfold k0_off129; simp only [col_eq k.val (t5_lt i k)]
instance (i : grid0.Coords) (k : Fin (k0_t5_loop i).trips) : ClosedOff (k0_off129 i k) := ⟨_, k0_off129_eq i k⟩
theorem k0_off130_eq (i : grid0.Coords) (k : Fin (k0_t5_loop i).trips) : k0_off130 i k = ![288, 512 * k.val] := by
  unfold k0_off130; simp only [col_eq k.val (t5_lt i k)]
instance (i : grid0.Coords) (k : Fin (k0_t5_loop i).trips) : ClosedOff (k0_off130 i k) := ⟨_, k0_off130_eq i k⟩
theorem k0_off131_eq (i : grid0.Coords) (k : Fin (k0_t5_loop i).trips) : k0_off131 i k = ![304, 512 * k.val] := by
  unfold k0_off131; simp only [col_eq k.val (t5_lt i k)]
instance (i : grid0.Coords) (k : Fin (k0_t5_loop i).trips) : ClosedOff (k0_off131 i k) := ⟨_, k0_off131_eq i k⟩
theorem k0_off132_eq (i : grid0.Coords) (k : Fin (k0_t5_loop i).trips) : k0_off132 i k = ![320, 512 * k.val] := by
  unfold k0_off132; simp only [col_eq k.val (t5_lt i k)]
instance (i : grid0.Coords) (k : Fin (k0_t5_loop i).trips) : ClosedOff (k0_off132 i k) := ⟨_, k0_off132_eq i k⟩
theorem k0_off133_eq (i : grid0.Coords) (k : Fin (k0_t5_loop i).trips) : k0_off133 i k = ![336, 512 * k.val] := by
  unfold k0_off133; simp only [col_eq k.val (t5_lt i k)]
instance (i : grid0.Coords) (k : Fin (k0_t5_loop i).trips) : ClosedOff (k0_off133 i k) := ⟨_, k0_off133_eq i k⟩
theorem k0_off134_eq (i : grid0.Coords) (k : Fin (k0_t5_loop i).trips) : k0_off134 i k = ![352, 512 * k.val] := by
  unfold k0_off134; simp only [col_eq k.val (t5_lt i k)]
instance (i : grid0.Coords) (k : Fin (k0_t5_loop i).trips) : ClosedOff (k0_off134 i k) := ⟨_, k0_off134_eq i k⟩
theorem k0_off135_eq (i : grid0.Coords) (k : Fin (k0_t5_loop i).trips) : k0_off135 i k = ![368, 512 * k.val] := by
  unfold k0_off135; simp only [col_eq k.val (t5_lt i k)]
instance (i : grid0.Coords) (k : Fin (k0_t5_loop i).trips) : ClosedOff (k0_off135 i k) := ⟨_, k0_off135_eq i k⟩
theorem k0_off136_eq (i : grid0.Coords) (k : Fin (k0_t5_loop i).trips) : k0_off136 i k = ![384, 512 * k.val] := by
  unfold k0_off136; simp only [col_eq k.val (t5_lt i k)]
instance (i : grid0.Coords) (k : Fin (k0_t5_loop i).trips) : ClosedOff (k0_off136 i k) := ⟨_, k0_off136_eq i k⟩
theorem k0_off137_eq (i : grid0.Coords) (k : Fin (k0_t5_loop i).trips) : k0_off137 i k = ![400, 512 * k.val] := by
  unfold k0_off137; simp only [col_eq k.val (t5_lt i k)]
instance (i : grid0.Coords) (k : Fin (k0_t5_loop i).trips) : ClosedOff (k0_off137 i k) := ⟨_, k0_off137_eq i k⟩
theorem k0_off138_eq (i : grid0.Coords) (k : Fin (k0_t5_loop i).trips) : k0_off138 i k = ![416, 512 * k.val] := by
  unfold k0_off138; simp only [col_eq k.val (t5_lt i k)]
instance (i : grid0.Coords) (k : Fin (k0_t5_loop i).trips) : ClosedOff (k0_off138 i k) := ⟨_, k0_off138_eq i k⟩
theorem k0_off139_eq (i : grid0.Coords) (k : Fin (k0_t5_loop i).trips) : k0_off139 i k = ![432, 512 * k.val] := by
  unfold k0_off139; simp only [col_eq k.val (t5_lt i k)]
instance (i : grid0.Coords) (k : Fin (k0_t5_loop i).trips) : ClosedOff (k0_off139 i k) := ⟨_, k0_off139_eq i k⟩
theorem k0_off140_eq (i : grid0.Coords) (k : Fin (k0_t5_loop i).trips) : k0_off140 i k = ![448, 512 * k.val] := by
  unfold k0_off140; simp only [col_eq k.val (t5_lt i k)]
instance (i : grid0.Coords) (k : Fin (k0_t5_loop i).trips) : ClosedOff (k0_off140 i k) := ⟨_, k0_off140_eq i k⟩
theorem k0_off141_eq (i : grid0.Coords) (k : Fin (k0_t5_loop i).trips) : k0_off141 i k = ![464, 512 * k.val] := by
  unfold k0_off141; simp only [col_eq k.val (t5_lt i k)]
instance (i : grid0.Coords) (k : Fin (k0_t5_loop i).trips) : ClosedOff (k0_off141 i k) := ⟨_, k0_off141_eq i k⟩
theorem k0_off142_eq (i : grid0.Coords) (k : Fin (k0_t5_loop i).trips) : k0_off142 i k = ![480, 512 * k.val] := by
  unfold k0_off142; simp only [col_eq k.val (t5_lt i k)]
instance (i : grid0.Coords) (k : Fin (k0_t5_loop i).trips) : ClosedOff (k0_off142 i k) := ⟨_, k0_off142_eq i k⟩
theorem k0_off143_eq (i : grid0.Coords) (k : Fin (k0_t5_loop i).trips) : k0_off143 i k = ![496, 512 * k.val] := by
  unfold k0_off143; simp only [col_eq k.val (t5_lt i k)]
instance (i : grid0.Coords) (k : Fin (k0_t5_loop i).trips) : ClosedOff (k0_off143 i k) := ⟨_, k0_off143_eq i k⟩
theorem k0_off144_eq (i : grid0.Coords) (k : Fin (k0_t5_loop i).trips) : k0_off144 i k = ![512, 512 * k.val] := by
  unfold k0_off144; simp only [col_eq k.val (t5_lt i k)]
instance (i : grid0.Coords) (k : Fin (k0_t5_loop i).trips) : ClosedOff (k0_off144 i k) := ⟨_, k0_off144_eq i k⟩
theorem k0_off145_eq (i : grid0.Coords) (k : Fin (k0_t5_loop i).trips) : k0_off145 i k = ![528, 512 * k.val] := by
  unfold k0_off145; simp only [col_eq k.val (t5_lt i k)]
instance (i : grid0.Coords) (k : Fin (k0_t5_loop i).trips) : ClosedOff (k0_off145 i k) := ⟨_, k0_off145_eq i k⟩
theorem k0_off146_eq (i : grid0.Coords) (k : Fin (k0_t5_loop i).trips) : k0_off146 i k = ![544, 512 * k.val] := by
  unfold k0_off146; simp only [col_eq k.val (t5_lt i k)]
instance (i : grid0.Coords) (k : Fin (k0_t5_loop i).trips) : ClosedOff (k0_off146 i k) := ⟨_, k0_off146_eq i k⟩
theorem k0_off147_eq (i : grid0.Coords) (k : Fin (k0_t5_loop i).trips) : k0_off147 i k = ![560, 512 * k.val] := by
  unfold k0_off147; simp only [col_eq k.val (t5_lt i k)]
instance (i : grid0.Coords) (k : Fin (k0_t5_loop i).trips) : ClosedOff (k0_off147 i k) := ⟨_, k0_off147_eq i k⟩
theorem k0_off148_eq (i : grid0.Coords) (k : Fin (k0_t5_loop i).trips) : k0_off148 i k = ![576, 512 * k.val] := by
  unfold k0_off148; simp only [col_eq k.val (t5_lt i k)]
instance (i : grid0.Coords) (k : Fin (k0_t5_loop i).trips) : ClosedOff (k0_off148 i k) := ⟨_, k0_off148_eq i k⟩
theorem k0_off149_eq (i : grid0.Coords) (k : Fin (k0_t5_loop i).trips) : k0_off149 i k = ![592, 512 * k.val] := by
  unfold k0_off149; simp only [col_eq k.val (t5_lt i k)]
instance (i : grid0.Coords) (k : Fin (k0_t5_loop i).trips) : ClosedOff (k0_off149 i k) := ⟨_, k0_off149_eq i k⟩
theorem k0_off150_eq (i : grid0.Coords) (k : Fin (k0_t5_loop i).trips) : k0_off150 i k = ![608, 512 * k.val] := by
  unfold k0_off150; simp only [col_eq k.val (t5_lt i k)]
instance (i : grid0.Coords) (k : Fin (k0_t5_loop i).trips) : ClosedOff (k0_off150 i k) := ⟨_, k0_off150_eq i k⟩
theorem k0_off151_eq (i : grid0.Coords) (k : Fin (k0_t5_loop i).trips) : k0_off151 i k = ![624, 512 * k.val] := by
  unfold k0_off151; simp only [col_eq k.val (t5_lt i k)]
instance (i : grid0.Coords) (k : Fin (k0_t5_loop i).trips) : ClosedOff (k0_off151 i k) := ⟨_, k0_off151_eq i k⟩
theorem k0_off152_eq (i : grid0.Coords) (k : Fin (k0_t5_loop i).trips) : k0_off152 i k = ![640, 512 * k.val] := by
  unfold k0_off152; simp only [col_eq k.val (t5_lt i k)]
instance (i : grid0.Coords) (k : Fin (k0_t5_loop i).trips) : ClosedOff (k0_off152 i k) := ⟨_, k0_off152_eq i k⟩
theorem k0_off153_eq (i : grid0.Coords) (k : Fin (k0_t5_loop i).trips) : k0_off153 i k = ![656, 512 * k.val] := by
  unfold k0_off153; simp only [col_eq k.val (t5_lt i k)]
instance (i : grid0.Coords) (k : Fin (k0_t5_loop i).trips) : ClosedOff (k0_off153 i k) := ⟨_, k0_off153_eq i k⟩
theorem k0_off154_eq (i : grid0.Coords) (k : Fin (k0_t5_loop i).trips) : k0_off154 i k = ![672, 512 * k.val] := by
  unfold k0_off154; simp only [col_eq k.val (t5_lt i k)]
instance (i : grid0.Coords) (k : Fin (k0_t5_loop i).trips) : ClosedOff (k0_off154 i k) := ⟨_, k0_off154_eq i k⟩
theorem k0_off155_eq (i : grid0.Coords) (k : Fin (k0_t5_loop i).trips) : k0_off155 i k = ![688, 512 * k.val] := by
  unfold k0_off155; simp only [col_eq k.val (t5_lt i k)]
instance (i : grid0.Coords) (k : Fin (k0_t5_loop i).trips) : ClosedOff (k0_off155 i k) := ⟨_, k0_off155_eq i k⟩
theorem k0_off156_eq (i : grid0.Coords) (k : Fin (k0_t5_loop i).trips) : k0_off156 i k = ![704, 512 * k.val] := by
  unfold k0_off156; simp only [col_eq k.val (t5_lt i k)]
instance (i : grid0.Coords) (k : Fin (k0_t5_loop i).trips) : ClosedOff (k0_off156 i k) := ⟨_, k0_off156_eq i k⟩
theorem k0_off157_eq (i : grid0.Coords) (k : Fin (k0_t5_loop i).trips) : k0_off157 i k = ![720, 512 * k.val] := by
  unfold k0_off157; simp only [col_eq k.val (t5_lt i k)]
instance (i : grid0.Coords) (k : Fin (k0_t5_loop i).trips) : ClosedOff (k0_off157 i k) := ⟨_, k0_off157_eq i k⟩
theorem k0_off158_eq (i : grid0.Coords) (k : Fin (k0_t5_loop i).trips) : k0_off158 i k = ![736, 512 * k.val] := by
  unfold k0_off158; simp only [col_eq k.val (t5_lt i k)]
instance (i : grid0.Coords) (k : Fin (k0_t5_loop i).trips) : ClosedOff (k0_off158 i k) := ⟨_, k0_off158_eq i k⟩
theorem k0_off159_eq (i : grid0.Coords) (k : Fin (k0_t5_loop i).trips) : k0_off159 i k = ![752, 512 * k.val] := by
  unfold k0_off159; simp only [col_eq k.val (t5_lt i k)]
instance (i : grid0.Coords) (k : Fin (k0_t5_loop i).trips) : ClosedOff (k0_off159 i k) := ⟨_, k0_off159_eq i k⟩

end Cert.Proof.Kernel
-- ==== Proof.K.Body.lean ====
/-
  The kernel body, run once at a grid point: it faults nowhere, leaves its input windows as it
  found them, and leaves something in each output window and scratch buffer.  The two loops whose
  invariants are not generated are given theirs here.
-/
module

public import proofs.«01_k».proof.Proof.K.Offsets
public import proofs.«01_k».proof.Proof.Gen.Kernel.Loops

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none

local notation "𝕄" => MT nD τ sig Unit (Elt F) ℕ (UU nD τ) ℕ

/-- Memref `M`'s contents on core `c`, and its elements held at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

set_option maxHeartbeats 4000000 in
/-- The first tile loop: the read-only buffers keep their contents, the three written ones hold something. -/
@[sl_loop, instance_reducible] def loopInv_k0_t1 (c : Dev nD) (i : grid0.Coords) (arg2 : Memref sig .tc .vmem S1x1x320x576 .fp8e4m3) (harg2 : arg2.IsWhole) (arg3 : Memref sig .tc .vmem S1x16x20 .f32) (harg3 : arg3.IsWhole) (arg4 : Memref sig .tc .vmem S1x16x20 .f32) (harg4 : arg4.IsWhole) (arg5 : Memref sig .tc .vmem S1x1x768x128 .fp8e4m3) (harg5 : arg5.IsWhole) (arg6 : Memref sig .tc .vmem S1x16x48 .f32) (harg6 : arg6.IsWhole) (arg7 : Memref sig .tc .vmem S1x16x48 .f32) (harg7 : arg7.IsWhole) (arg8 : Memref sig .tc .vmem S1x1x1x768 .f32) (harg8 : arg8.IsWhole) (arg9 : Memref sig .tc .vmem S1x576x8192 .fp8e4m3) (harg9 : arg9.IsWhole) (arg10 : Memref sig .tc .vmem S1x1x8192 .f32) (harg10 : arg10.IsWhole) (arg11 : Memref sig .tc .vmem S1x128x8192 .fp8e4m3) (harg11 : arg11.IsWhole) (arg12 : Memref sig .tc .vmem S1x1x8192 .f32) (harg12 : arg12.IsWhole) (arg13 : Memref sig .tc .vmem S1x8192x128 .fp8e4m3) (harg13 : arg13.IsWhole) (arg14 : Memref sig .tc .vmem S1x8192x1 .f32) (harg14 : arg14.IsWhole) (arg15 : Memref sig .tc .vmem S1x16x1 .f32) (harg15 : arg15.IsWhole) (arg16 : Memref sig .tc .vmem S1x16x48x128 .f32) (harg16 : arg16.IsWhole) (arg17 : Memref sig .tc .vmem S1x128x8192 .f32) (harg17 : arg17.IsWhole) (arg18 : Memref sig .tc .vmem S1x16x48 .f32) (harg18 : arg18.IsWhole) (arg19 : Memref sig .tc .vmem S768x8192 .f32) (harg19 : arg19.IsWhole) (arg20 : Memref sig .tc .vmem S16x8192 .f32) (harg20 : arg20.IsWhole) (arg21 : Memref sig .tc .vmem S16x8192 .f32) (harg21 : arg21.IsWhole) (arg22 : Memref sig .tc .vmem S768x128 .f32) (harg22 : arg22.IsWhole) (arg23 : Memref sig .tc .vmem S768x128 .f32) (harg23 : arg23.IsWhole) (arg24 : Memref sig .tc .vmem S320x128 .f32) (harg24 : arg24.IsWhole) (arg25 : Memref sig .tc .vmem S320x128 .f32) (harg25 : arg25.IsWhole) (arg26 : Memref sig .tc .vmem S128x768 .bf16) (harg26 : arg26.IsWhole) (arg27 : Memref sig .tc .vmem S768x128 .f32) (harg27 : arg27.IsWhole) (arg28 : Memref sig .tc .vmem S768x128 .f32) (harg28 : arg28.IsWhole) (arg1 : BitVec 32)  (v18 : BitVec 32) (v927 : FVec F S16x128 .f32) (v928 : Vec F S16x128 .f32) (v948 : IVec S16x512 32)
  (f2 : Bf (F := F) c arg2) (f5 : Bf (F := F) c arg5) (f9 : Bf (F := F) c arg9) (f10 : Bf (F := F) c arg10) (f11 : Bf (F := F) c arg11) (f12 : Bf (F := F) c arg12) (f22 : Bf (F := F) c arg22) (f24 : Bf (F := F) c arg24) (f25 : Bf (F := F) c arg25) (init : FVec F S16x128 .f32) :
    Gen.LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg1 v18 v927 v928 v948 init where
  inv := fun _ _ => iprop(pt c arg2 f2 ∗ pt c arg5 f5 ∗ pt c arg9 f9 ∗ pt c arg10 f10 ∗ pt c arg11 f11 ∗ pt c arg12 f12 ∗ pt c arg22 f22 ∗ pt c arg24 f24 ∗ pt c arg25 f25 ∗ (∃ f, pt c arg19 f) ∗ (∃ f, pt c arg20 f) ∗ (∃ f, pt c arg21 f))
  step := fun k acc => by
    iintro ⟨H2, H5, H9, H10, H11, H12, H22, H24, H25, ⟨%f19, H19⟩, ⟨%f20, H20⟩, ⟨%f21, H21⟩⟩
    unfold Gen.k0_t1_body
    sl_exec_parts
    sl_step
    sl_close

/-- The remainder loop after it makes no trip. -/
@[sl_loop, instance_reducible] def loopInv_k0_t2 (c : Dev nD) (i : grid0.Coords) (arg2 : Memref sig .tc .vmem S1x1x320x576 .fp8e4m3) (harg2 : arg2.IsWhole) (arg3 : Memref sig .tc .vmem S1x16x20 .f32) (harg3 : arg3.IsWhole) (arg4 : Memref sig .tc .vmem S1x16x20 .f32) (harg4 : arg4.IsWhole) (arg5 : Memref sig .tc .vmem S1x1x768x128 .fp8e4m3) (harg5 : arg5.IsWhole) (arg6 : Memref sig .tc .vmem S1x16x48 .f32) (harg6 : arg6.IsWhole) (arg7 : Memref sig .tc .vmem S1x16x48 .f32) (harg7 : arg7.IsWhole) (arg8 : Memref sig .tc .vmem S1x1x1x768 .f32) (harg8 : arg8.IsWhole) (arg9 : Memref sig .tc .vmem S1x576x8192 .fp8e4m3) (harg9 : arg9.IsWhole) (arg10 : Memref sig .tc .vmem S1x1x8192 .f32) (harg10 : arg10.IsWhole) (arg11 : Memref sig .tc .vmem S1x128x8192 .fp8e4m3) (harg11 : arg11.IsWhole) (arg12 : Memref sig .tc .vmem S1x1x8192 .f32) (harg12 : arg12.IsWhole) (arg13 : Memref sig .tc .vmem S1x8192x128 .fp8e4m3) (harg13 : arg13.IsWhole) (arg14 : Memref sig .tc .vmem S1x8192x1 .f32) (harg14 : arg14.IsWhole) (arg15 : Memref sig .tc .vmem S1x16x1 .f32) (harg15 : arg15.IsWhole) (arg16 : Memref sig .tc .vmem S1x16x48x128 .f32) (harg16 : arg16.IsWhole) (arg17 : Memref sig .tc .vmem S1x128x8192 .f32) (harg17 : arg17.IsWhole) (arg18 : Memref sig .tc .vmem S1x16x48 .f32) (harg18 : arg18.IsWhole) (arg19 : Memref sig .tc .vmem S768x8192 .f32) (harg19 : arg19.IsWhole) (arg20 : Memref sig .tc .vmem S16x8192 .f32) (harg20 : arg20.IsWhole) (arg21 : Memref sig .tc .vmem S16x8192 .f32) (harg21 : arg21.IsWhole) (arg22 : Memref sig .tc .vmem S768x128 .f32) (harg22 : arg22.IsWhole) (arg23 : Memref sig .tc .vmem S768x128 .f32) (harg23 : arg23.IsWhole) (arg24 : Memref sig .tc .vmem S320x128 .f32) (harg24 : arg24.IsWhole) (arg25 : Memref sig .tc .vmem S320x128 .f32) (harg25 : arg25.IsWhole) (arg26 : Memref sig .tc .vmem S128x768 .bf16) (harg26 : arg26.IsWhole) (arg27 : Memref sig .tc .vmem S768x128 .f32) (harg27 : arg27.IsWhole) (arg28 : Memref sig .tc .vmem S768x128 .f32) (harg28 : arg28.IsWhole) (arg1 : BitVec 32)  (v18 : BitVec 32) (v927 : FVec F S16x128 .f32) (v928 : Vec F S16x128 .f32) (v948 : IVec S16x512 32) (v954 : BitVec 32) (init : FVec F S16x128 .f32) :
    Gen.LoopInvTy_k0_t2 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg1 v18 v927 v928 v948 v954 init where
  inv := fun _ acc => iprop(⌜acc = init⌝)
  step := fun k _ => absurd (lt_of_lt_of_eq k.isLt (t2_trips i)) (Nat.not_lt_zero _)

set_option maxHeartbeats 40000000 in
/-- The whole body. -/
theorem body_run (c : Dev nD) (i : grid0.Coords) (arg2 : Memref sig .tc .vmem S1x1x320x576 .fp8e4m3) (harg2 : arg2.IsWhole) (arg3 : Memref sig .tc .vmem S1x16x20 .f32) (harg3 : arg3.IsWhole) (arg4 : Memref sig .tc .vmem S1x16x20 .f32) (harg4 : arg4.IsWhole) (arg5 : Memref sig .tc .vmem S1x1x768x128 .fp8e4m3) (harg5 : arg5.IsWhole) (arg6 : Memref sig .tc .vmem S1x16x48 .f32) (harg6 : arg6.IsWhole) (arg7 : Memref sig .tc .vmem S1x16x48 .f32) (harg7 : arg7.IsWhole) (arg8 : Memref sig .tc .vmem S1x1x1x768 .f32) (harg8 : arg8.IsWhole) (arg9 : Memref sig .tc .vmem S1x576x8192 .fp8e4m3) (harg9 : arg9.IsWhole) (arg10 : Memref sig .tc .vmem S1x1x8192 .f32) (harg10 : arg10.IsWhole) (arg11 : Memref sig .tc .vmem S1x128x8192 .fp8e4m3) (harg11 : arg11.IsWhole) (arg12 : Memref sig .tc .vmem S1x1x8192 .f32) (harg12 : arg12.IsWhole) (arg13 : Memref sig .tc .vmem S1x8192x128 .fp8e4m3) (harg13 : arg13.IsWhole) (arg14 : Memref sig .tc .vmem S1x8192x1 .f32) (harg14 : arg14.IsWhole) (arg15 : Memref sig .tc .vmem S1x16x1 .f32) (harg15 : arg15.IsWhole) (arg16 : Memref sig .tc .vmem S1x16x48x128 .f32) (harg16 : arg16.IsWhole) (arg17 : Memref sig .tc .vmem S1x128x8192 .f32) (harg17 : arg17.IsWhole) (arg18 : Memref sig .tc .vmem S1x16x48 .f32) (harg18 : arg18.IsWhole) (arg19 : Memref sig .tc .vmem S768x8192 .f32) (harg19 : arg19.IsWhole) (arg20 : Memref sig .tc .vmem S16x8192 .f32) (harg20 : arg20.IsWhole) (arg21 : Memref sig .tc .vmem S16x8192 .f32) (harg21 : arg21.IsWhole) (arg22 : Memref sig .tc .vmem S768x128 .f32) (harg22 : arg22.IsWhole) (arg23 : Memref sig .tc .vmem S768x128 .f32) (harg23 : arg23.IsWhole) (arg24 : Memref sig .tc .vmem S320x128 .f32) (harg24 : arg24.IsWhole) (arg25 : Memref sig .tc .vmem S320x128 .f32) (harg25 : arg25.IsWhole) (arg26 : Memref sig .tc .vmem S128x768 .bf16) (harg26 : arg26.IsWhole) (arg27 : Memref sig .tc .vmem S768x128 .f32) (harg27 : arg27.IsWhole) (arg28 : Memref sig .tc .vmem S768x128 .f32) (harg28 : arg28.IsWhole)
  (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27) (f28 : Bf (F := F) c arg28)
  (K : PUnit → sProp 𝕄) :
  iprop((pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ pt c arg28 f28) ∗ ((pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ (∃ f, pt c arg15 f) ∗ (∃ f, pt c arg16 f) ∗ (∃ f, pt c arg17 f) ∗ (∃ f, pt c arg18 f) ∗ (∃ f, pt c arg19 f) ∗ (∃ f, pt c arg20 f) ∗ (∃ f, pt c arg21 f) ∗ (∃ f, pt c arg22 f) ∗ (∃ f, pt c arg23 f) ∗ (∃ f, pt c arg24 f) ∗ (∃ f, pt c arg25 f) ∗ (∃ f, pt c arg26 f) ∗ (∃ f, pt c arg27 f) ∗ (∃ f, pt c arg28 f)) -∗ K ⟨⟩)) ⊢ wp frame (wpE (defs₀ (F := F)) 𝒱₀ (c : Thread nD τ) none) Set.univ
    (cc0_indexer_kl_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  iintro ⟨⟨H2, H3, H4, H5, H6, H7, H8, H9, H10, H11, H12, H13, H14, H15, H16, H17, H18, H19, H20, H21, H22, H23, H24, H25, H26, H27, H28⟩, HK⟩
  simp only [Gen.cc0_indexer_kl_bwd_eq_skeleton]
  unfold Gen.cc0_indexer_kl_bwd_skel
  sl_exec_parts
  sl_step
  iapply HK
  sl_close

end Cert.Proof.Kernel
-- ==== Proof.K.Frame.lean ====
/-
  The program terminates, faults nowhere, leaves its argument arrays as they were and every
  semaphore at zero: the pipeline's frame theorem at relational proof data, in which every input
  window is left as found and nothing is said of the output windows.
-/
module

public import proofs.«01_k».proof.Proof.K.Body
public import proofs.«01_k».proof.Proof.Gen.Kernel.Frame

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]

local notation "𝕄" => MT nD τ sig Unit (Elt F) ℕ (UU nD τ) ℕ

/-- The body as the pipeline calls it at point `t`. -/
theorem defs₀_row (t : Fin cfg0.N) :
    defs₀ (F := F) .tc cfg0.body (cfg0.bodyArgs t (cfg0.slots t)) = Gen.bodyAt0 (F := F) t := by
  unfold defs₀; rw [Defs.onTc_tc]

/-- A whole buffer held, read as the whole-buffer memref held. -/
theorem pt_whole (c : Dev nD) (b : Ref sig .tc) (f : Buf (Elt F) ((c : Thread nD τ).loc b)) :
    (((c : Thread nD τ).loc b) ↦{fullShare} f : sProp 𝕄) = pt c (Memref.whole b) f := by
  simp only [pt, Memref.view_whole, View.set_whole]

variable (m : (ℓ : Loc nD τ sig) → Buf (Elt F) ℓ) (ρ : Dev nD → PrngReg)

/-- The proof data: arrays as the region finds them, a relation `R` for what the body leaves in the output windows. -/
abbrev rdat (R : Dev nD → (w : Fin cfg0.W) → Fin cfg0.N → (Y X : (cfg0.win w).block.Idx → Elt F (cfg0.win w).elt) → Prop) (c : Dev nD) :
    RDat τ (Elt F) Unit ℕ (UR sig nD τ) ℕ cfg0 c where
  A w := Gen.V m c (Pipeline.arrRef spec0 w)
  after w t Y X := if (cfg0.win w).isOut then R c w t Y X else X = Y
  Φ _ := Pipeline.ΦA spec0 c
  q _ := fullShare
  owed _ := 0

/-- Nothing said of the outputs. -/
abbrev anyOut (_ : Dev nD) (w : Fin cfg0.W) (_ : Fin cfg0.N) (_ _ : (cfg0.win w).block.Idx → Elt F (cfg0.win w).elt) : Prop := True

set_option maxHeartbeats 4000000 in
theorem body_obligation (c : Dev nD) : (rdat m anyOut c).BodyObligation (defs₀ (F := F)) 𝒱₀ () Set.univ := by
  intro t Y _
  rw [Gen.bigSep_W0, Gen.bigSep_W0, defs₀_row]
  simp only [Pipeline.ΦA, Gen.scopedRest0_eq, pt_whole, owns]
  iintro ⟨⟨⟨⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩, HP⟩, HO, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩⟩
  iapply (body_run (F := F) c (grid0.coords t) (win0_0.stage (cfg0.slots t 0)) (Gen.hstage0_0 (cfg0.slots t 0)) (win0_1.stage (cfg0.slots t 1)) (Gen.hstage0_1 (cfg0.slots t 1)) (win0_2.stage (cfg0.slots t 2)) (Gen.hstage0_2 (cfg0.slots t 2)) (win0_3.stage (cfg0.slots t 3)) (Gen.hstage0_3 (cfg0.slots t 3)) (win0_4.stage (cfg0.slots t 4)) (Gen.hstage0_4 (cfg0.slots t 4)) (win0_5.stage (cfg0.slots t 5)) (Gen.hstage0_5 (cfg0.slots t 5)) (win0_6.stage (cfg0.slots t 6)) (Gen.hstage0_6 (cfg0.slots t 6)) (win0_7.stage (cfg0.slots t 7)) (Gen.hstage0_7 (cfg0.slots t 7)) (win0_8.stage (cfg0.slots t 8)) (Gen.hstage0_8 (cfg0.slots t 8)) (win0_9.stage (cfg0.slots t 9)) (Gen.hstage0_9 (cfg0.slots t 9)) (win0_10.stage (cfg0.slots t 10)) (Gen.hstage0_10 (cfg0.slots t 10)) (win0_11.stage (cfg0.slots t 11)) (Gen.hstage0_11 (cfg0.slots t 11)) (win0_12.stage (cfg0.slots t 12)) (Gen.hstage0_12 (cfg0.slots t 12)) (win0_13.stage (cfg0.slots t 13)) (Gen.hstage0_13 (cfg0.slots t 13)) (win0_14.stage (cfg0.slots t 14)) (Gen.hstage0_14 (cfg0.slots t 14)) (win0_15.stage (cfg0.slots t 15)) (Gen.hstage0_15 (cfg0.slots t 15)) (win0_16.stage (cfg0.slots t 16)) (Gen.hstage0_16 (cfg0.slots t 16)) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) f2 f3 f4 f5 f6 f7 f8 f9 f10 f11 f12 f13 f14 f15 f16 f17 f18 f19 f20 f21 f22 f23 f24 f25 f26 f27 f28)
  isplitl [H2 H3 H4 H5 H6 H7 H8 H9 H10 H11 H12 H13 H14 H15 H16 H17 H18 H19 H20 H21 H22 H23 H24 H25 H26 H27 H28]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    iexact H28
  iintro ⟨H2, H3, H4, H5, H6, H7, H8, H9, H10, H11, H12, H13, H14, ⟨%g15, H15⟩, ⟨%g16, H16⟩, ⟨%g17, H17⟩, ⟨%g18, H18⟩, ⟨%g19, H19⟩, ⟨%g20, H20⟩, ⟨%g21, H21⟩, ⟨%g22, H22⟩, ⟨%g23, H23⟩, ⟨%g24, H24⟩, ⟨%g25, H25⟩, ⟨%g26, H26⟩, ⟨%g27, H27⟩, ⟨%g28, H28⟩⟩
  isplitl [H19 H20 H21 H22 H23 H24 H25 H26 H27 H28 HP]
  · isplitl [H19 H20 H21 H22 H23 H24 H25 H26 H27 H28]
    · isplitl [H19]; · iexists g19; iexact H19
      isplitl [H20]; · iexists g20; iexact H20
      isplitl [H21]; · iexists g21; iexact H21
      isplitl [H22]; · iexists g22; iexact H22
      isplitl [H23]; · iexists g23; iexact H23
      isplitl [H24]; · iexists g24; iexact H24
      isplitl [H25]; · iexists g25; iexact H25
      isplitl [H26]; · iexists g26; iexact H26
      isplitl [H27]; · iexists g27; iexact H27
      iexists g28; iexact H28
    · iexact HP
  isplitl [HO]; · iexact HO
  isplitl [H2]
  · iexists _; isplitr; · ipureintro; exact rfl
    iexists f2; isplitr; · ipureintro; exact h2
    iexact H2
  isplitl [H3]
  · iexists _; isplitr; · ipureintro; exact rfl
    iexists f3; isplitr; · ipureintro; exact h3
    iexact H3
  isplitl [H4]
  · iexists _; isplitr; · ipureintro; exact rfl
    iexists f4; isplitr; · ipureintro; exact h4
    iexact H4
  isplitl [H5]
  · iexists _; isplitr; · ipureintro; exact rfl
    iexists f5; isplitr; · ipureintro; exact h5
    iexact H5
  isplitl [H6]
  · iexists _; isplitr; · ipureintro; exact rfl
    iexists f6; isplitr; · ipureintro; exact h6
    iexact H6
  isplitl [H7]
  · iexists _; isplitr; · ipureintro; exact rfl
    iexists f7; isplitr; · ipureintro; exact h7
    iexact H7
  isplitl [H8]
  · iexists _; isplitr; · ipureintro; exact rfl
    iexists f8; isplitr; · ipureintro; exact h8
    iexact H8
  isplitl [H9]
  · iexists _; isplitr; · ipureintro; exact rfl
    iexists f9; isplitr; · ipureintro; exact h9
    iexact H9
  isplitl [H10]
  · iexists _; isplitr; · ipureintro; exact rfl
    iexists f10; isplitr; · ipureintro; exact h10
    iexact H10
  isplitl [H11]
  · iexists _; isplitr; · ipureintro; exact rfl
    iexists f11; isplitr; · ipureintro; exact h11
    iexact H11
  isplitl [H12]
  · iexists _; isplitr; · ipureintro; exact rfl
    iexists f12; isplitr; · ipureintro; exact h12
    iexact H12
  isplitl [H13]
  · iexists _; isplitr; · ipureintro; exact rfl
    iexists f13; isplitr; · ipureintro; exact h13
    iexact H13
  isplitl [H14]
  · iexists _; isplitr; · ipureintro; exact rfl
    iexists f14; isplitr; · ipureintro; exact h14
    iexact H14
  isplitl [H15]
  · iexists (View.read (Elt F) (win0_13.stage (cfg0.slots t 13)).view g15); isplitr; · ipureintro; exact trivial
    iexists g15; isplitr; · ipureintro; exact rfl
    iexact H15
  isplitl [H16]
  · iexists (View.read (Elt F) (win0_14.stage (cfg0.slots t 14)).view g16); isplitr; · ipureintro; exact trivial
    iexists g16; isplitr; · ipureintro; exact rfl
    iexact H16
  isplitl [H17]
  · iexists (View.read (Elt F) (win0_15.stage (cfg0.slots t 15)).view g17); isplitr; · ipureintro; exact trivial
    iexists g17; isplitr; · ipureintro; exact rfl
    iexact H17
  iexists (View.read (Elt F) (win0_16.stage (cfg0.slots t 16)).view g18); isplitr; · ipureintro; exact trivial
  iexists g18; isplitr; · ipureintro; exact rfl
  iexact H18

/-- The frame claim. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  refine RDat.θ_run_frame cfgs 0 Gen.launch0 defs₀ 𝒱₀ (rdat m anyOut) m ρ main (body_obligation m)
    (fun c w => by simp only [RDat.share, ite_self]) (fun _ _ => rfl) (Gen.V m) (Gen.hmain m 𝒱₀) (fun _ _ => rfl) (fun _ _ => rfl) _ ?_
  rintro r ⟨h, hs⟩
  refine ⟨fun c => ⟨((h c).2 main_arg0 (Pipeline.mem_restRefs_of main_arg0 (by decide) (by decide))).trans (Gen.V_main_arg0 m c),
    (h.arr_in c 1 rfl).trans (Gen.V_main_arg1 m c),
    ((h c).2 main_arg2 (Pipeline.mem_restRefs_of main_arg2 (by decide) (by decide))).trans (Gen.V_main_arg2 m c),
    ((h c).2 main_arg3 (Pipeline.mem_restRefs_of main_arg3 (by decide) (by decide))).trans (Gen.V_main_arg3 m c),
    ((h c).2 main_arg4 (Pipeline.mem_restRefs_of main_arg4 (by decide) (by decide))).trans (Gen.V_main_arg4 m c),
    ((h c).2 main_arg5 (Pipeline.mem_restRefs_of main_arg5 (by decide) (by decide))).trans (Gen.V_main_arg5 m c),
    (h.arr_in c 5 rfl).trans (Gen.V_main_arg6 m c),
    (h.arr_in c 11 rfl).trans (Gen.V_main_arg7 m c),
    ((h c).2 main_arg8 (Pipeline.mem_restRefs_of main_arg8 (by decide) (by decide))).trans (Gen.V_main_arg8 m c),
    ((h c).2 main_arg9 (Pipeline.mem_restRefs_of main_arg9 (by decide) (by decide))).trans (Gen.V_main_arg9 m c)⟩, hs⟩

end Cert.Proof.Kernel
-- ==== Proof.KI.Offsets.lean ====
/-
  The offsets and the trip counts of the counted loops of `KernelIdeal`, in closed form: at grid point `i` each tile loop
  makes `(i 1) / 32 + 1` trips, its remainder loop none, and trip `k` works on the 512 columns from `512 * k`.
-/
module

public import proofs.«01_k».proof.Proof.Gen.KernelIdeal.Skeleton
public import Idealize.ShloMosaic.Lib.Exec
public import Idealize.ShloMosaic.Lib.Tactic
public import Idealize.ShloMosaic.Lib.Pipeline.Kit

@[expose] public section

noncomputable section

namespace Cert.Proof.KernelIdeal

open Cert.KernelIdeal
open Idealize.ShloMosaic Idealize.ShloMosaic.TcCoe Idealize.ShloMosaic.Tactic

/-- The column a tile loop's trip starts at: the induction variable times 512, which does not wrap. -/
theorem col_eq (k : Nat) (hk : k < 16) :
    (Scalar.indexCast (Scalar.muli (Scf.iv 0#32 1#32 k) 512#32) : Index).toNat = 512 * k := by
  have h : ∀ k : Fin 16, (Scalar.indexCast (Scalar.muli (Scf.iv 0#32 1#32 k.val) 512#32) : Index).toNat = 512 * k.val := by
    decide
  exact h ⟨k, hk⟩

/-- The trip count of the first tile loop: the tiles of keys not after the last of the block's rows. -/
theorem t1_trips : ∀ i : grid0.Coords, (k0_t1_loop i).trips = (i 1).val / 32 + 1 := by decide +kernel
theorem t3_trips : ∀ i : grid0.Coords, (k0_t3_loop i).trips = (i 1).val / 32 + 1 := by decide +kernel
theorem t5_trips : ∀ i : grid0.Coords, (k0_t5_loop i).trips = (i 1).val / 32 + 1 := by decide +kernel
/-- The remainder loops make no trip. -/
theorem t2_trips : ∀ i : grid0.Coords, (k0_t2_loop i).trips = 0 := by decide +kernel
theorem t4_trips : ∀ i : grid0.Coords, (k0_t4_loop i).trips = 0 := by decide +kernel
theorem t6_trips : ∀ i : grid0.Coords, (k0_t6_loop i).trips = 0 := by decide +kernel

theorem t1_lt (i : grid0.Coords) (k : Fin (k0_t1_loop i).trips) : k.val < 16 :=
  Nat.lt_of_lt_of_le k.isLt (Gen.k0_t1_abs i).2.1
theorem t3_lt (i : grid0.Coords) (k : Fin (k0_t3_loop i).trips) : k.val < 16 :=
  Nat.lt_of_lt_of_le k.isLt (Gen.k0_t3_abs i).2.1
theorem t5_lt (i : grid0.Coords) (k : Fin (k0_t5_loop i).trips) : k.val < 16 :=
  Nat.lt_of_lt_of_le k.isLt (Gen.k0_t5_abs i).2.1

/-! ### The offsets of the loads and stores of a trip -/

theorem k0_off1_eq (i : grid0.Coords) (k : Fin (k0_t1_loop i).trips) : k0_off1 i k = ![0, 0, 512 * k.val] := by
  unfold k0_off1; simp only [col_eq k.val (t1_lt i k)]
instance (i : grid0.Coords) (k : Fin (k0_t1_loop i).trips) : ClosedOff (k0_off1 i k) := ⟨_, k0_off1_eq i k⟩
theorem k0_off2_eq (i : grid0.Coords) (k : Fin (k0_t1_loop i).trips) : k0_off2 i k = ![0, 512 * k.val] := by
  unfold k0_off2; simp only [col_eq k.val (t1_lt i k)]
instance (i : grid0.Coords) (k : Fin (k0_t1_loop i).trips) : ClosedOff (k0_off2 i k) := ⟨_, k0_off2_eq i k⟩
theorem k0_off3_eq (i : grid0.Coords) (k : Fin (k0_t1_loop i).trips) : k0_off3 i k = ![16, 512 * k.val] := by
  unfold k0_off3; simp only [col_eq k.val (t1_lt i k)]
instance (i : grid0.Coords) (k : Fin (k0_t1_loop i).trips) : ClosedOff (k0_off3 i k) := ⟨_, k0_off3_eq i k⟩
theorem k0_off4_eq (i : grid0.Coords) (k : Fin (k0_t1_loop i).trips) : k0_off4 i k = ![32, 512 * k.val] := by
  unfold k0_off4; simp only [col_eq k.val (t1_lt i k)]
instance (i : grid0.Coords) (k : Fin (k0_t1_loop i).trips) : ClosedOff (k0_off4 i k) := ⟨_, k0_off4_eq i k⟩
theorem k0_off5_eq (i : grid0.Coords) (k : Fin (k0_t1_loop i).trips) : k0_off5 i k = ![48, 512 * k.val] := by
  unfold k0_off5; simp only [col_eq k.val (t1_lt i k)]
instance (i : grid0.Coords) (k : Fin (k0_t1_loop i).trips) : ClosedOff (k0_off5 i k) := ⟨_, k0_off5_eq i k⟩
theorem k0_off6_eq (i : grid0.Coords) (k : Fin (k0_t1_loop i).trips) : k0_off6 i k = ![64, 512 * k.val] := by
  unfold k0_off6; simp only [col_eq k.val (t1_lt i k)]
instance (i : grid0.Coords) (k : Fin (k0_t1_loop i).trips) : ClosedOff (k0_off6 i k) := ⟨_, k0_off6_eq i k⟩
theorem k0_off7_eq (i : grid0.Coords) (k : Fin (k0_t1_loop i).trips) : k0_off7 i k = ![80, 512 * k.val] := by
  unfold k0_off7; simp only [col_eq k.val (t1_lt i k)]
instance (i : grid0.Coords) (k : Fin (k0_t1_loop i).trips) : ClosedOff (k0_off7 i k) := ⟨_, k0_off7_eq i k⟩
theorem k0_off8_eq (i : grid0.Coords) (k : Fin (k0_t1_loop i).trips) : k0_off8 i k = ![96, 512 * k.val] := by
  unfold k0_off8; simp only [col_eq k.val (t1_lt i k)]
instance (i : grid0.Coords) (k : Fin (k0_t1_loop i).trips) : ClosedOff (k0_off8 i k) := ⟨_, k0_off8_eq i k⟩
theorem k0_off9_eq (i : grid0.Coords) (k : Fin (k0_t1_loop i).trips) : k0_off9 i k = ![112, 512 * k.val] := by
  unfold k0_off9; simp only [col_eq k.val (t1_lt i k)]
instance (i : grid0.Coords) (k : Fin (k0_t1_loop i).trips) : ClosedOff (k0_off9 i k) := ⟨_, k0_off9_eq i k⟩
theorem k0_off10_eq (i : grid0.Coords) (k : Fin (k0_t1_loop i).trips) : k0_off10 i k = ![128, 512 * k.val] := by
  unfold k0_off10; simp only [col_eq k.val (t1_lt i k)]
instance (i : grid0.Coords) (k : Fin (k0_t1_loop i).trips) : ClosedOff (k0_off10 i k) := ⟨_, k0_off10_eq i k⟩
theorem k0_off11_eq (i : grid0.Coords) (k : Fin (k0_t1_loop i).trips) : k0_off11 i k = ![144, 512 * k.val] := by
  unfold k0_off11; simp only [col_eq k.val (t1_lt i k)]
instance (i : grid0.Coords) (k : Fin (k0_t1_loop i).trips) : ClosedOff (k0_off11 i k) := ⟨_, k0_off11_eq i k⟩
theorem k0_off12_eq (i : grid0.Coords) (k : Fin (k0_t1_loop i).trips) : k0_off12 i k = ![160, 512 * k.val] := by
  unfold k0_off12; simp only [col_eq k.val (t1_lt i k)]
instance (i : grid0.Coords) (k : Fin (k0_t1_loop i).trips) : ClosedOff (k0_off12 i k) := ⟨_, k0_off12_eq i k⟩
theorem k0_off13_eq (i : grid0.Coords) (k : Fin (k0_t1_loop i).trips) : k0_off13 i k = ![176, 512 * k.val] := by
  unfold k0_off13; simp only [col_eq k.val (t1_lt i k)]
instance (i : grid0.Coords) (k : Fin (k0_t1_loop i).trips) : ClosedOff (k0_off13 i k) := ⟨_, k0_off13_eq i k⟩
theorem k0_off14_eq (i : grid0.Coords) (k : Fin (k0_t1_loop i).trips) : k0_off14 i k = ![192, 512 * k.val] := by
  unfold k0_off14; simp only [col_eq k.val (t1_lt i k)]
instance (i : grid0.Coords) (k : Fin (k0_t1_loop i).trips) : ClosedOff (k0_off14 i k) := ⟨_, k0_off14_eq i k⟩
theorem k0_off15_eq (i : grid0.Coords) (k : Fin (k0_t1_loop i).trips) : k0_off15 i k = ![208, 512 * k.val] := by
  unfold k0_off15; simp only [col_eq k.val (t1_lt i k)]
instance (i : grid0.Coords) (k : Fin (k0_t1_loop i).trips) : ClosedOff (k0_off15 i k) := ⟨_, k0_off15_eq i k⟩
theorem k0_off16_eq (i : grid0.Coords) (k : Fin (k0_t1_loop i).trips) : k0_off16 i k = ![224, 512 * k.val] := by
  unfold k0_off16; simp only [col_eq k.val (t1_lt i k)]
instance (i : grid0.Coords) (k : Fin (k0_t1_loop i).trips) : ClosedOff (k0_off16 i k) := ⟨_, k0_off16_eq i k⟩
theorem k0_off17_eq (i : grid0.Coords) (k : Fin (k0_t1_loop i).trips) : k0_off17 i k = ![240, 512 * k.val] := by
  unfold k0_off17; simp only [col_eq k.val (t1_lt i k)]
instance (i : grid0.Coords) (k : Fin (k0_t1_loop i).trips) : ClosedOff (k0_off17 i k) := ⟨_, k0_off17_eq i k⟩
theorem k0_off18_eq (i : grid0.Coords) (k : Fin (k0_t1_loop i).trips) : k0_off18 i k = ![256, 512 * k.val] := by
  unfold k0_off18; simp only [col_eq k.val (t1_lt i k)]
instance (i : grid0.Coords) (k : Fin (k0_t1_loop i).trips) : ClosedOff (k0_off18 i k) := ⟨_, k0_off18_eq i k⟩
theorem k0_off19_eq (i : grid0.Coords) (k : Fin (k0_t1_loop i).trips) : k0_off19 i k = ![272, 512 * k.val] := by
  unfold k0_off19; simp only [col_eq k.val (t1_lt i k)]
instance (i : grid0.Coords) (k : Fin (k0_t1_loop i).trips) : ClosedOff (k0_off19 i k) := ⟨_, k0_off19_eq i k⟩
theorem k0_off20_eq (i : grid0.Coords) (k : Fin (k0_t1_loop i).trips) : k0_off20 i k = ![288, 512 * k.val] := by
  unfold k0_off20; simp only [col_eq k.val (t1_lt i k)]
instance (i : grid0.Coords) (k : Fin (k0_t1_loop i).trips) : ClosedOff (k0_off20 i k) := ⟨_, k0_off20_eq i k⟩
theorem k0_off21_eq (i : grid0.Coords) (k : Fin (k0_t1_loop i).trips) : k0_off21 i k = ![304, 512 * k.val] := by
  unfold k0_off21; simp only [col_eq k.val (t1_lt i k)]
instance (i : grid0.Coords) (k : Fin (k0_t1_loop i).trips) : ClosedOff (k0_off21 i k) := ⟨_, k0_off21_eq i k⟩
theorem k0_off22_eq (i : grid0.Coords) (k : Fin (k0_t1_loop i).trips) : k0_off22 i k = ![320, 512 * k.val] := by
  unfold k0_off22; simp only [col_eq k.val (t1_lt i k)]
instance (i : grid0.Coords) (k : Fin (k0_t1_loop i).trips) : ClosedOff (k0_off22 i k) := ⟨_, k0_off22_eq i k⟩
theorem k0_off23_eq (i : grid0.Coords) (k : Fin (k0_t1_loop i).trips) : k0_off23 i k = ![336, 512 * k.val] := by
  unfold k0_off23; simp only [col_eq k.val (t1_lt i k)]
instance (i : grid0.Coords) (k : Fin (k0_t1_loop i).trips) : ClosedOff (k0_off23 i k) := ⟨_, k0_off23_eq i k⟩
theorem k0_off24_eq (i : grid0.Coords) (k : Fin (k0_t1_loop i).trips) : k0_off24 i k = ![352, 512 * k.val] := by
  unfold k0_off24; simp only [col_eq k.val (t1_lt i k)]
instance (i : grid0.Coords) (k : Fin (k0_t1_loop i).trips) : ClosedOff (k0_off24 i k) := ⟨_, k0_off24_eq i k⟩
theorem k0_off25_eq (i : grid0.Coords) (k : Fin (k0_t1_loop i).trips) : k0_off25 i k = ![368, 512 * k.val] := by
  unfold k0_off25; simp only [col_eq k.val (t1_lt i k)]
instance (i : grid0.Coords) (k : Fin (k0_t1_loop i).trips) : ClosedOff (k0_off25 i k) := ⟨_, k0_off25_eq i k⟩
theorem k0_off26_eq (i : grid0.Coords) (k : Fin (k0_t1_loop i).trips) : k0_off26 i k = ![384, 512 * k.val] := by
  unfold k0_off26; simp only [col_eq k.val (t1_lt i k)]
instance (i : grid0.Coords) (k : Fin (k0_t1_loop i).trips) : ClosedOff (k0_off26 i k) := ⟨_, k0_off26_eq i k⟩
theorem k0_off27_eq (i : grid0.Coords) (k : Fin (k0_t1_loop i).trips) : k0_off27 i k = ![400, 512 * k.val] := by
  unfold k0_off27; simp only [col_eq k.val (t1_lt i k)]
instance (i : grid0.Coords) (k : Fin (k0_t1_loop i).trips) : ClosedOff (k0_off27 i k) := ⟨_, k0_off27_eq i k⟩
theorem k0_off28_eq (i : grid0.Coords) (k : Fin (k0_t1_loop i).trips) : k0_off28 i k = ![416, 512 * k.val] := by
  unfold k0_off28; simp only [col_eq k.val (t1_lt i k)]
instance (i : grid0.Coords) (k : Fin (k0_t1_loop i).trips) : ClosedOff (k0_off28 i k) := ⟨_, k0_off28_eq i k⟩
theorem k0_off29_eq (i : grid0.Coords) (k : Fin (k0_t1_loop i).trips) : k0_off29 i k = ![432, 512 * k.val] := by
  unfold k0_off29; simp only [col_eq k.val (t1_lt i k)]
instance (i : grid0.Coords) (k : Fin (k0_t1_loop i).trips) : ClosedOff (k0_off29 i k) := ⟨_, k0_off29_eq i k⟩
theorem k0_off30_eq (i : grid0.Coords) (k : Fin (k0_t1_loop i).trips) : k0_off30 i k = ![448, 512 * k.val] := by
  unfold k0_off30; simp only [col_eq k.val (t1_lt i k)]
instance (i : grid0.Coords) (k : Fin (k0_t1_loop i).trips) : ClosedOff (k0_off30 i k) := ⟨_, k0_off30_eq i k⟩
theorem k0_off31_eq (i : grid0.Coords) (k : Fin (k0_t1_loop i).trips) : k0_off31 i k = ![464, 512 * k.val] := by
  unfold k0_off31; simp only [col_eq k.val (t1_lt i k)]
instance (i : grid0.Coords) (k : Fin (k0_t1_loop i).trips) : ClosedOff (k0_off31 i k) := ⟨_, k0_off31_eq i k⟩
theorem k0_off32_eq (i : grid0.Coords) (k : Fin (k0_t1_loop i).trips) : k0_off32 i k = ![480, 512 * k.val] := by
  unfold k0_off32; simp only [col_eq k.val (t1_lt i k)]
instance (i : grid0.Coords) (k : Fin (k0_t1_loop i).trips) : ClosedOff (k0_off32 i k) := ⟨_, k0_off32_eq i k⟩
theorem k0_off33_eq (i : grid0.Coords) (k : Fin (k0_t1_loop i).trips) : k0_off33 i k = ![496, 512 * k.val] := by
  unfold k0_off33; simp only [col_eq k.val (t1_lt i k)]
instance (i : grid0.Coords) (k : Fin (k0_t1_loop i).trips) : ClosedOff (k0_off33 i k) := ⟨_, k0_off33_eq i k⟩
theorem k0_off34_eq (i : grid0.Coords) (k : Fin (k0_t1_loop i).trips) : k0_off34 i k = ![512, 512 * k.val] := by
  unfold k0_off34; simp only [col_eq k.val (t1_lt i k)]
instance (i : grid0.Coords) (k : Fin (k0_t1_loop i).trips) : ClosedOff (k0_off34 i k) := ⟨_, k0_off34_eq i k⟩
theorem k0_off35_eq (i : grid0.Coords) (k : Fin (k0_t1_loop i).trips) : k0_off35 i k = ![528, 512 * k.val] := by
  unfold k0_off35; simp only [col_eq k.val (t1_lt i k)]
instance (i : grid0.Coords) (k : Fin (k0_t1_loop i).trips) : ClosedOff (k0_off35 i k) := ⟨_, k0_off35_eq i k⟩
theorem k0_off36_eq (i : grid0.Coords) (k : Fin (k0_t1_loop i).trips) : k0_off36 i k = ![544, 512 * k.val] := by
  unfold k0_off36; simp only [col_eq k.val (t1_lt i k)]
instance (i : grid0.Coords) (k : Fin (k0_t1_loop i).trips) : ClosedOff (k0_off36 i k) := ⟨_, k0_off36_eq i k⟩
theorem k0_off37_eq (i : grid0.Coords) (k : Fin (k0_t1_loop i).trips) : k0_off37 i k = ![560, 512 * k.val] := by
  unfold k0_off37; simp only [col_eq k.val (t1_lt i k)]
instance (i : grid0.Coords) (k : Fin (k0_t1_loop i).trips) : ClosedOff (k0_off37 i k) := ⟨_, k0_off37_eq i k⟩
theorem k0_off38_eq (i : grid0.Coords) (k : Fin (k0_t1_loop i).trips) : k0_off38 i k = ![576, 512 * k.val] := by
  unfold k0_off38; simp only [col_eq k.val (t1_lt i k)]
instance (i : grid0.Coords) (k : Fin (k0_t1_loop i).trips) : ClosedOff (k0_off38 i k) := ⟨_, k0_off38_eq i k⟩
theorem k0_off39_eq (i : grid0.Coords) (k : Fin (k0_t1_loop i).trips) : k0_off39 i k = ![592, 512 * k.val] := by
  unfold k0_off39; simp only [col_eq k.val (t1_lt i k)]
instance (i : grid0.Coords) (k : Fin (k0_t1_loop i).trips) : ClosedOff (k0_off39 i k) := ⟨_, k0_off39_eq i k⟩
theorem k0_off40_eq (i : grid0.Coords) (k : Fin (k0_t1_loop i).trips) : k0_off40 i k = ![608, 512 * k.val] := by
  unfold k0_off40; simp only [col_eq k.val (t1_lt i k)]
instance (i : grid0.Coords) (k : Fin (k0_t1_loop i).trips) : ClosedOff (k0_off40 i k) := ⟨_, k0_off40_eq i k⟩
theorem k0_off41_eq (i : grid0.Coords) (k : Fin (k0_t1_loop i).trips) : k0_off41 i k = ![624, 512 * k.val] := by
  unfold k0_off41; simp only [col_eq k.val (t1_lt i k)]
instance (i : grid0.Coords) (k : Fin (k0_t1_loop i).trips) : ClosedOff (k0_off41 i k) := ⟨_, k0_off41_eq i k⟩
theorem k0_off42_eq (i : grid0.Coords) (k : Fin (k0_t1_loop i).trips) : k0_off42 i k = ![640, 512 * k.val] := by
  unfold k0_off42; simp only [col_eq k.val (t1_lt i k)]
instance (i : grid0.Coords) (k : Fin (k0_t1_loop i).trips) : ClosedOff (k0_off42 i k) := ⟨_, k0_off42_eq i k⟩
theorem k0_off43_eq (i : grid0.Coords) (k : Fin (k0_t1_loop i).trips) : k0_off43 i k = ![656, 512 * k.val] := by
  unfold k0_off43; simp only [col_eq k.val (t1_lt i k)]
instance (i : grid0.Coords) (k : Fin (k0_t1_loop i).trips) : ClosedOff (k0_off43 i k) := ⟨_, k0_off43_eq i k⟩
theorem k0_off44_eq (i : grid0.Coords) (k : Fin (k0_t1_loop i).trips) : k0_off44 i k = ![672, 512 * k.val] := by
  unfold k0_off44; simp only [col_eq k.val (t1_lt i k)]
instance (i : grid0.Coords) (k : Fin (k0_t1_loop i).trips) : ClosedOff (k0_off44 i k) := ⟨_, k0_off44_eq i k⟩
theorem k0_off45_eq (i : grid0.Coords) (k : Fin (k0_t1_loop i).trips) : k0_off45 i k = ![688, 512 * k.val] := by
  unfold k0_off45; simp only [col_eq k.val (t1_lt i k)]
instance (i : grid0.Coords) (k : Fin (k0_t1_loop i).trips) : ClosedOff (k0_off45 i k) := ⟨_, k0_off45_eq i k⟩
theorem k0_off46_eq (i : grid0.Coords) (k : Fin (k0_t1_loop i).trips) : k0_off46 i k = ![704, 512 * k.val] := by
  unfold k0_off46; simp only [col_eq k.val (t1_lt i k)]
instance (i : grid0.Coords) (k : Fin (k0_t1_loop i).trips) : ClosedOff (k0_off46 i k) := ⟨_, k0_off46_eq i k⟩
theorem k0_off47_eq (i : grid0.Coords) (k : Fin (k0_t1_loop i).trips) : k0_off47 i k = ![720, 512 * k.val] := by
  unfold k0_off47; simp only [col_eq k.val (t1_lt i k)]
instance (i : grid0.Coords) (k : Fin (k0_t1_loop i).trips) : ClosedOff (k0_off47 i k) := ⟨_, k0_off47_eq i k⟩
theorem k0_off48_eq (i : grid0.Coords) (k : Fin (k0_t1_loop i).trips) : k0_off48 i k = ![736, 512 * k.val] := by
  unfold k0_off48; simp only [col_eq k.val (t1_lt i k)]
instance (i : grid0.Coords) (k : Fin (k0_t1_loop i).trips) : ClosedOff (k0_off48 i k) := ⟨_, k0_off48_eq i k⟩
theorem k0_off49_eq (i : grid0.Coords) (k : Fin (k0_t1_loop i).trips) : k0_off49 i k = ![752, 512 * k.val] := by
  unfold k0_off49; simp only [col_eq k.val (t1_lt i k)]
instance (i : grid0.Coords) (k : Fin (k0_t1_loop i).trips) : ClosedOff (k0_off49 i k) := ⟨_, k0_off49_eq i k⟩
theorem k0_off50_eq (i : grid0.Coords) (k : Fin (k0_t1_loop i).trips) : k0_off50 i k = ![0, 0, 512 * k.val] := by
  unfold k0_off50; simp only [col_eq k.val (t1_lt i k)]
instance (i : grid0.Coords) (k : Fin (k0_t1_loop i).trips) : ClosedOff (k0_off50 i k) := ⟨_, k0_off50_eq i k⟩
theorem k0_off51_eq (i : grid0.Coords) (k : Fin (k0_t1_loop i).trips) : k0_off51 i k = ![0, 512 * k.val] := by
  unfold k0_off51; simp only [col_eq k.val (t1_lt i k)]
instance (i : grid0.Coords) (k : Fin (k0_t1_loop i).trips) : ClosedOff (k0_off51 i k) := ⟨_, k0_off51_eq i k⟩
theorem k0_off52_eq (i : grid0.Coords) (k : Fin (k0_t1_loop i).trips) : k0_off52 i k = ![0, 0, 512 * k.val] := by
  unfold k0_off52; simp only [col_eq k.val (t1_lt i k)]
instance (i : grid0.Coords) (k : Fin (k0_t1_loop i).trips) : ClosedOff (k0_off52 i k) := ⟨_, k0_off52_eq i k⟩
theorem k0_off105_eq (i : grid0.Coords) (k : Fin (k0_t3_loop i).trips) : k0_off105 i k = ![0, 512 * k.val] := by
  unfold k0_off105; simp only [col_eq k.val (t3_lt i k)]
instance (i : grid0.Coords) (k : Fin (k0_t3_loop i).trips) : ClosedOff (k0_off105 i k) := ⟨_, k0_off105_eq i k⟩
theorem k0_off107_eq (i : grid0.Coords) (k : Fin (k0_t5_loop i).trips) : k0_off107 i k = ![0, 512 * k.val] := by
  unfold k0_off107; simp only [col_eq k.val (t5_lt i k)]
instance (i : grid0.Coords) (k : Fin (k0_t5_loop i).trips) : ClosedOff (k0_off107 i k) := ⟨_, k0_off107_eq i k⟩
theorem k0_off108_eq (i : grid0.Coords) (k : Fin (k0_t5_loop i).trips) : k0_off108 i k = ![0, 0, 512 * k.val] := by
  unfold k0_off108; simp only [col_eq k.val (t5_lt i k)]
instance (i : grid0.Coords) (k : Fin (k0_t5_loop i).trips) : ClosedOff (k0_off108 i k) := ⟨_, k0_off108_eq i k⟩
theorem k0_off109_eq (i : grid0.Coords) (k : Fin (k0_t5_loop i).trips) : k0_off109 i k = ![0, 512 * k.val, 0] := by
  unfold k0_off109; simp only [col_eq k.val (t5_lt i k)]
instance (i : grid0.Coords) (k : Fin (k0_t5_loop i).trips) : ClosedOff (k0_off109 i k) := ⟨_, k0_off109_eq i k⟩
theorem k0_off110_eq (i : grid0.Coords) (k : Fin (k0_t5_loop i).trips) : k0_off110 i k = ![0, 512 * k.val, 0] := by
  unfold k0_off110; simp only [col_eq k.val (t5_lt i k)]
instance (i : grid0.Coords) (k : Fin (k0_t5_loop i).trips) : ClosedOff (k0_off110 i k) := ⟨_, k0_off110_eq i k⟩
theorem k0_off111_eq (i : grid0.Coords) (k : Fin (k0_t5_loop i).trips) : k0_off111 i k = ![0, 0, 512 * k.val] := by
  unfold k0_off111; simp only [col_eq k.val (t5_lt i k)]
instance (i : grid0.Coords) (k : Fin (k0_t5_loop i).trips) : ClosedOff (k0_off111 i k) := ⟨_, k0_off111_eq i k⟩
theorem k0_off112_eq (i : grid0.Coords) (k : Fin (k0_t5_loop i).trips) : k0_off112 i k = ![0, 512 * k.val] := by
  unfold k0_off112; simp only [col_eq k.val (t5_lt i k)]
instance (i : grid0.Coords) (k : Fin (k0_t5_loop i).trips) : ClosedOff (k0_off112 i k) := ⟨_, k0_off112_eq i k⟩
theorem k0_off113_eq (i : grid0.Coords) (k : Fin (k0_t5_loop i).trips) : k0_off113 i k = ![16, 512 * k.val] := by
  unfold k0_off113; simp only [col_eq k.val (t5_lt i k)]
instance (i : grid0.Coords) (k : Fin (k0_t5_loop i).trips) : ClosedOff (k0_off113 i k) := ⟨_, k0_off113_eq i k⟩
theorem k0_off114_eq (i : grid0.Coords) (k : Fin (k0_t5_loop i).trips) : k0_off114 i k = ![32, 512 * k.val] := by
  unfold k0_off114; simp only [col_eq k.val (t5_lt i k)]
instance (i : grid0.Coords) (k : Fin (k0_t5_loop i).trips) : ClosedOff (k0_off114 i k) := ⟨_, k0_off114_eq i k⟩
theorem k0_off115_eq (i : grid0.Coords) (k : Fin (k0_t5_loop i).trips) : k0_off115 i k = ![48, 512 * k.val] := by
  unfold k0_off115; simp only [col_eq k.val (t5_lt i k)]
instance (i : grid0.Coords) (k : Fin (k0_t5_loop i).trips) : ClosedOff (k0_off115 i k) := ⟨_, k0_off115_eq i k⟩
theorem k0_off116_eq (i : grid0.Coords) (k : Fin (k0_t5_loop i).trips) : k0_off116 i k = ![64, 512 * k.val] := by
  unfold k0_off116; simp only [col_eq k.val (t5_lt i k)]
instance (i : grid0.Coords) (k : Fin (k0_t5_loop i).trips) : ClosedOff (k0_off116 i k) := ⟨_, k0_off116_eq i k⟩
theorem k0_off117_eq (i : grid0.Coords) (k : Fin (k0_t5_loop i).trips) : k0_off117 i k = ![80, 512 * k.val] := by
  unfold k0_off117; simp only [col_eq k.val (t5_lt i k)]
instance (i : grid0.Coords) (k : Fin (k0_t5_loop i).trips) : ClosedOff (k0_off117 i k) := ⟨_, k0_off117_eq i k⟩
theorem k0_off118_eq (i : grid0.Coords) (k : Fin (k0_t5_loop i).trips) : k0_off118 i k = ![96, 512 * k.val] := by
  unfold k0_off118; simp only [col_eq k.val (t5_lt i k)]
instance (i : grid0.Coords) (k : Fin (k0_t5_loop i).trips) : ClosedOff (k0_off118 i k) := ⟨_, k0_off118_eq i k⟩
theorem k0_off119_eq (i : grid0.Coords) (k : Fin (k0_t5_loop i).trips) : k0_off119 i k = ![112, 512 * k.val] := by
  unfold k0_off119; simp only [col_eq k.val (t5_lt i k)]
instance (i : grid0.Coords) (k : Fin (k0_t5_loop i).trips) : ClosedOff (k0_off119 i k) := ⟨_, k0_off119_eq i k⟩
theorem k0_off120_eq (i : grid0.Coords) (k : Fin (k0_t5_loop i).trips) : k0_off120 i k = ![128, 512 * k.val] := by
  unfold k0_off120; simp only [col_eq k.val (t5_lt i k)]
instance (i : grid0.Coords) (k : Fin (k0_t5_loop i).trips) : ClosedOff (k0_off120 i k) := ⟨_, k0_off120_eq i k⟩
theorem k0_off121_eq (i : grid0.Coords) (k : Fin (k0_t5_loop i).trips) : k0_off121 i k = ![144, 512 * k.val] := by
  unfold k0_off121; simp only [col_eq k.val (t5_lt i k)]
instance (i : grid0.Coords) (k : Fin (k0_t5_loop i).trips) : ClosedOff (k0_off121 i k) := ⟨_, k0_off121_eq i k⟩
theorem k0_off122_eq (i : grid0.Coords) (k : Fin (k0_t5_loop i).trips) : k0_off122 i k = ![160, 512 * k.val] := by
  unfold k0_off122; simp only [col_eq k.val (t5_lt i k)]
instance (i : grid0.Coords) (k : Fin (k0_t5_loop i).trips) : ClosedOff (k0_off122 i k) := ⟨_, k0_off122_eq i k⟩
theorem k0_off123_eq (i : grid0.Coords) (k : Fin (k0_t5_loop i).trips) : k0_off123 i k = ![176, 512 * k.val] := by
  unfold k0_off123; simp only [col_eq k.val (t5_lt i k)]
instance (i : grid0.Coords) (k : Fin (k0_t5_loop i).trips) : ClosedOff (k0_off123 i k) := ⟨_, k0_off123_eq i k⟩
theorem k0_off124_eq (i : grid0.Coords) (k : Fin (k0_t5_loop i).trips) : k0_off124 i k = ![192, 512 * k.val] := by
  unfold k0_off124; simp only [col_eq k.val (t5_lt i k)]
instance (i : grid0.Coords) (k : Fin (k0_t5_loop i).trips) : ClosedOff (k0_off124 i k) := ⟨_, k0_off124_eq i k⟩
theorem k0_off125_eq (i : grid0.Coords) (k : Fin (k0_t5_loop i).trips) : k0_off125 i k = ![208, 512 * k.val] := by
  unfold k0_off125; simp only [col_eq k.val (t5_lt i k)]
instance (i : grid0.Coords) (k : Fin (k0_t5_loop i).trips) : ClosedOff (k0_off125 i k) := ⟨_, k0_off125_eq i k⟩
theorem k0_off126_eq (i : grid0.Coords) (k : Fin (k0_t5_loop i).trips) : k0_off126 i k = ![224, 512 * k.val] := by
  unfold k0_off126; simp only [col_eq k.val (t5_lt i k)]
instance (i : grid0.Coords) (k : Fin (k0_t5_loop i).trips) : ClosedOff (k0_off126 i k) := ⟨_, k0_off126_eq i k⟩
theorem k0_off127_eq (i : grid0.Coords) (k : Fin (k0_t5_loop i).trips) : k0_off127 i k = ![240, 512 * k.val] := by
  unfold k0_off127; simp only [col_eq k.val (t5_lt i k)]
instance (i : grid0.Coords) (k : Fin (k0_t5_loop i).trips) : ClosedOff (k0_off127 i k) := ⟨_, k0_off127_eq i k⟩
theorem k0_off128_eq (i : grid0.Coords) (k : Fin (k0_t5_loop i).trips) : k0_off128 i k = ![256, 512 * k.val] := by
  unfold k0_off128; simp only [col_eq k.val (t5_lt i k)]
instance (i : grid0.Coords) (k : Fin (k0_t5_loop i).trips) : ClosedOff (k0_off128 i k) := ⟨_, k0_off128_eq i k⟩
theorem k0_off129_eq (i : grid0.Coords) (k : Fin (k0_t5_loop i).trips) : k0_off129 i k = ![272, 512 * k.val] := by
  unfold k0_off129; simp only [col_eq k.val (t5_lt i k)]
instance (i : grid0.Coords) (k : Fin (k0_t5_loop i).trips) : ClosedOff (k0_off129 i k) := ⟨_, k0_off129_eq i k⟩
theorem k0_off130_eq (i : grid0.Coords) (k : Fin (k0_t5_loop i).trips) : k0_off130 i k = ![288, 512 * k.val] := by
  unfold k0_off130; simp only [col_eq k.val (t5_lt i k)]
instance (i : grid0.Coords) (k : Fin (k0_t5_loop i).trips) : ClosedOff (k0_off130 i k) := ⟨_, k0_off130_eq i k⟩
theorem k0_off131_eq (i : grid0.Coords) (k : Fin (k0_t5_loop i).trips) : k0_off131 i k = ![304, 512 * k.val] := by
  unfold k0_off131; simp only [col_eq k.val (t5_lt i k)]
instance (i : grid0.Coords) (k : Fin (k0_t5_loop i).trips) : ClosedOff (k0_off131 i k) := ⟨_, k0_off131_eq i k⟩
theorem k0_off132_eq (i : grid0.Coords) (k : Fin (k0_t5_loop i).trips) : k0_off132 i k = ![320, 512 * k.val] := by
  unfold k0_off132; simp only [col_eq k.val (t5_lt i k)]
instance (i : grid0.Coords) (k : Fin (k0_t5_loop i).trips) : ClosedOff (k0_off132 i k) := ⟨_, k0_off132_eq i k⟩
theorem k0_off133_eq (i : grid0.Coords) (k : Fin (k0_t5_loop i).trips) : k0_off133 i k = ![336, 512 * k.val] := by
  unfold k0_off133; simp only [col_eq k.val (t5_lt i k)]
instance (i : grid0.Coords) (k : Fin (k0_t5_loop i).trips) : ClosedOff (k0_off133 i k) := ⟨_, k0_off133_eq i k⟩
theorem k0_off134_eq (i : grid0.Coords) (k : Fin (k0_t5_loop i).trips) : k0_off134 i k = ![352, 512 * k.val] := by
  unfold k0_off134; simp only [col_eq k.val (t5_lt i k)]
instance (i : grid0.Coords) (k : Fin (k0_t5_loop i).trips) : ClosedOff (k0_off134 i k) := ⟨_, k0_off134_eq i k⟩
theorem k0_off135_eq (i : grid0.Coords) (k : Fin (k0_t5_loop i).trips) : k0_off135 i k = ![368, 512 * k.val] := by
  unfold k0_off135; simp only [col_eq k.val (t5_lt i k)]
instance (i : grid0.Coords) (k : Fin (k0_t5_loop i).trips) : ClosedOff (k0_off135 i k) := ⟨_, k0_off135_eq i k⟩
theorem k0_off136_eq (i : grid0.Coords) (k : Fin (k0_t5_loop i).trips) : k0_off136 i k = ![384, 512 * k.val] := by
  unfold k0_off136; simp only [col_eq k.val (t5_lt i k)]
instance (i : grid0.Coords) (k : Fin (k0_t5_loop i).trips) : ClosedOff (k0_off136 i k) := ⟨_, k0_off136_eq i k⟩
theorem k0_off137_eq (i : grid0.Coords) (k : Fin (k0_t5_loop i).trips) : k0_off137 i k = ![400, 512 * k.val] := by
  unfold k0_off137; simp only [col_eq k.val (t5_lt i k)]
instance (i : grid0.Coords) (k : Fin (k0_t5_loop i).trips) : ClosedOff (k0_off137 i k) := ⟨_, k0_off137_eq i k⟩
theorem k0_off138_eq (i : grid0.Coords) (k : Fin (k0_t5_loop i).trips) : k0_off138 i k = ![416, 512 * k.val] := by
  unfold k0_off138; simp only [col_eq k.val (t5_lt i k)]
instance (i : grid0.Coords) (k : Fin (k0_t5_loop i).trips) : ClosedOff (k0_off138 i k) := ⟨_, k0_off138_eq i k⟩
theorem k0_off139_eq (i : grid0.Coords) (k : Fin (k0_t5_loop i).trips) : k0_off139 i k = ![432, 512 * k.val] := by
  unfold k0_off139; simp only [col_eq k.val (t5_lt i k)]
instance (i : grid0.Coords) (k : Fin (k0_t5_loop i).trips) : ClosedOff (k0_off139 i k) := ⟨_, k0_off139_eq i k⟩
theorem k0_off140_eq (i : grid0.Coords) (k : Fin (k0_t5_loop i).trips) : k0_off140 i k = ![448, 512 * k.val] := by
  unfold k0_off140; simp only [col_eq k.val (t5_lt i k)]
instance (i : grid0.Coords) (k : Fin (k0_t5_loop i).trips) : ClosedOff (k0_off140 i k) := ⟨_, k0_off140_eq i k⟩
theorem k0_off141_eq (i : grid0.Coords) (k : Fin (k0_t5_loop i).trips) : k0_off141 i k = ![464, 512 * k.val] := by
  unfold k0_off141; simp only [col_eq k.val (t5_lt i k)]
instance (i : grid0.Coords) (k : Fin (k0_t5_loop i).trips) : ClosedOff (k0_off141 i k) := ⟨_, k0_off141_eq i k⟩
theorem k0_off142_eq (i : grid0.Coords) (k : Fin (k0_t5_loop i).trips) : k0_off142 i k = ![480, 512 * k.val] := by
  unfold k0_off142; simp only [col_eq k.val (t5_lt i k)]
instance (i : grid0.Coords) (k : Fin (k0_t5_loop i).trips) : ClosedOff (k0_off142 i k) := ⟨_, k0_off142_eq i k⟩
theorem k0_off143_eq (i : grid0.Coords) (k : Fin (k0_t5_loop i).trips) : k0_off143 i k = ![496, 512 * k.val] := by
  unfold k0_off143; simp only [col_eq k.val (t5_lt i k)]
instance (i : grid0.Coords) (k : Fin (k0_t5_loop i).trips) : ClosedOff (k0_off143 i k) := ⟨_, k0_off143_eq i k⟩
theorem k0_off144_eq (i : grid0.Coords) (k : Fin (k0_t5_loop i).trips) : k0_off144 i k = ![512, 512 * k.val] := by
  unfold k0_off144; simp only [col_eq k.val (t5_lt i k)]
instance (i : grid0.Coords) (k : Fin (k0_t5_loop i).trips) : ClosedOff (k0_off144 i k) := ⟨_, k0_off144_eq i k⟩
theorem k0_off145_eq (i : grid0.Coords) (k : Fin (k0_t5_loop i).trips) : k0_off145 i k = ![528, 512 * k.val] := by
  unfold k0_off145; simp only [col_eq k.val (t5_lt i k)]
instance (i : grid0.Coords) (k : Fin (k0_t5_loop i).trips) : ClosedOff (k0_off145 i k) := ⟨_, k0_off145_eq i k⟩
theorem k0_off146_eq (i : grid0.Coords) (k : Fin (k0_t5_loop i).trips) : k0_off146 i k = ![544, 512 * k.val] := by
  unfold k0_off146; simp only [col_eq k.val (t5_lt i k)]
instance (i : grid0.Coords) (k : Fin (k0_t5_loop i).trips) : ClosedOff (k0_off146 i k) := ⟨_, k0_off146_eq i k⟩
theorem k0_off147_eq (i : grid0.Coords) (k : Fin (k0_t5_loop i).trips) : k0_off147 i k = ![560, 512 * k.val] := by
  unfold k0_off147; simp only [col_eq k.val (t5_lt i k)]
instance (i : grid0.Coords) (k : Fin (k0_t5_loop i).trips) : ClosedOff (k0_off147 i k) := ⟨_, k0_off147_eq i k⟩
theorem k0_off148_eq (i : grid0.Coords) (k : Fin (k0_t5_loop i).trips) : k0_off148 i k = ![576, 512 * k.val] := by
  unfold k0_off148; simp only [col_eq k.val (t5_lt i k)]
instance (i : grid0.Coords) (k : Fin (k0_t5_loop i).trips) : ClosedOff (k0_off148 i k) := ⟨_, k0_off148_eq i k⟩
theorem k0_off149_eq (i : grid0.Coords) (k : Fin (k0_t5_loop i).trips) : k0_off149 i k = ![592, 512 * k.val] := by
  unfold k0_off149; simp only [col_eq k.val (t5_lt i k)]
instance (i : grid0.Coords) (k : Fin (k0_t5_loop i).trips) : ClosedOff (k0_off149 i k) := ⟨_, k0_off149_eq i k⟩
theorem k0_off150_eq (i : grid0.Coords) (k : Fin (k0_t5_loop i).trips) : k0_off150 i k = ![608, 512 * k.val] := by
  unfold k0_off150; simp only [col_eq k.val (t5_lt i k)]
instance (i : grid0.Coords) (k : Fin (k0_t5_loop i).trips) : ClosedOff (k0_off150 i k) := ⟨_, k0_off150_eq i k⟩
theorem k0_off151_eq (i : grid0.Coords) (k : Fin (k0_t5_loop i).trips) : k0_off151 i k = ![624, 512 * k.val] := by
  unfold k0_off151; simp only [col_eq k.val (t5_lt i k)]
instance (i : grid0.Coords) (k : Fin (k0_t5_loop i).trips) : ClosedOff (k0_off151 i k) := ⟨_, k0_off151_eq i k⟩
theorem k0_off152_eq (i : grid0.Coords) (k : Fin (k0_t5_loop i).trips) : k0_off152 i k = ![640, 512 * k.val] := by
  unfold k0_off152; simp only [col_eq k.val (t5_lt i k)]
instance (i : grid0.Coords) (k : Fin (k0_t5_loop i).trips) : ClosedOff (k0_off152 i k) := ⟨_, k0_off152_eq i k⟩
theorem k0_off153_eq (i : grid0.Coords) (k : Fin (k0_t5_loop i).trips) : k0_off153 i k = ![656, 512 * k.val] := by
  unfold k0_off153; simp only [col_eq k.val (t5_lt i k)]
instance (i : grid0.Coords) (k : Fin (k0_t5_loop i).trips) : ClosedOff (k0_off153 i k) := ⟨_, k0_off153_eq i k⟩
theorem k0_off154_eq (i : grid0.Coords) (k : Fin (k0_t5_loop i).trips) : k0_off154 i k = ![672, 512 * k.val] := by
  unfold k0_off154; simp only [col_eq k.val (t5_lt i k)]
instance (i : grid0.Coords) (k : Fin (k0_t5_loop i).trips) : ClosedOff (k0_off154 i k) := ⟨_, k0_off154_eq i k⟩
theorem k0_off155_eq (i : grid0.Coords) (k : Fin (k0_t5_loop i).trips) : k0_off155 i k = ![688, 512 * k.val] := by
  unfold k0_off155; simp only [col_eq k.val (t5_lt i k)]
instance (i : grid0.Coords) (k : Fin (k0_t5_loop i).trips) : ClosedOff (k0_off155 i k) := ⟨_, k0_off155_eq i k⟩
theorem k0_off156_eq (i : grid0.Coords) (k : Fin (k0_t5_loop i).trips) : k0_off156 i k = ![704, 512 * k.val] := by
  unfold k0_off156; simp only [col_eq k.val (t5_lt i k)]
instance (i : grid0.Coords) (k : Fin (k0_t5_loop i).trips) : ClosedOff (k0_off156 i k) := ⟨_, k0_off156_eq i k⟩
theorem k0_off157_eq (i : grid0.Coords) (k : Fin (k0_t5_loop i).trips) : k0_off157 i k = ![720, 512 * k.val] := by
  unfold k0_off157; simp only [col_eq k.val (t5_lt i k)]
instance (i : grid0.Coords) (k : Fin (k0_t5_loop i).trips) : ClosedOff (k0_off157 i k) := ⟨_, k0_off157_eq i k⟩
theorem k0_off158_eq (i : grid0.Coords) (k : Fin (k0_t5_loop i).trips) : k0_off158 i k = ![736, 512 * k.val] := by
  unfold k0_off158; simp only [col_eq k.val (t5_lt i k)]
instance (i : grid0.Coords) (k : Fin (k0_t5_loop i).trips) : ClosedOff (k0_off158 i k) := ⟨_, k0_off158_eq i k⟩
theorem k0_off159_eq (i : grid0.Coords) (k : Fin (k0_t5_loop i).trips) : k0_off159 i k = ![752, 512 * k.val] := by
  unfold k0_off159; simp only [col_eq k.val (t5_lt i k)]
instance (i : grid0.Coords) (k : Fin (k0_t5_loop i).trips) : ClosedOff (k0_off159 i k) := ⟨_, k0_off159_eq i k⟩

end Cert.Proof.KernelIdeal
-- ==== Proof.KIV.Spec.lean ====
/-
  What one grid point of the kernel computes, over the extended reals, as functions of the blocks it is given: for query
  row `a` of the block and key `s`, the rectified index scores, the index logit, the target probability.
-/
module

public import proofs.«01_k».proof.KernelIdeal
public import Idealize.ShloMosaic.Lib.Pointwise

@[expose] public section

noncomputable section

namespace Cert.Proof.KIV

open Cert.KernelIdeal
open Idealize.ShloMosaic

/-- A function on the first `n` naturals, continued by 0. -/
def ext {n : ℕ} (g : Fin n → EReal) (s : ℕ) : EReal := if h : s < n then g ⟨s, h⟩ else 0

theorem ext_val {n : ℕ} (g : Fin n → EReal) (s : Fin n) : ext g s.val = g s := dif_pos s.isLt

/-- Row `16 * j + a` of a buffer that holds `n` heads of 16 rows each. -/
abbrev row {n : ℕ} (j : Fin n) (a : Fin 16) {N : ℕ} (h : N = 16 * n := by rfl) : Fin N := ⟨16 * j.val + a.val, by omega⟩

/-- Key `s` stands for lane `s % 128`. -/
abbrev lane (s : Fin 8192) : Fin 128 := ⟨s.val % 128, Nat.mod_lt _ (by decide)⟩

/-- The rectified score of index head row `r` and key `s`. -/
def RR (X5 : FVec Ideal S1x1x768x128 .fp8e4m3) (X11 : FVec Ideal S1x128x8192 .fp8e4m3) (r : Fin 768) (s : Fin 8192) : EReal :=
  max (∑ k : Fin 128, X5 (ix4 0 0 r k) * X11 (ix3 0 k s)) 0

/-- The index logit of row `a` and key `s`, `⊥` where the key comes after the row's token. -/
def LG (b : ℕ) (X5 : FVec Ideal S1x1x768x128 .fp8e4m3) (X11 : FVec Ideal S1x128x8192 .fp8e4m3) (X12 : FVec Ideal S1x1x8192 .f32)
    (X22 : FVec Ideal S768x128 .f32) (a : Fin 16) (s : Fin 8192) : EReal :=
  if s.val ≤ 16 * b + a.val then
    (∑ j : Fin 48, RR X5 X11 (row j a) s * X22 (ix2 (row j a) (lane s))) * X12 (ix3 0 0 s)
  else ⊥

/-- The target probability of row `a` and key `s`: the mean over the main heads, 0 where the key is not visible. -/
def PP (b : ℕ) (X2 : FVec Ideal S1x1x320x576 .fp8e4m3) (X9 : FVec Ideal S1x576x8192 .fp8e4m3) (X10 : FVec Ideal S1x1x8192 .f32)
    (X24 X25 : FVec Ideal S320x128 .f32) (a : Fin 16) (s : Fin 8192) : EReal :=
  if s.val ≤ 16 * b + a.val then
    (∑ h : Fin 20, Ideal.exp2 ((∑ k : Fin 576, X2 (ix4 0 0 (row h a) k) * X9 (ix3 0 k s)) * X24 (ix2 (row h a) (lane s))
      * X10 (ix3 0 0 s) - X25 (ix2 (row h a) (lane s)))) * Ideal.ofBits .f32 0x3D4CCCCD#32
  else 0

end Cert.Proof.KIV
-- ==== Proof.KIV.Step.lean ====
/-
  One trip of the first tile loop, as a statement about the values of its buffers.
-/
module

public import proofs.«01_k».proof.Proof.KI.Offsets
public import proofs.«01_k».proof.Proof.KIV.Spec
public import Idealize.ShloMosaic.Lib.WritesUnit

@[expose] public section

set_option maxRecDepth 16384

noncomputable section

namespace Cert.Proof.KIV

open Cert.KernelIdeal Cert.Proof.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

abbrev UU (nD : Nat) (τ : Topo) : Type := UR sig nD τ
abbrev 𝒱₀ : Variants := Variants.none

local notation "𝕄" => MT nD τ sig Unit (Elt Ideal) ℕ (UU nD τ) ℕ

/-- Memref `M`'s contents on core `c`, and its elements held at `f`. -/
abbrev Bf (c : Dev nD) {sp : Space} {S : Shape} {e : EltTy} (M : Memref sig .tc sp S e) : Type := Buf (Elt Ideal) (M.view.loc (c : Thread nD τ))
abbrev pt (c : Dev nD) {sp : Space} {S : Shape} {e : EltTy} (M : Memref sig .tc sp S e) (f : Bf c M) : sProp 𝕄 :=
  M.view.loc (c : Thread nD τ) ↦[M.view.set]{fullShare} f

/-- What stands before trip `k`: the logits and the target probabilities of the keys before `512 * k`, and per lane the
largest logit met. -/
def T1F (b k : ℕ) (X2 : FVec Ideal S1x1x320x576 .fp8e4m3) (X5 : FVec Ideal S1x1x768x128 .fp8e4m3)
    (X9 : FVec Ideal S1x576x8192 .fp8e4m3) (X10 : FVec Ideal S1x1x8192 .f32) (X11 : FVec Ideal S1x128x8192 .fp8e4m3)
    (X12 : FVec Ideal S1x1x8192 .f32) (X22 : FVec Ideal S768x128 .f32) (X24 X25 : FVec Ideal S320x128 .f32)
    (acc : FVec Ideal S16x128 .f32) (L Q : FVec Ideal S16x8192 .f32) : Prop :=
  (∀ a s, s.val < 512 * k → L (ix2 a s) = LG b X5 X11 X12 X22 a s)
  ∧ (∀ a s, s.val < 512 * k → Q (ix2 a s) = PP b X2 X9 X10 X24 X25 a s)
  ∧ ∀ a l, acc (ix2 a l) = (Finset.range (4 * k)).sup fun m => ext (LG b X5 X11 X12 X22 a) (128 * m + l.val)

theorem T1F_step {c : Dev nD} {b k : ℕ} (hk : 512 * (k + 1) ≤ 8192) {X2 : FVec Ideal S1x1x320x576 .fp8e4m3} {X5 : FVec Ideal S1x1x768x128 .fp8e4m3}
    {X9 : FVec Ideal S1x576x8192 .fp8e4m3} {X10 : FVec Ideal S1x1x8192 .f32} {X11 : FVec Ideal S1x128x8192 .fp8e4m3}
    {X12 : FVec Ideal S1x1x8192 .f32} {X22 : FVec Ideal S768x128 .f32} {X24 X25 : FVec Ideal S320x128 .f32}
    {acc acc' : FVec Ideal S16x128 .f32} (arg20 arg21 : Memref sig .tc .vmem S16x8192 .f32) (f20 : Bf  c arg20) (f21 : Bf  c arg21)
    (h0 : k = 0 → ∀ a l, acc (ix2 a l) = ⊥)
    (h : 0 < k → T1F b k X2 X5 X9 X10 X11 X12 X22 X24 X25 acc (View.read (Elt Ideal) arg20.view f20) (View.read (Elt Ideal) arg21.view f21))
    {off off' : Fin 2 → ℕ} (inb : ∀ a, off a + S16x512.size a ≤ S16x8192.size a) (inb' : ∀ a, off' a + S16x512.size a ≤ S16x8192.size a)
    (hoff : off = ![0, 512 * k]) (hoff' : off' = ![0, 512 * k])
    (NL NP : FVec Ideal S16x512 .f32)
    (hL : ∀ (a : Fin 16) (x : Fin 512), NL (ix2 a x) = LG b X5 X11 X12 X22 a ⟨512 * k + x.val, by omega⟩)
    (hp : ∀ (a : Fin 16) (x : Fin 512), NP (ix2 a x) = PP b X2 X9 X10 X24 X25 a ⟨512 * k + x.val, by omega⟩)
    (hacc : ∀ (a : Fin 16) (l : Fin 128), acc' (ix2 a l) = max (max (max (max (acc (ix2 a l)) (NL (ix2 a ⟨l.val, by omega⟩)))
      (NL (ix2 a ⟨128 + l.val, by omega⟩))) (NL (ix2 a ⟨256 + l.val, by omega⟩))) (NL (ix2 a ⟨384 + l.val, by omega⟩))) :
    T1F b (k + 1) X2 X5 X9 X10 X11 X12 X22 X24 X25 acc'
      (View.read (Elt Ideal) arg20.view (arg20.view.writes (Elt Ideal) f20 [⟨Rect.unit off S16x512.size inb, NL⟩]))
      (View.read (Elt Ideal) arg21.view (arg21.view.writes (Elt Ideal) f21 [⟨Rect.unit off' S16x512.size inb', NP⟩])) := by
  have h' : T1F b k X2 X5 X9 X10 X11 X12 X22 X24 X25 acc (View.read (Elt Ideal) arg20.view f20) (View.read (Elt Ideal) arg21.view f21) := by
    rcases Nat.eq_zero_or_pos k with hz | hz
    · subst hz
      exact ⟨fun a s hs => absurd hs (by omega), fun a s hs => absurd hs (by omega), fun a l => by rw [h0 rfl]; rfl⟩
    · exact h hz
  obtain ⟨h1, h2, h3⟩ := h'
  refine ⟨fun a s hs => ?_, fun a s hs => ?_, fun a l => ?_⟩
  · by_cases hlt : s.val < 512 * k
    · rw [View.read_writes_cons_unit_of_not_mem arg20.view f20 inb NL [] (ix2 a s) hoff 1 (Or.inl (by simpa using hlt))]
      exact h1 a s hlt
    · rw [View.read_writes_cons_unit_of_mem arg20.view f20 inb NL [] (ix2 a s) (ix2 a ⟨s.val - 512 * k, by omega⟩) hoff
        (by intro j; fin_cases j <;> simp <;> omega), hL]
      congr 1; apply Fin.ext; simp; omega
  · by_cases hlt : s.val < 512 * k
    · rw [View.read_writes_cons_unit_of_not_mem arg21.view f21 inb' NP [] (ix2 a s) hoff' 1 (Or.inl (by simpa using hlt))]
      exact h2 a s hlt
    · rw [View.read_writes_cons_unit_of_mem arg21.view f21 inb' NP [] (ix2 a s) (ix2 a ⟨s.val - 512 * k, by omega⟩) hoff'
        (by intro j; fin_cases j <;> simp <;> omega), hp]
      congr 1; apply Fin.ext; simp; omega
  · have e : ∀ j (hj : j < 4), ext (LG b X5 X11 X12 X22 a) (128 * (4 * k + j) + l.val) = NL (ix2 a ⟨128 * j + l.val, by omega⟩) := fun j hj => by
      rw [hL, ext, dif_pos (by omega)]
      congr 1; apply Fin.ext; simp; omega
    rw [hacc, h3, show 4 * (k + 1) = 4 * k + 1 + 1 + 1 + 1 by omega]
    simp only [Finset.range_add_one, Finset.sup_insert]
    have e0 := e 0 (by omega); have e1 := e 1 (by omega); have e2 := e 2 (by omega); have e3 := e 3 (by omega)
    simp only [Nat.add_zero, Nat.mul_zero, Nat.zero_add] at e0 e1 e2 e3
    rw [show 4 * k + 1 + 1 + 1 = 4 * k + 3 by omega, show 4 * k + 1 + 1 = 4 * k + 2 by omega, e0, e1, e2, e3]
    show max (max (max (max _ _) _) _) _ = max _ (max _ (max _ (max _ _)))
    rw [max_comm _ (NL (ix2 a ⟨384 + l.val, _⟩)), max_comm _ (NL (ix2 a ⟨256 + l.val, _⟩)), max_comm _ (NL (ix2 a ⟨128 + l.val, _⟩)), max_comm _ (NL (ix2 a ⟨l.val, _⟩))]

end Cert.Proof.KIV
-- ==== Proof.KIV.Ops.lean ====
/-
  The vector operations of the kernel read at an index.
-/
module

public import proofs.«01_k».proof.Proof.Gen.KernelIdeal.Skeleton
public import Idealize.ShloMosaic.Lib.VecWindow
public import Idealize.ShloMosaic.Lib.Pointwise

@[expose] public section

noncomputable section

namespace Cert.Proof.KIV

open Cert.KernelIdeal Cert.KernelIdeal.Gen
open Idealize.ShloMosaic Idealize.ShloMosaic.TcCoe

/-! ### Re-indexings -/

theorem slice256_apply {o : ℕ} (v : FVec Ideal S256x512 .f32) (h) (a : Fin 16) (x : Fin 512) (ho : o + 16 ≤ 256) :
    extractStridedSlice S16x512 ![o, 0] v h (ix2 a x) = v (ix2 ⟨o + a.val, by omega⟩ x) := by
  pointwise

theorem slice80_apply {o : ℕ} (v : FVec Ideal S80x512 .f32) (h) (a : Fin 16) (x : Fin 512) (ho : o + 16 ≤ 80) :
    extractStridedSlice S16x512 ![o, 0] v h (ix2 a x) = v (ix2 ⟨o + a.val, by omega⟩ x) := by
  pointwise

theorem sliceLane_apply {o : ℕ} (v : FVec Ideal S16x512 .f32) (h) (a : Fin 16) (l : Fin 128) (ho : o + 128 ≤ 512) :
    extractStridedSlice S16x128 ![0, o] v h (ix2 a l) = v (ix2 a ⟨o + l.val, by omega⟩) := by
  pointwise

theorem concat4_apply (w : FVec Ideal S16x128 .f32) (h) (a : Fin 16) (x : Fin 512) :
    concatenate S16x512 1 [⟨S16x128, w⟩, ⟨S16x128, w⟩, ⟨S16x128, w⟩, ⟨S16x128, w⟩] h (ix2 a x) = w (ix2 a ⟨x.val % 128, Nat.mod_lt _ (by decide)⟩) := by
  pointwise
  have := x.isLt
  split
  · congr 2; apply Fin.ext; simp; omega
  · split
    · congr 2; apply Fin.ext; simp; omega
    · split <;> (congr 2; apply Fin.ext; simp; omega)

theorem mm256_apply (A : FVec Ideal S1x1x256x128 .fp8e4m3) (B : FVec Ideal S1x128x512 .fp8e4m3) (hA hB) (r : Fin 256) (x : Fin 512) :
    matmul dot_S256x128_S128x512_S256x512_1_0_0_1_n_n none (shapeCast S256x128 A hA) (shapeCast S128x512 B hB)
      (constant S256x512 .f32 0x00000000#32) (ix2 r x) = ∑ k : Fin 128, A (ix4 0 0 r k) * B (ix3 0 k x) := by
  pointwise

theorem mm80_apply (A : FVec Ideal S1x1x80x576 .fp8e4m3) (B : FVec Ideal S1x576x512 .fp8e4m3) (hA hB) (r : Fin 80) (x : Fin 512) :
    matmul dot_S80x576_S576x512_S80x512_1_0_0_1_n_n none (shapeCast S80x576 A hA) (shapeCast S576x512 B hB)
      (constant S80x512 .f32 0x00000000#32) (ix2 r x) = ∑ k : Fin 576, A (ix4 0 0 r k) * B (ix3 0 k x) := by
  pointwise

theorem bcRow_apply (B : FVec Ideal S1x1x512 .f32) (h h') (a : Fin 16) (x : Fin 512) :
    broadcastTo S16x512 (shapeCast S1x512 B h) h' (ix2 a x) = B (ix3 0 0 x) := by
  pointwise

theorem shapeCast16_self (v : FVec Ideal S16x512 .f32) (h) : shapeCast S16x512 v h = v := by
  funext j
  idx_vars j
  pointwise

/-! ### Reads of a part of a buffer -/

theorem readAt768 {c : Dev nD} (M : Memref sig .tc .vmem S768x128 .f32) (f : Buf (Elt Ideal) (M.view.loc (c : Thread nD τ)))
    {o : ℕ} (inb) (a : Fin 16) (l : Fin 128) (ho : o + 16 ≤ 768) :
    View.readAt (Elt Ideal) M.view (Rect.unit (s := S768x128) ![o, 0] ![16, 128] inb).toLoadRect f (ix2 a l)
      = View.read (Elt Ideal) M.view f (ix2 ⟨o + a.val, by omega⟩ l) := by
  refine congrArg (View.read (Elt Ideal) M.view f) (funext fun j => Fin.ext ?_)
  fin_cases j <;> first | rfl | exact (Nat.zero_add _).trans (Nat.one_mul _) | exact congrArg (o + ·) (Nat.one_mul _)

theorem readAt320 {c : Dev nD} (M : Memref sig .tc .vmem S320x128 .f32) (f : Buf (Elt Ideal) (M.view.loc (c : Thread nD τ)))
    {o : ℕ} (inb) (a : Fin 16) (l : Fin 128) (ho : o + 16 ≤ 320) :
    View.readAt (Elt Ideal) M.view (Rect.unit (s := S320x128) ![o, 0] ![16, 128] inb).toLoadRect f (ix2 a l)
      = View.read (Elt Ideal) M.view f (ix2 ⟨o + a.val, by omega⟩ l) := by
  refine congrArg (View.read (Elt Ideal) M.view f) (funext fun j => Fin.ext ?_)
  fin_cases j <;> first | rfl | exact (Nat.zero_add _).trans (Nat.one_mul _) | exact congrArg (o + ·) (Nat.one_mul _)

theorem readAtQi {c : Dev nD} (M : Memref sig .tc .vmem S1x1x768x128 .fp8e4m3) (f : Buf (Elt Ideal) (M.view.loc (c : Thread nD τ)))
    {o : ℕ} (inb) (r : Fin 256) (l : Fin 128) (ho : o + 256 ≤ 768) :
    View.readAt (Elt Ideal) M.view (Rect.unit (s := S1x1x768x128) ![0, 0, o, 0] ![1, 1, 256, 128] inb).toLoadRect f (ix4 0 0 r l)
      = View.read (Elt Ideal) M.view f (ix4 0 0 ⟨o + r.val, by omega⟩ l) := by
  refine congrArg (View.read (Elt Ideal) M.view f) (funext fun j => Fin.ext ?_)
  fin_cases j <;> first | rfl | exact (Nat.zero_add _).trans (Nat.one_mul _) | exact congrArg (o + ·) (Nat.one_mul _)

theorem readAtQm {c : Dev nD} (M : Memref sig .tc .vmem S1x1x320x576 .fp8e4m3) (f : Buf (Elt Ideal) (M.view.loc (c : Thread nD τ)))
    {o : ℕ} (inb) (r : Fin 80) (l : Fin 576) (ho : o + 80 ≤ 320) :
    View.readAt (Elt Ideal) M.view (Rect.unit (s := S1x1x320x576) ![0, 0, o, 0] ![1, 1, 80, 576] inb).toLoadRect f (ix4 0 0 r l)
      = View.read (Elt Ideal) M.view f (ix4 0 0 ⟨o + r.val, by omega⟩ l) := by
  refine congrArg (View.read (Elt Ideal) M.view f) (funext fun j => Fin.ext ?_)
  fin_cases j <;> first | rfl | exact (Nat.zero_add _).trans (Nat.one_mul _) | exact congrArg (o + ·) (Nat.one_mul _)

theorem readAtKi {c : Dev nD} (M : Memref sig .tc .vmem S1x128x8192 .fp8e4m3) (f : Buf (Elt Ideal) (M.view.loc (c : Thread nD τ)))
    {o : ℕ} {off : Fin 3 → ℕ} (hoff : off = ![0, 0, o]) (inb) (k : Fin 128) (x : Fin 512) (ho : o + 512 ≤ 8192) :
    View.readAt (Elt Ideal) M.view (Rect.unit (s := S1x128x8192) off ![1, 128, 512] inb).toLoadRect f (ix3 0 k x)
      = View.read (Elt Ideal) M.view f (ix3 0 k ⟨o + x.val, by omega⟩) := by
  subst hoff
  refine congrArg (View.read (Elt Ideal) M.view f) (funext fun j => Fin.ext ?_)
  fin_cases j <;> first | rfl | exact (Nat.zero_add _).trans (Nat.one_mul _) | exact congrArg (o + ·) (Nat.one_mul _)

theorem readAtKm {c : Dev nD} (M : Memref sig .tc .vmem S1x576x8192 .fp8e4m3) (f : Buf (Elt Ideal) (M.view.loc (c : Thread nD τ)))
    {o : ℕ} {off : Fin 3 → ℕ} (hoff : off = ![0, 0, o]) (inb) (k : Fin 576) (x : Fin 512) (ho : o + 512 ≤ 8192) :
    View.readAt (Elt Ideal) M.view (Rect.unit (s := S1x576x8192) off ![1, 576, 512] inb).toLoadRect f (ix3 0 k x)
      = View.read (Elt Ideal) M.view f (ix3 0 k ⟨o + x.val, by omega⟩) := by
  subst hoff
  refine congrArg (View.read (Elt Ideal) M.view f) (funext fun j => Fin.ext ?_)
  fin_cases j <;> first | rfl | exact (Nat.zero_add _).trans (Nat.one_mul _) | exact congrArg (o + ·) (Nat.one_mul _)

theorem readAtSc {c : Dev nD} (M : Memref sig .tc .vmem S1x1x8192 .f32) (f : Buf (Elt Ideal) (M.view.loc (c : Thread nD τ)))
    {o : ℕ} {off : Fin 3 → ℕ} (hoff : off = ![0, 0, o]) (inb) (x : Fin 512) (ho : o + 512 ≤ 8192) :
    View.readAt (Elt Ideal) M.view (Rect.unit (s := S1x1x8192) off ![1, 1, 512] inb).toLoadRect f (ix3 0 0 x)
      = View.read (Elt Ideal) M.view f (ix3 0 0 ⟨o + x.val, by omega⟩) := by
  subst hoff
  refine congrArg (View.read (Elt Ideal) M.view f) (funext fun j => Fin.ext ?_)
  fin_cases j <;> first | rfl | exact (Nat.zero_add _).trans (Nat.one_mul _) | exact congrArg (o + ·) (Nat.one_mul _)

theorem readAtLg {c : Dev nD} (M : Memref sig .tc .vmem S16x8192 .f32) (f : Buf (Elt Ideal) (M.view.loc (c : Thread nD τ)))
    {o : ℕ} {off : Fin 2 → ℕ} (hoff : off = ![0, o]) (inb) (a : Fin 16) (x : Fin 512) (ho : o + 512 ≤ 8192) :
    View.readAt (Elt Ideal) M.view (Rect.unit (s := S16x8192) off ![16, 512] inb).toLoadRect f (ix2 a x)
      = View.read (Elt Ideal) M.view f (ix2 a ⟨o + x.val, by omega⟩) := by
  subst hoff
  refine congrArg (View.read (Elt Ideal) M.view f) (funext fun j => Fin.ext ?_)
  fin_cases j <;> first | rfl | exact (Nat.zero_add _).trans (Nat.one_mul _) | exact congrArg (o + ·) (Nat.one_mul _)

theorem broadcast0_apply (v : EReal) (j : S16x512.Idx) : broadcast (α := EReal) S16x512 v j = v := rfl

theorem exp2_ideal (v : EReal) : FloatOps.exp2 (F := Ideal) (φ := .f32) v = Ideal.exp2 v := rfl

/-! ### The visibility mask -/

theorem ofBits_negInf : Ideal.ofBits .f32 0xFF800000#32 = ⊥ := by simp [Ideal.ofBits, Ideal.ieee]

theorem ivMul_eq (k : ℕ) (hk : k < 16) : Scalar.muli (Scf.iv 0#32 1#32 k) 512#32 = BitVec.ofNat 32 (512 * k) := by
  have h : ∀ k : Fin 16, Scalar.muli (Scf.iv 0#32 1#32 k.val) 512#32 = BitVec.ofNat 32 (512 * k.val) := by decide
  exact h ⟨k, hk⟩

theorem sle_ofNat {m n : ℕ} (hm : m < 2 ^ 31) (hn : n < 2 ^ 31) : (BitVec.ofNat 32 m).sle (BitVec.ofNat 32 n) = decide (m ≤ n) := by
  rw [BitVec.sle_eq_decide, BitVec.toInt_eq_toNat_of_lt (by simp; omega), BitVec.toInt_eq_toNat_of_lt (by simp; omega)]
  simp only [BitVec.toNat_ofNat, Nat.mod_eq_of_lt (show m < 2 ^ 32 by omega), Nat.mod_eq_of_lt (show n < 2 ^ 32 by omega), Nat.cast_le]

theorem sel_sle {m n : ℕ} (hm : m < 2 ^ 31) (hn : n < 2 ^ 31) (v w : EReal) :
    Scalar.select (IntOp.cmpi .sle (BitVec.ofNat 32 m) (BitVec.ofNat 32 n)) v w = if m ≤ n then v else w := by
  simp only [Scalar.select, IntOp.cmpi, sle_ofNat hm hn]
  by_cases h : m ≤ n <;> simp [h]

/-- A selection by the mask of the keys that do not come after the row's token. -/
theorem maskSel {b : ℕ} (hb : b < 512) {k : ℕ} (hk : k < 16) (a : Fin 16) (x : Fin 512) (v w : EReal) :
    Scalar.select (IntOp.cmpi .sle (IntOp.addi (Scalar.muli (Scf.iv 0#32 1#32 k) 512#32) (BitVec.ofNat 32 x.val))
      (IntOp.addi (Scalar.muli (BitVec.ofNat 32 b) 16#32) (BitVec.ofNat 32 a.val))) v w
      = if 512 * k + x.val ≤ 16 * b + a.val then v else w := by
  have e1 : IntOp.addi (Scalar.muli (Scf.iv 0#32 1#32 k) 512#32) (BitVec.ofNat 32 x.val) = BitVec.ofNat 32 (512 * k + x.val) := by
    rw [ivMul_eq k hk]; exact (BitVec.ofNat_add ..).symm
  have e2 : IntOp.addi (Scalar.muli (BitVec.ofNat 32 b) 16#32) (BitVec.ofNat 32 a.val) = BitVec.ofNat 32 (16 * b + a.val) := by
    rw [BitVec.ofNat_add, Nat.mul_comm 16 b, BitVec.ofNat_mul]; rfl
  rw [e1, e2, sel_sle (by omega) (by omega)]

theorem select_apply' (m : IVec S16x512 1) (v w : FVec Ideal S16x512 .f32) (a : Fin 16) (x : Fin 512) :
    select m v w (ix2 a x) = Scalar.select (m (ix2 a x)) (v (ix2 a x)) (w (ix2 a x)) := rfl

theorem mask_apply (i : grid0.Coords) (k : Fin (k0_t1_loop i).trips) (a : Fin 16) (x : Fin 512) :
    k0_pay2 i (k0_pay748 (BitVec.ofNat 32 (i 1).val)) (iota .tc S16x512 32 [1] iota_S16x512_d1_w32) 0#32 1#32 k (ix2 a x)
      = IntOp.cmpi .sle (IntOp.addi (Scalar.muli (Scf.iv 0#32 1#32 k.val) 512#32) (BitVec.ofNat 32 x.val))
      (IntOp.addi (Scalar.muli (BitVec.ofNat 32 (i 1).val) 16#32) (BitVec.ofNat 32 a.val)) := by
  pointwise [k0_pay2, k0_pay748]

theorem maskSel' (i : grid0.Coords) (k : Fin (k0_t1_loop i).trips) (hk : k.val < 16) (a : Fin 16) (x : Fin 512) (v w : EReal) :
    Scalar.select (k0_pay2 i (k0_pay748 (BitVec.ofNat 32 (i 1).val)) (iota .tc S16x512 32 [1] iota_S16x512_d1_w32) 0#32 1#32 k (ix2 a x)) v w
      = if 512 * k.val + x.val ≤ 16 * (i 1).val + a.val then v else w := by
  rw [mask_apply, maskSel (i 1).isLt hk]

theorem sum20 (f : Fin 20 → EReal) : ∑ j, f j = ((((((((((((((((((((0 + f ⟨0, by decide⟩) + f ⟨1, by decide⟩) + f ⟨2, by decide⟩) + f ⟨3, by decide⟩) + f ⟨4, by decide⟩) + f ⟨5, by decide⟩) + f ⟨6, by decide⟩) + f ⟨7, by decide⟩) + f ⟨8, by decide⟩) + f ⟨9, by decide⟩) + f ⟨10, by decide⟩) + f ⟨11, by decide⟩) + f ⟨12, by decide⟩) + f ⟨13, by decide⟩) + f ⟨14, by decide⟩) + f ⟨15, by decide⟩) + f ⟨16, by decide⟩) + f ⟨17, by decide⟩) + f ⟨18, by decide⟩) + f ⟨19, by decide⟩) := by
  simp only [Fin.sum_univ_castSucc, Fin.sum_univ_zero]
  rfl

theorem sum48 (f : Fin 48 → EReal) : ∑ j, f j = ((((((((((((((((((((((((((((((((((((((((((((((((0 + f ⟨0, by decide⟩) + f ⟨1, by decide⟩) + f ⟨2, by decide⟩) + f ⟨3, by decide⟩) + f ⟨4, by decide⟩) + f ⟨5, by decide⟩) + f ⟨6, by decide⟩) + f ⟨7, by decide⟩) + f ⟨8, by decide⟩) + f ⟨9, by decide⟩) + f ⟨10, by decide⟩) + f ⟨11, by decide⟩) + f ⟨12, by decide⟩) + f ⟨13, by decide⟩) + f ⟨14, by decide⟩) + f ⟨15, by decide⟩) + f ⟨16, by decide⟩) + f ⟨17, by decide⟩) + f ⟨18, by decide⟩) + f ⟨19, by decide⟩) + f ⟨20, by decide⟩) + f ⟨21, by decide⟩) + f ⟨22, by decide⟩) + f ⟨23, by decide⟩) + f ⟨24, by decide⟩) + f ⟨25, by decide⟩) + f ⟨26, by decide⟩) + f ⟨27, by decide⟩) + f ⟨28, by decide⟩) + f ⟨29, by decide⟩) + f ⟨30, by decide⟩) + f ⟨31, by decide⟩) + f ⟨32, by decide⟩) + f ⟨33, by decide⟩) + f ⟨34, by decide⟩) + f ⟨35, by decide⟩) + f ⟨36, by decide⟩) + f ⟨37, by decide⟩) + f ⟨38, by decide⟩) + f ⟨39, by decide⟩) + f ⟨40, by decide⟩) + f ⟨41, by decide⟩) + f ⟨42, by decide⟩) + f ⟨43, by decide⟩) + f ⟨44, by decide⟩) + f ⟨45, by decide⟩) + f ⟨46, by decide⟩) + f ⟨47, by decide⟩) := by
  simp only [Fin.sum_univ_castSucc, Fin.sum_univ_zero]
  rfl

end Cert.Proof.KIV
-- ==== Proof.KIV.Skel.lean ====
/-
  Each part of the kernel's body over the extended reals is its skeleton.
-/
module

public import proofs.«01_k».proof.Proof.Gen.KernelIdeal.Skeleton

@[expose] public section

noncomputable section

namespace Cert.KernelIdeal

open Idealize.ShloMosaic

theorem k0_part1_eq_skeleton : k0_part1 (F := Ideal) = Gen.k0_part1_skel (F := Ideal) := Gen.k0_part1_eq_skeleton
theorem k0_part2_eq_skeleton : k0_part2 (F := Ideal) = Gen.k0_part2_skel (F := Ideal) := Gen.k0_part2_eq_skeleton
theorem k0_part3_eq_skeleton : k0_part3 (F := Ideal) = Gen.k0_part3_skel (F := Ideal) := Gen.k0_part3_eq_skeleton
theorem k0_part4_eq_skeleton : k0_part4 (F := Ideal) = Gen.k0_part4_skel (F := Ideal) := Gen.k0_part4_eq_skeleton
theorem k0_part5_eq_skeleton : k0_part5 (F := Ideal) = Gen.k0_part5_skel (F := Ideal) := Gen.k0_part5_eq_skeleton
theorem k0_part6_eq_skeleton : k0_part6 (F := Ideal) = Gen.k0_part6_skel (F := Ideal) := Gen.k0_part6_eq_skeleton
theorem k0_part7_eq_skeleton : k0_part7 (F := Ideal) = Gen.k0_part7_skel (F := Ideal) := Gen.k0_part7_eq_skeleton
theorem k0_part8_eq_skeleton : k0_part8 (F := Ideal) = Gen.k0_part8_skel (F := Ideal) := Gen.k0_part8_eq_skeleton
theorem k0_part9_eq_skeleton : k0_part9 (F := Ideal) = Gen.k0_part9_skel (F := Ideal) := Gen.k0_part9_eq_skeleton
theorem k0_part10_eq_skeleton : k0_part10 (F := Ideal) = Gen.k0_part10_skel (F := Ideal) := Gen.k0_part10_eq_skeleton
theorem k0_part11_eq_skeleton : k0_part11 (F := Ideal) = Gen.k0_part11_skel (F := Ideal) := Gen.k0_part11_eq_skeleton
theorem k0_part12_eq_skeleton : k0_part12 (F := Ideal) = Gen.k0_part12_skel (F := Ideal) := Gen.k0_part12_eq_skeleton
theorem k0_part13_eq_skeleton : k0_part13 (F := Ideal) = Gen.k0_part13_skel (F := Ideal) := Gen.k0_part13_eq_skeleton
theorem k0_part14_eq_skeleton : k0_part14 (F := Ideal) = Gen.k0_part14_skel (F := Ideal) := Gen.k0_part14_eq_skeleton
theorem k0_part15_eq_skeleton : k0_part15 (F := Ideal) = Gen.k0_part15_skel (F := Ideal) := Gen.k0_part15_eq_skeleton
theorem k0_part16_eq_skeleton : k0_part16 (F := Ideal) = Gen.k0_part16_skel (F := Ideal) := Gen.k0_part16_eq_skeleton
theorem k0_part17_eq_skeleton : k0_part17 (F := Ideal) = Gen.k0_part17_skel (F := Ideal) := Gen.k0_part17_eq_skeleton
theorem k0_part18_eq_skeleton : k0_part18 (F := Ideal) = Gen.k0_part18_skel (F := Ideal) := Gen.k0_part18_eq_skeleton
theorem k0_part19_eq_skeleton : k0_part19 (F := Ideal) = Gen.k0_part19_skel (F := Ideal) := Gen.k0_part19_eq_skeleton
theorem k0_part20_eq_skeleton : k0_part20 (F := Ideal) = Gen.k0_part20_skel (F := Ideal) := Gen.k0_part20_eq_skeleton
theorem k0_part21_eq_skeleton : k0_part21 (F := Ideal) = Gen.k0_part21_skel (F := Ideal) := Gen.k0_part21_eq_skeleton
theorem k0_part22_eq_skeleton : k0_part22 (F := Ideal) = Gen.k0_part22_skel (F := Ideal) := Gen.k0_part22_eq_skeleton
theorem k0_part23_eq_skeleton : k0_part23 (F := Ideal) = Gen.k0_part23_skel (F := Ideal) := Gen.k0_part23_eq_skeleton
theorem k0_part24_eq_skeleton : k0_part24 (F := Ideal) = Gen.k0_part24_skel (F := Ideal) := Gen.k0_part24_eq_skeleton
theorem k0_part25_eq_skeleton : k0_part25 (F := Ideal) = Gen.k0_part25_skel (F := Ideal) := Gen.k0_part25_eq_skeleton
theorem k0_part26_eq_skeleton : k0_part26 (F := Ideal) = Gen.k0_part26_skel (F := Ideal) := Gen.k0_part26_eq_skeleton
theorem k0_part27_eq_skeleton : k0_part27 (F := Ideal) = Gen.k0_part27_skel (F := Ideal) := Gen.k0_part27_eq_skeleton
theorem k0_part28_eq_skeleton : k0_part28 (F := Ideal) = Gen.k0_part28_skel (F := Ideal) := Gen.k0_part28_eq_skeleton
theorem k0_part29_eq_skeleton : k0_part29 (F := Ideal) = Gen.k0_part29_skel (F := Ideal) := Gen.k0_part29_eq_skeleton
theorem k0_part30_eq_skeleton : k0_part30 (F := Ideal) = Gen.k0_part30_skel (F := Ideal) := Gen.k0_part30_eq_skeleton
theorem k0_part31_eq_skeleton : k0_part31 (F := Ideal) = Gen.k0_part31_skel (F := Ideal) := Gen.k0_part31_eq_skeleton
theorem k0_part32_eq_skeleton : k0_part32 (F := Ideal) = Gen.k0_part32_skel (F := Ideal) := Gen.k0_part32_eq_skeleton
theorem k0_part33_eq_skeleton : k0_part33 (F := Ideal) = Gen.k0_part33_skel (F := Ideal) := Gen.k0_part33_eq_skeleton
theorem k0_part34_eq_skeleton : k0_part34 (F := Ideal) = Gen.k0_part34_skel (F := Ideal) := Gen.k0_part34_eq_skeleton
theorem k0_part35_eq_skeleton : k0_part35 (F := Ideal) = Gen.k0_part35_skel (F := Ideal) := Gen.k0_part35_eq_skeleton
theorem k0_part36_eq_skeleton : k0_part36 (F := Ideal) = Gen.k0_part36_skel (F := Ideal) := Gen.k0_part36_eq_skeleton
theorem k0_part37_eq_skeleton : k0_part37 (F := Ideal) = Gen.k0_part37_skel (F := Ideal) := Gen.k0_part37_eq_skeleton
theorem k0_part38_eq_skeleton : k0_part38 (F := Ideal) = Gen.k0_part38_skel (F := Ideal) := Gen.k0_part38_eq_skeleton
theorem k0_part39_eq_skeleton : k0_part39 (F := Ideal) = Gen.k0_part39_skel (F := Ideal) := Gen.k0_part39_eq_skeleton
theorem k0_part40_eq_skeleton : k0_part40 (F := Ideal) = Gen.k0_part40_skel (F := Ideal) := Gen.k0_part40_eq_skeleton
theorem k0_part41_eq_skeleton : k0_part41 (F := Ideal) = Gen.k0_part41_skel (F := Ideal) := Gen.k0_part41_eq_skeleton
theorem k0_part42_eq_skeleton : k0_part42 (F := Ideal) = Gen.k0_part42_skel (F := Ideal) := Gen.k0_part42_eq_skeleton
theorem k0_part43_eq_skeleton : k0_part43 (F := Ideal) = Gen.k0_part43_skel (F := Ideal) := Gen.k0_part43_eq_skeleton
theorem k0_part44_eq_skeleton : k0_part44 (F := Ideal) = Gen.k0_part44_skel (F := Ideal) := Gen.k0_part44_eq_skeleton
theorem k0_part45_eq_skeleton : k0_part45 (F := Ideal) = Gen.k0_part45_skel (F := Ideal) := Gen.k0_part45_eq_skeleton
theorem k0_part46_eq_skeleton : k0_part46 (F := Ideal) = Gen.k0_part46_skel (F := Ideal) := Gen.k0_part46_eq_skeleton
theorem k0_part47_eq_skeleton : k0_part47 (F := Ideal) = Gen.k0_part47_skel (F := Ideal) := Gen.k0_part47_eq_skeleton
theorem k0_part48_eq_skeleton : k0_part48 (F := Ideal) = Gen.k0_part48_skel (F := Ideal) := Gen.k0_part48_eq_skeleton
theorem k0_part49_eq_skeleton : k0_part49 (F := Ideal) = Gen.k0_part49_skel (F := Ideal) := Gen.k0_part49_eq_skeleton
theorem k0_part50_eq_skeleton : k0_part50 (F := Ideal) = Gen.k0_part50_skel (F := Ideal) := Gen.k0_part50_eq_skeleton
theorem k0_part51_eq_skeleton : k0_part51 (F := Ideal) = Gen.k0_part51_skel (F := Ideal) := Gen.k0_part51_eq_skeleton
theorem k0_part52_eq_skeleton : k0_part52 (F := Ideal) = Gen.k0_part52_skel (F := Ideal) := Gen.k0_part52_eq_skeleton
theorem k0_part53_eq_skeleton : k0_part53 (F := Ideal) = Gen.k0_part53_skel (F := Ideal) := Gen.k0_part53_eq_skeleton
theorem k0_part54_eq_skeleton : k0_part54 (F := Ideal) = Gen.k0_part54_skel (F := Ideal) := Gen.k0_part54_eq_skeleton
theorem k0_part55_eq_skeleton : k0_part55 (F := Ideal) = Gen.k0_part55_skel (F := Ideal) := Gen.k0_part55_eq_skeleton
theorem k0_part56_eq_skeleton : k0_part56 (F := Ideal) = Gen.k0_part56_skel (F := Ideal) := Gen.k0_part56_eq_skeleton
theorem k0_part57_eq_skeleton : k0_part57 (F := Ideal) = Gen.k0_part57_skel (F := Ideal) := Gen.k0_part57_eq_skeleton
theorem k0_part58_eq_skeleton : k0_part58 (F := Ideal) = Gen.k0_part58_skel (F := Ideal) := Gen.k0_part58_eq_skeleton
theorem k0_part59_eq_skeleton : k0_part59 (F := Ideal) = Gen.k0_part59_skel (F := Ideal) := Gen.k0_part59_eq_skeleton
theorem k0_part60_eq_skeleton : k0_part60 (F := Ideal) = Gen.k0_part60_skel (F := Ideal) := Gen.k0_part60_eq_skeleton
theorem k0_part61_eq_skeleton : k0_part61 (F := Ideal) = Gen.k0_part61_skel (F := Ideal) := Gen.k0_part61_eq_skeleton
theorem k0_part62_eq_skeleton : k0_part62 (F := Ideal) = Gen.k0_part62_skel (F := Ideal) := Gen.k0_part62_eq_skeleton
theorem k0_part63_eq_skeleton : k0_part63 (F := Ideal) = Gen.k0_part63_skel (F := Ideal) := Gen.k0_part63_eq_skeleton
theorem k0_part64_eq_skeleton : k0_part64 (F := Ideal) = Gen.k0_part64_skel (F := Ideal) := Gen.k0_part64_eq_skeleton
theorem k0_part65_eq_skeleton : k0_part65 (F := Ideal) = Gen.k0_part65_skel (F := Ideal) := Gen.k0_part65_eq_skeleton
theorem k0_part66_eq_skeleton : k0_part66 (F := Ideal) = Gen.k0_part66_skel (F := Ideal) := Gen.k0_part66_eq_skeleton
theorem k0_part67_eq_skeleton : k0_part67 (F := Ideal) = Gen.k0_part67_skel (F := Ideal) := Gen.k0_part67_eq_skeleton
theorem k0_part68_eq_skeleton : k0_part68 (F := Ideal) = Gen.k0_part68_skel (F := Ideal) := Gen.k0_part68_eq_skeleton
theorem k0_part69_eq_skeleton : k0_part69 (F := Ideal) = Gen.k0_part69_skel (F := Ideal) := Gen.k0_part69_eq_skeleton
theorem k0_part70_eq_skeleton : k0_part70 (F := Ideal) = Gen.k0_part70_skel (F := Ideal) := Gen.k0_part70_eq_skeleton
theorem k0_part71_eq_skeleton : k0_part71 (F := Ideal) = Gen.k0_part71_skel (F := Ideal) := Gen.k0_part71_eq_skeleton
theorem k0_part72_eq_skeleton : k0_part72 (F := Ideal) = Gen.k0_part72_skel (F := Ideal) := Gen.k0_part72_eq_skeleton
theorem k0_part73_eq_skeleton : k0_part73 (F := Ideal) = Gen.k0_part73_skel (F := Ideal) := Gen.k0_part73_eq_skeleton
theorem k0_part74_eq_skeleton : k0_part74 (F := Ideal) = Gen.k0_part74_skel (F := Ideal) := Gen.k0_part74_eq_skeleton
theorem k0_part75_eq_skeleton : k0_part75 (F := Ideal) = Gen.k0_part75_skel (F := Ideal) := Gen.k0_part75_eq_skeleton
theorem k0_part76_eq_skeleton : k0_part76 (F := Ideal) = Gen.k0_part76_skel (F := Ideal) := Gen.k0_part76_eq_skeleton
theorem k0_part77_eq_skeleton : k0_part77 (F := Ideal) = Gen.k0_part77_skel (F := Ideal) := Gen.k0_part77_eq_skeleton
theorem k0_part78_eq_skeleton : k0_part78 (F := Ideal) = Gen.k0_part78_skel (F := Ideal) := Gen.k0_part78_eq_skeleton
theorem k0_part79_eq_skeleton : k0_part79 (F := Ideal) = Gen.k0_part79_skel (F := Ideal) := Gen.k0_part79_eq_skeleton
theorem k0_part80_eq_skeleton : k0_part80 (F := Ideal) = Gen.k0_part80_skel (F := Ideal) := Gen.k0_part80_eq_skeleton
theorem k0_part81_eq_skeleton : k0_part81 (F := Ideal) = Gen.k0_part81_skel (F := Ideal) := Gen.k0_part81_eq_skeleton
theorem k0_part82_eq_skeleton : k0_part82 (F := Ideal) = Gen.k0_part82_skel (F := Ideal) := Gen.k0_part82_eq_skeleton
theorem k0_part83_eq_skeleton : k0_part83 (F := Ideal) = Gen.k0_part83_skel (F := Ideal) := Gen.k0_part83_eq_skeleton
theorem k0_part84_eq_skeleton : k0_part84 (F := Ideal) = Gen.k0_part84_skel (F := Ideal) := Gen.k0_part84_eq_skeleton
theorem k0_part85_eq_skeleton : k0_part85 (F := Ideal) = Gen.k0_part85_skel (F := Ideal) := Gen.k0_part85_eq_skeleton
theorem k0_part86_eq_skeleton : k0_part86 (F := Ideal) = Gen.k0_part86_skel (F := Ideal) := Gen.k0_part86_eq_skeleton
theorem k0_part87_eq_skeleton : k0_part87 (F := Ideal) = Gen.k0_part87_skel (F := Ideal) := Gen.k0_part87_eq_skeleton
theorem k0_part88_eq_skeleton : k0_part88 (F := Ideal) = Gen.k0_part88_skel (F := Ideal) := Gen.k0_part88_eq_skeleton
theorem k0_part89_eq_skeleton : k0_part89 (F := Ideal) = Gen.k0_part89_skel (F := Ideal) := Gen.k0_part89_eq_skeleton
theorem k0_part90_eq_skeleton : k0_part90 (F := Ideal) = Gen.k0_part90_skel (F := Ideal) := Gen.k0_part90_eq_skeleton
theorem k0_part91_eq_skeleton : k0_part91 (F := Ideal) = Gen.k0_part91_skel (F := Ideal) := Gen.k0_part91_eq_skeleton
theorem k0_part92_eq_skeleton : k0_part92 (F := Ideal) = Gen.k0_part92_skel (F := Ideal) := Gen.k0_part92_eq_skeleton
theorem k0_part93_eq_skeleton : k0_part93 (F := Ideal) = Gen.k0_part93_skel (F := Ideal) := Gen.k0_part93_eq_skeleton
theorem k0_part94_eq_skeleton : k0_part94 (F := Ideal) = Gen.k0_part94_skel (F := Ideal) := Gen.k0_part94_eq_skeleton
theorem k0_part95_eq_skeleton : k0_part95 (F := Ideal) = Gen.k0_part95_skel (F := Ideal) := Gen.k0_part95_eq_skeleton
theorem k0_part96_eq_skeleton : k0_part96 (F := Ideal) = Gen.k0_part96_skel (F := Ideal) := Gen.k0_part96_eq_skeleton
theorem k0_part97_eq_skeleton : k0_part97 (F := Ideal) = Gen.k0_part97_skel (F := Ideal) := Gen.k0_part97_eq_skeleton
theorem k0_part98_eq_skeleton : k0_part98 (F := Ideal) = Gen.k0_part98_skel (F := Ideal) := Gen.k0_part98_eq_skeleton
theorem k0_part99_eq_skeleton : k0_part99 (F := Ideal) = Gen.k0_part99_skel (F := Ideal) := Gen.k0_part99_eq_skeleton
theorem k0_part100_eq_skeleton : k0_part100 (F := Ideal) = Gen.k0_part100_skel (F := Ideal) := Gen.k0_part100_eq_skeleton
theorem k0_part101_eq_skeleton : k0_part101 (F := Ideal) = Gen.k0_part101_skel (F := Ideal) := Gen.k0_part101_eq_skeleton
theorem k0_part102_eq_skeleton : k0_part102 (F := Ideal) = Gen.k0_part102_skel (F := Ideal) := Gen.k0_part102_eq_skeleton
theorem k0_part103_eq_skeleton : k0_part103 (F := Ideal) = Gen.k0_part103_skel (F := Ideal) := Gen.k0_part103_eq_skeleton
theorem k0_part104_eq_skeleton : k0_part104 (F := Ideal) = Gen.k0_part104_skel (F := Ideal) := Gen.k0_part104_eq_skeleton
theorem k0_part105_eq_skeleton : k0_part105 (F := Ideal) = Gen.k0_part105_skel (F := Ideal) := Gen.k0_part105_eq_skeleton
theorem k0_part106_eq_skeleton : k0_part106 (F := Ideal) = Gen.k0_part106_skel (F := Ideal) := Gen.k0_part106_eq_skeleton
theorem k0_part107_eq_skeleton : k0_part107 (F := Ideal) = Gen.k0_part107_skel (F := Ideal) := Gen.k0_part107_eq_skeleton
theorem k0_part108_eq_skeleton : k0_part108 (F := Ideal) = Gen.k0_part108_skel (F := Ideal) := Gen.k0_part108_eq_skeleton
theorem k0_part109_eq_skeleton : k0_part109 (F := Ideal) = Gen.k0_part109_skel (F := Ideal) := Gen.k0_part109_eq_skeleton
theorem k0_part110_eq_skeleton : k0_part110 (F := Ideal) = Gen.k0_part110_skel (F := Ideal) := Gen.k0_part110_eq_skeleton
theorem k0_part111_eq_skeleton : k0_part111 (F := Ideal) = Gen.k0_part111_skel (F := Ideal) := Gen.k0_part111_eq_skeleton
theorem k0_part112_eq_skeleton : k0_part112 (F := Ideal) = Gen.k0_part112_skel (F := Ideal) := Gen.k0_part112_eq_skeleton
theorem k0_part113_eq_skeleton : k0_part113 (F := Ideal) = Gen.k0_part113_skel (F := Ideal) := Gen.k0_part113_eq_skeleton
theorem k0_part114_eq_skeleton : k0_part114 (F := Ideal) = Gen.k0_part114_skel (F := Ideal) := Gen.k0_part114_eq_skeleton
theorem k0_part115_eq_skeleton : k0_part115 (F := Ideal) = Gen.k0_part115_skel (F := Ideal) := Gen.k0_part115_eq_skeleton
theorem k0_part116_eq_skeleton : k0_part116 (F := Ideal) = Gen.k0_part116_skel (F := Ideal) := Gen.k0_part116_eq_skeleton
theorem k0_part117_eq_skeleton : k0_part117 (F := Ideal) = Gen.k0_part117_skel (F := Ideal) := Gen.k0_part117_eq_skeleton
theorem k0_part118_eq_skeleton : k0_part118 (F := Ideal) = Gen.k0_part118_skel (F := Ideal) := Gen.k0_part118_eq_skeleton
theorem k0_part119_eq_skeleton : k0_part119 (F := Ideal) = Gen.k0_part119_skel (F := Ideal) := Gen.k0_part119_eq_skeleton
theorem k0_part120_eq_skeleton : k0_part120 (F := Ideal) = Gen.k0_part120_skel (F := Ideal) := Gen.k0_part120_eq_skeleton
theorem k0_part121_eq_skeleton : k0_part121 (F := Ideal) = Gen.k0_part121_skel (F := Ideal) := Gen.k0_part121_eq_skeleton
theorem k0_part122_eq_skeleton : k0_part122 (F := Ideal) = Gen.k0_part122_skel (F := Ideal) := Gen.k0_part122_eq_skeleton
theorem k0_part123_eq_skeleton : k0_part123 (F := Ideal) = Gen.k0_part123_skel (F := Ideal) := Gen.k0_part123_eq_skeleton
theorem k0_part124_eq_skeleton : k0_part124 (F := Ideal) = Gen.k0_part124_skel (F := Ideal) := Gen.k0_part124_eq_skeleton
theorem k0_part125_eq_skeleton : k0_part125 (F := Ideal) = Gen.k0_part125_skel (F := Ideal) := Gen.k0_part125_eq_skeleton
theorem k0_part126_eq_skeleton : k0_part126 (F := Ideal) = Gen.k0_part126_skel (F := Ideal) := Gen.k0_part126_eq_skeleton
theorem k0_part127_eq_skeleton : k0_part127 (F := Ideal) = Gen.k0_part127_skel (F := Ideal) := Gen.k0_part127_eq_skeleton
theorem k0_part128_eq_skeleton : k0_part128 (F := Ideal) = Gen.k0_part128_skel (F := Ideal) := Gen.k0_part128_eq_skeleton
theorem k0_part129_eq_skeleton : k0_part129 (F := Ideal) = Gen.k0_part129_skel (F := Ideal) := Gen.k0_part129_eq_skeleton
theorem k0_part130_eq_skeleton : k0_part130 (F := Ideal) = Gen.k0_part130_skel (F := Ideal) := Gen.k0_part130_eq_skeleton
theorem k0_part131_eq_skeleton : k0_part131 (F := Ideal) = Gen.k0_part131_skel (F := Ideal) := Gen.k0_part131_eq_skeleton
theorem k0_part132_eq_skeleton : k0_part132 (F := Ideal) = Gen.k0_part132_skel (F := Ideal) := Gen.k0_part132_eq_skeleton
theorem k0_part133_eq_skeleton : k0_part133 (F := Ideal) = Gen.k0_part133_skel (F := Ideal) := Gen.k0_part133_eq_skeleton
theorem k0_part134_eq_skeleton : k0_part134 (F := Ideal) = Gen.k0_part134_skel (F := Ideal) := Gen.k0_part134_eq_skeleton
theorem k0_part135_eq_skeleton : k0_part135 (F := Ideal) = Gen.k0_part135_skel (F := Ideal) := Gen.k0_part135_eq_skeleton
theorem k0_part136_eq_skeleton : k0_part136 (F := Ideal) = Gen.k0_part136_skel (F := Ideal) := Gen.k0_part136_eq_skeleton
theorem k0_part137_eq_skeleton : k0_part137 (F := Ideal) = Gen.k0_part137_skel (F := Ideal) := Gen.k0_part137_eq_skeleton
theorem k0_part138_eq_skeleton : k0_part138 (F := Ideal) = Gen.k0_part138_skel (F := Ideal) := Gen.k0_part138_eq_skeleton
theorem k0_part139_eq_skeleton : k0_part139 (F := Ideal) = Gen.k0_part139_skel (F := Ideal) := Gen.k0_part139_eq_skeleton
theorem k0_part140_eq_skeleton : k0_part140 (F := Ideal) = Gen.k0_part140_skel (F := Ideal) := Gen.k0_part140_eq_skeleton
theorem k0_part141_eq_skeleton : k0_part141 (F := Ideal) = Gen.k0_part141_skel (F := Ideal) := Gen.k0_part141_eq_skeleton
theorem k0_part142_eq_skeleton : k0_part142 (F := Ideal) = Gen.k0_part142_skel (F := Ideal) := Gen.k0_part142_eq_skeleton
theorem k0_part143_eq_skeleton : k0_part143 (F := Ideal) = Gen.k0_part143_skel (F := Ideal) := Gen.k0_part143_eq_skeleton
theorem k0_part144_eq_skeleton : k0_part144 (F := Ideal) = Gen.k0_part144_skel (F := Ideal) := Gen.k0_part144_eq_skeleton
theorem k0_part145_eq_skeleton : k0_part145 (F := Ideal) = Gen.k0_part145_skel (F := Ideal) := Gen.k0_part145_eq_skeleton
theorem k0_part146_eq_skeleton : k0_part146 (F := Ideal) = Gen.k0_part146_skel (F := Ideal) := Gen.k0_part146_eq_skeleton

end Cert.KernelIdeal
-- ==== Proof.KIV.Fwd.lean ====
/-
  The first tile loop over the extended reals: what the logit and probability buffers hold after each trip.
-/
module

public import proofs.«01_k».proof.Proof.KI.Offsets
public import proofs.«01_k».proof.Proof.KIV.Step
public import proofs.«01_k».proof.Proof.KIV.Ops
public import proofs.«01_k».proof.Proof.KIV.Skel

@[expose] public section

set_option maxRecDepth 16384

noncomputable section

namespace Cert.Proof.KIV

open Cert.KernelIdeal Cert.Proof.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UU nD τ) ℕ

set_option maxRecDepth 16384 in
set_option maxHeartbeats 4000000 in
@[sl_loop, instance_reducible] def loopInv_k0_t1 (c : Dev nD) (i : grid0.Coords) (arg2 : Memref sig .tc .vmem S1x1x320x576 .fp8e4m3) (harg2 : arg2.IsWhole) (arg3 : Memref sig .tc .vmem S1x16x20 .f32) (harg3 : arg3.IsWhole) (arg4 : Memref sig .tc .vmem S1x16x20 .f32) (harg4 : arg4.IsWhole) (arg5 : Memref sig .tc .vmem S1x1x768x128 .fp8e4m3) (harg5 : arg5.IsWhole) (arg6 : Memref sig .tc .vmem S1x16x48 .f32) (harg6 : arg6.IsWhole) (arg7 : Memref sig .tc .vmem S1x16x48 .f32) (harg7 : arg7.IsWhole) (arg8 : Memref sig .tc .vmem S1x1x1x768 .f32) (harg8 : arg8.IsWhole) (arg9 : Memref sig .tc .vmem S1x576x8192 .fp8e4m3) (harg9 : arg9.IsWhole) (arg10 : Memref sig .tc .vmem S1x1x8192 .f32) (harg10 : arg10.IsWhole) (arg11 : Memref sig .tc .vmem S1x128x8192 .fp8e4m3) (harg11 : arg11.IsWhole) (arg12 : Memref sig .tc .vmem S1x1x8192 .f32) (harg12 : arg12.IsWhole) (arg13 : Memref sig .tc .vmem S1x8192x128 .fp8e4m3) (harg13 : arg13.IsWhole) (arg14 : Memref sig .tc .vmem S1x8192x1 .f32) (harg14 : arg14.IsWhole) (arg15 : Memref sig .tc .vmem S1x16x1 .f32) (harg15 : arg15.IsWhole) (arg16 : Memref sig .tc .vmem S1x16x48x128 .f32) (harg16 : arg16.IsWhole) (arg17 : Memref sig .tc .vmem S1x128x8192 .f32) (harg17 : arg17.IsWhole) (arg18 : Memref sig .tc .vmem S1x16x48 .f32) (harg18 : arg18.IsWhole) (arg19 : Memref sig .tc .vmem S768x8192 .f32) (harg19 : arg19.IsWhole) (arg20 : Memref sig .tc .vmem S16x8192 .f32) (harg20 : arg20.IsWhole) (arg21 : Memref sig .tc .vmem S16x8192 .f32) (harg21 : arg21.IsWhole) (arg22 : Memref sig .tc .vmem S768x128 .f32) (harg22 : arg22.IsWhole) (arg23 : Memref sig .tc .vmem S768x128 .f32) (harg23 : arg23.IsWhole) (arg24 : Memref sig .tc .vmem S320x128 .f32) (harg24 : arg24.IsWhole) (arg25 : Memref sig .tc .vmem S320x128 .f32) (harg25 : arg25.IsWhole) (arg26 : Memref sig .tc .vmem S128x768 .bf16) (harg26 : arg26.IsWhole) (arg27 : Memref sig .tc .vmem S768x128 .f32) (harg27 : arg27.IsWhole) (arg28 : Memref sig .tc .vmem S768x128 .f32) (harg28 : arg28.IsWhole) (arg1 : BitVec 32)  (v18 : BitVec 32) (v927 : FVec Ideal S16x128 .f32) (v928 : Vec Ideal S16x128 .f32) (v948 : IVec S16x512 32)
  (f2 : Bf c arg2) (f5 : Bf c arg5) (f9 : Bf c arg9) (f10 : Bf c arg10) (f11 : Bf c arg11) (f12 : Bf c arg12) (f22 : Bf c arg22) (f24 : Bf c arg24) (f25 : Bf c arg25) (init : FVec Ideal S16x128 .f32) :
    Idealize.ShloMosaic.LoopInv (M := 𝕄) Idealize.ShloMosaic.frame (wpE (defs₀ (F := Ideal)) 𝒱₀ (c : Thread nD τ) none) Set.univ
      (k0_t1_loop i).lb (k0_t1_loop i).ub (k0_t1_loop i).st (k0_t1_ok i) init (Gen.k0_t1_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg1 v18 v927 v928 v948) where
  inv := fun k acc => iprop(pt c arg2 f2 ∗ pt c arg5 f5 ∗ pt c arg9 f9 ∗ pt c arg10 f10 ∗ pt c arg11 f11 ∗ pt c arg12 f12 ∗ pt c arg22 f22 ∗ pt c arg24 f24 ∗ pt c arg25 f25 ∗ (∃ f, pt c arg19 f) ∗ (∃ f20 : Bf c arg20, ∃ f21 : Bf c arg21, pt c arg20 f20 ∗ pt c arg21 f21 ∗ ⌜(k = 0 ∧ acc = init) ∨ (0 < k ∧ ((arg1 = BitVec.ofNat 32 (i 1).val ∧ v948 = iota .tc S16x512 32 [1] iota_S16x512_d1_w32 ∧ init = k0_pay749) →
    T1F (i 1).val k (View.read (Elt Ideal) arg2.view f2) (View.read (Elt Ideal) arg5.view f5) (View.read (Elt Ideal) arg9.view f9) (View.read (Elt Ideal) arg10.view f10) (View.read (Elt Ideal) arg11.view f11) (View.read (Elt Ideal) arg12.view f12) (View.read (Elt Ideal) arg22.view f22) (View.read (Elt Ideal) arg24.view f24) (View.read (Elt Ideal) arg25.view f25) acc (View.read (Elt Ideal) arg20.view f20) (View.read (Elt Ideal) arg21.view f21)))⌝))
  step := fun k acc => by
    iintro ⟨H2, H5, H9, H10, H11, H12, H22, H24, H25, ⟨%f19, H19⟩, ⟨%f20, %f21, H20, H21, %hP⟩⟩
    unfold Gen.k0_t1_body
    sl_exec_parts
    sl_step
    isplitl [H2]
    · iexact H2
    isplitl [H5]
    · iexact H5
    isplitl [H9]
    · iexact H9
    isplitl [H10]
    · iexact H10
    isplitl [H11]
    · iexact H11
    isplitl [H12]
    · iexact H12
    isplitl [H22]
    · iexact H22
    isplitl [H24]
    · iexact H24
    isplitl [H25]
    · iexact H25
    isplitl [H19]
    · iexists _
      iexact H19
    iexists _, _
    isplitl [H20]
    · iexact H20
    isplitl [H21]
    · iexact H21
    ipureintro
    refine Or.inr ⟨Nat.succ_pos _, fun hyp => ?_⟩
    unfold loopInv_k0_t1.sl.H20_1
    obtain ⟨e1, e2, e3⟩ := hyp
    have hk : k.val < 16 := t1_lt i k
    refine T1F_step (k := k.val) (acc := acc) (by omega) arg20 arg21 f20 f21 ?_ ?_ _ _ (k0_off51_eq i k) (k0_off51_eq i k) _ _ ?_ ?_ ?_
    · intro hz a l
      rcases hP with ⟨_, h⟩ | ⟨h, _⟩
      · rw [h, e3]
        exact ofBits_negInf
      · omega
    · intro hz
      rcases hP with ⟨h, _⟩ | ⟨_, h⟩
      · omega
      · exact h ⟨e1, e2, e3⟩
    · intro a x
      subst e1 e2
      delta loopInv_k0_t1.sl.cst_1008 loopInv_k0_t1.sl.r loopInv_k0_t1.sl.r_1 loopInv_k0_t1.sl.r_2 loopInv_k0_t1.sl.r_3 loopInv_k0_t1.sl.r_4 loopInv_k0_t1.sl.r_5 loopInv_k0_t1.sl.r_6 loopInv_k0_t1.sl.r_7 loopInv_k0_t1.sl.r_8 loopInv_k0_t1.sl.r_9 loopInv_k0_t1.sl.r_10 loopInv_k0_t1.sl.r_11 loopInv_k0_t1.sl.r_12 loopInv_k0_t1.sl.r_13 loopInv_k0_t1.sl.r_14 loopInv_k0_t1.sl.r_15 loopInv_k0_t1.sl.r_16 loopInv_k0_t1.sl.r_17 loopInv_k0_t1.sl.r_18 loopInv_k0_t1.sl.r_19 loopInv_k0_t1.sl.r_20 loopInv_k0_t1.sl.r_21 loopInv_k0_t1.sl.r_22 loopInv_k0_t1.sl.r_23 loopInv_k0_t1.sl.r_24 loopInv_k0_t1.sl.r_25 loopInv_k0_t1.sl.r_26 loopInv_k0_t1.sl.r_27 loopInv_k0_t1.sl.r_28 loopInv_k0_t1.sl.r_29 loopInv_k0_t1.sl.r_30 loopInv_k0_t1.sl.r_31 loopInv_k0_t1.sl.r_32 loopInv_k0_t1.sl.r_33 loopInv_k0_t1.sl.r_34 loopInv_k0_t1.sl.r_35 loopInv_k0_t1.sl.r_36 loopInv_k0_t1.sl.r_37 loopInv_k0_t1.sl.r_38 loopInv_k0_t1.sl.r_39 loopInv_k0_t1.sl.r_40 loopInv_k0_t1.sl.r_41 loopInv_k0_t1.sl.r_42 loopInv_k0_t1.sl.r_43 loopInv_k0_t1.sl.r_44 loopInv_k0_t1.sl.r_45 loopInv_k0_t1.sl.r_46 loopInv_k0_t1.sl.r_47 loopInv_k0_t1.sl.r_48 loopInv_k0_t1.sl.r_49 loopInv_k0_t1.sl.r_50 loopInv_k0_t1.sl.r_51 loopInv_k0_t1.sl.r_52 loopInv_k0_t1.sl.r_53 loopInv_k0_t1.sl.r_54 loopInv_k0_t1.sl.r_55 loopInv_k0_t1.sl.r_56 loopInv_k0_t1.sl.r_57 loopInv_k0_t1.sl.r_58
      simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124]
      clear hP
      have hk5 : 512 * k.val + 512 ≤ 8192 := by omega
      have hl : (512 * k.val + x.val) % 128 = x.val % 128 := by omega
      simp only [addf_apply, mulf_apply, maximumf_apply, subf_apply, exp2_apply, broadcast0_apply, slice256_apply, slice80_apply, concat4_apply, mm256_apply, mm80_apply, bcRow_apply, shapeCast16_self, readAt768, readAt320, readAtQi, readAtQm, readAtKi (hoff := k0_off1_eq i k) (ho := hk5), readAtKm (hoff := k0_off52_eq i k) (ho := hk5), readAtSc (hoff := k0_off50_eq i k) (ho := hk5), select_apply', mask_apply, Nat.reduceAdd, Nat.reduceMul, Nat.reduceLeDiff, le_refl, Ideal.addf_def, Ideal.mulf_def, Ideal.subf_def, Ideal.maximumf_def, Ideal.ofBits_def, Ideal.ofBits_zero_f32, ofBits_negInf, exp2_ideal]
      refine (maskSel' i k hk a x _ _).trans ?_
      simp only [LG, RR, sum48, row, lane, ← Nat.add_assoc, Nat.reduceAdd, Nat.reduceMul, Nat.zero_add, zero_add, hl]
    · intro a x
      subst e1 e2
      delta loopInv_k0_t1.sl.r loopInv_k0_t1.sl.r_36 loopInv_k0_t1.sl.r_37 loopInv_k0_t1.sl.r_38 loopInv_k0_t1.sl.r_39 loopInv_k0_t1.sl.r_40 loopInv_k0_t1.sl.r_41 loopInv_k0_t1.sl.r_42 loopInv_k0_t1.sl.r_43 loopInv_k0_t1.sl.r_44 loopInv_k0_t1.sl.r_45 loopInv_k0_t1.sl.r_46 loopInv_k0_t1.sl.r_47 loopInv_k0_t1.sl.r_48 loopInv_k0_t1.sl.r_49 loopInv_k0_t1.sl.r_50 loopInv_k0_t1.sl.r_51 loopInv_k0_t1.sl.r_52 loopInv_k0_t1.sl.r_53 loopInv_k0_t1.sl.r_54 loopInv_k0_t1.sl.r_55 loopInv_k0_t1.sl.r_56
      simp only [k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146]
      clear hP
      have hk5 : 512 * k.val + 512 ≤ 8192 := by omega
      have hl : (512 * k.val + x.val) % 128 = x.val % 128 := by omega
      simp only [addf_apply, mulf_apply, maximumf_apply, subf_apply, exp2_apply, broadcast0_apply, slice256_apply, slice80_apply, concat4_apply, mm256_apply, mm80_apply, bcRow_apply, shapeCast16_self, readAt768, readAt320, readAtQi, readAtQm, readAtKi (hoff := k0_off1_eq i k) (ho := hk5), readAtKm (hoff := k0_off52_eq i k) (ho := hk5), readAtSc (hoff := k0_off50_eq i k) (ho := hk5), select_apply', mask_apply, Nat.reduceAdd, Nat.reduceMul, Nat.reduceLeDiff, le_refl, Ideal.addf_def, Ideal.mulf_def, Ideal.subf_def, Ideal.maximumf_def, Ideal.ofBits_def, Ideal.ofBits_zero_f32, ofBits_negInf, exp2_ideal]
      refine (maskSel' i k hk a x _ _).trans ?_
      simp only [PP, sum20, row, lane, ← Nat.add_assoc, Nat.reduceAdd, Nat.reduceMul, Nat.zero_add, zero_add, hl]
    · intro a l
      delta loopInv_k0_t1.sl.r_57 loopInv_k0_t1.sl.r_58 loopInv_k0_t1.sl.r_35
      simp only [k0_pay750, k0_pay148, k0_pay147, k0_pay124]
      simp only [maximumf_apply, shapeCast16_self, sliceLane_apply, Nat.zero_add, Nat.reduceAdd, Nat.reduceLeDiff, le_refl]
      rfl
end Cert.Proof.KIV
-- ==== Proof.KIV.Loops2.lean ====
/-
  The other loops over the extended reals: the sum of exponentials, the divergence terms, and the loops that make no trip.
-/
module

public import proofs.«01_k».proof.Proof.KI.Offsets
public import proofs.«01_k».proof.Proof.KIV.Step
public import proofs.«01_k».proof.Proof.KIV.Ops
public import proofs.«01_k».proof.Proof.KIV.Skel

@[expose] public section

set_option maxRecDepth 16384

noncomputable section

namespace Cert.Proof.KIV

open Cert.KernelIdeal Cert.Proof.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UU nD τ) ℕ

/-- What a carried sum stands at before trip `k`: per lane, the terms of the keys before `512 * k`. -/
def SumF (k : ℕ) (g : Fin 16 → Fin 8192 → EReal) (acc : FVec Ideal S16x128 .f32) : Prop :=
  ∀ a l, acc (ix2 a l) = ∑ m ∈ Finset.range (4 * k), ext (g a) (128 * m + l.val)

theorem SumF_step {k : ℕ} (hk : 512 * (k + 1) ≤ 8192) {g : Fin 16 → Fin 8192 → EReal} {acc acc' : FVec Ideal S16x128 .f32}
    (h0 : k = 0 → ∀ a l, acc (ix2 a l) = 0) (h : 0 < k → SumF k g acc)
    (hacc : ∀ (a : Fin 16) (l : Fin 128), acc' (ix2 a l) = (((acc (ix2 a l) + g a ⟨512 * k + l.val, by omega⟩)
      + g a ⟨512 * k + (128 + l.val), by omega⟩) + g a ⟨512 * k + (256 + l.val), by omega⟩) + g a ⟨512 * k + (384 + l.val), by omega⟩) :
    SumF (k + 1) g acc' := by
  have h' : SumF k g acc := by
    rcases Nat.eq_zero_or_pos k with hz | hz
    · subst hz
      exact fun a l => by rw [h0 rfl]; rfl
    · exact h hz
  intro a l
  have e : ∀ j (hj : j < 4), ext (g a) (128 * (4 * k + j) + l.val) = g a ⟨512 * k + (128 * j + l.val), by omega⟩ := fun j hj => by
    rw [ext, dif_pos (by omega)]
    congr 1; apply Fin.ext; simp; omega
  rw [hacc, h', show 4 * (k + 1) = 4 * k + 1 + 1 + 1 + 1 by omega]
  simp only [Finset.sum_range_succ]
  have e0 := e 0 (by omega); have e1 := e 1 (by omega); have e2 := e 2 (by omega); have e3 := e 3 (by omega)
  simp only [Nat.add_zero, Nat.mul_zero, Nat.zero_add] at e0 e1 e2 e3
  rw [show 4 * k + 1 + 1 + 1 = 4 * k + 3 by omega, show 4 * k + 1 + 1 = 4 * k + 2 by omega, e0, e1, e2, e3]

/-- One term of the row's sum of exponentials. -/
def ET (L : FVec Ideal S16x8192 .f32) (M : FVec Ideal S16x128 .f32) (a : Fin 16) (s : Fin 8192) : EReal :=
  Ideal.exp (L (ix2 a s) - M (ix2 a (lane s)))

/-- One term of the row's divergence. -/
def KT (b : ℕ) (L Q : FVec Ideal S16x8192 .f32) (E : FVec Ideal S16x128 .f32) (a : Fin 16) (s : Fin 8192) : EReal :=
  if s.val ≤ 16 * b + a.val then Q (ix2 a s) * (Ideal.log (Q (ix2 a s)) - (L (ix2 a s) - E (ix2 a (lane s)))) else 0

theorem maskT5 (i : grid0.Coords) (k : Fin (k0_t5_loop i).trips) (hk : k.val < 16) (a : Fin 16) (x : Fin 512) (v w : EReal) :
    Scalar.select (k0_pay296 i (k0_pay748 (BitVec.ofNat 32 (i 1).val)) (iota .tc S16x512 32 [1] iota_S16x512_d1_w32) 0#32 1#32 k (ix2 a x)) v w
      = if 512 * k.val + x.val ≤ 16 * (i 1).val + a.val then v else w := by
  have e : k0_pay296 i (k0_pay748 (BitVec.ofNat 32 (i 1).val)) (iota .tc S16x512 32 [1] iota_S16x512_d1_w32) 0#32 1#32 k (ix2 a x)
      = IntOp.cmpi .sle (IntOp.addi (Scalar.muli (Scf.iv 0#32 1#32 k.val) 512#32) (BitVec.ofNat 32 x.val))
      (IntOp.addi (Scalar.muli (BitVec.ofNat 32 (i 1).val) 16#32) (BitVec.ofNat 32 a.val)) := by
    pointwise [k0_pay296, k0_pay748]
  rw [e, maskSel (i 1).isLt hk]

@[sl_loop, instance_reducible] def loopInv_k0_t2 (c : Dev nD) (i : grid0.Coords) (arg2 : Memref sig .tc .vmem S1x1x320x576 .fp8e4m3) (harg2 : arg2.IsWhole) (arg3 : Memref sig .tc .vmem S1x16x20 .f32) (harg3 : arg3.IsWhole) (arg4 : Memref sig .tc .vmem S1x16x20 .f32) (harg4 : arg4.IsWhole) (arg5 : Memref sig .tc .vmem S1x1x768x128 .fp8e4m3) (harg5 : arg5.IsWhole) (arg6 : Memref sig .tc .vmem S1x16x48 .f32) (harg6 : arg6.IsWhole) (arg7 : Memref sig .tc .vmem S1x16x48 .f32) (harg7 : arg7.IsWhole) (arg8 : Memref sig .tc .vmem S1x1x1x768 .f32) (harg8 : arg8.IsWhole) (arg9 : Memref sig .tc .vmem S1x576x8192 .fp8e4m3) (harg9 : arg9.IsWhole) (arg10 : Memref sig .tc .vmem S1x1x8192 .f32) (harg10 : arg10.IsWhole) (arg11 : Memref sig .tc .vmem S1x128x8192 .fp8e4m3) (harg11 : arg11.IsWhole) (arg12 : Memref sig .tc .vmem S1x1x8192 .f32) (harg12 : arg12.IsWhole) (arg13 : Memref sig .tc .vmem S1x8192x128 .fp8e4m3) (harg13 : arg13.IsWhole) (arg14 : Memref sig .tc .vmem S1x8192x1 .f32) (harg14 : arg14.IsWhole) (arg15 : Memref sig .tc .vmem S1x16x1 .f32) (harg15 : arg15.IsWhole) (arg16 : Memref sig .tc .vmem S1x16x48x128 .f32) (harg16 : arg16.IsWhole) (arg17 : Memref sig .tc .vmem S1x128x8192 .f32) (harg17 : arg17.IsWhole) (arg18 : Memref sig .tc .vmem S1x16x48 .f32) (harg18 : arg18.IsWhole) (arg19 : Memref sig .tc .vmem S768x8192 .f32) (harg19 : arg19.IsWhole) (arg20 : Memref sig .tc .vmem S16x8192 .f32) (harg20 : arg20.IsWhole) (arg21 : Memref sig .tc .vmem S16x8192 .f32) (harg21 : arg21.IsWhole) (arg22 : Memref sig .tc .vmem S768x128 .f32) (harg22 : arg22.IsWhole) (arg23 : Memref sig .tc .vmem S768x128 .f32) (harg23 : arg23.IsWhole) (arg24 : Memref sig .tc .vmem S320x128 .f32) (harg24 : arg24.IsWhole) (arg25 : Memref sig .tc .vmem S320x128 .f32) (harg25 : arg25.IsWhole) (arg26 : Memref sig .tc .vmem S128x768 .bf16) (harg26 : arg26.IsWhole) (arg27 : Memref sig .tc .vmem S768x128 .f32) (harg27 : arg27.IsWhole) (arg28 : Memref sig .tc .vmem S768x128 .f32) (harg28 : arg28.IsWhole) (arg1 : BitVec 32)  (v18 : BitVec 32) (v927 : FVec Ideal S16x128 .f32) (v928 : Vec Ideal S16x128 .f32) (v948 : IVec S16x512 32) (v954 : BitVec 32) (init : FVec Ideal S16x128 .f32) :
    Idealize.ShloMosaic.LoopInv (M := 𝕄) Idealize.ShloMosaic.frame (wpE (defs₀ (F := Ideal)) 𝒱₀ (c : Thread nD τ) none) Set.univ
      (k0_t2_loop i).lb (k0_t2_loop i).ub (k0_t2_loop i).st (k0_t2_ok i) init (Gen.k0_t2_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg1 v18 v927 v928 v948 v954) where
  inv := fun _ acc => iprop(⌜acc = init⌝)
  step := fun k _ => absurd (lt_of_lt_of_eq k.isLt (t2_trips i)) (Nat.not_lt_zero _)

@[sl_loop, instance_reducible] def loopInv_k0_t4 (c : Dev nD) (i : grid0.Coords) (arg2 : Memref sig .tc .vmem S1x1x320x576 .fp8e4m3) (harg2 : arg2.IsWhole) (arg3 : Memref sig .tc .vmem S1x16x20 .f32) (harg3 : arg3.IsWhole) (arg4 : Memref sig .tc .vmem S1x16x20 .f32) (harg4 : arg4.IsWhole) (arg5 : Memref sig .tc .vmem S1x1x768x128 .fp8e4m3) (harg5 : arg5.IsWhole) (arg6 : Memref sig .tc .vmem S1x16x48 .f32) (harg6 : arg6.IsWhole) (arg7 : Memref sig .tc .vmem S1x16x48 .f32) (harg7 : arg7.IsWhole) (arg8 : Memref sig .tc .vmem S1x1x1x768 .f32) (harg8 : arg8.IsWhole) (arg9 : Memref sig .tc .vmem S1x576x8192 .fp8e4m3) (harg9 : arg9.IsWhole) (arg10 : Memref sig .tc .vmem S1x1x8192 .f32) (harg10 : arg10.IsWhole) (arg11 : Memref sig .tc .vmem S1x128x8192 .fp8e4m3) (harg11 : arg11.IsWhole) (arg12 : Memref sig .tc .vmem S1x1x8192 .f32) (harg12 : arg12.IsWhole) (arg13 : Memref sig .tc .vmem S1x8192x128 .fp8e4m3) (harg13 : arg13.IsWhole) (arg14 : Memref sig .tc .vmem S1x8192x1 .f32) (harg14 : arg14.IsWhole) (arg15 : Memref sig .tc .vmem S1x16x1 .f32) (harg15 : arg15.IsWhole) (arg16 : Memref sig .tc .vmem S1x16x48x128 .f32) (harg16 : arg16.IsWhole) (arg17 : Memref sig .tc .vmem S1x128x8192 .f32) (harg17 : arg17.IsWhole) (arg18 : Memref sig .tc .vmem S1x16x48 .f32) (harg18 : arg18.IsWhole) (arg19 : Memref sig .tc .vmem S768x8192 .f32) (harg19 : arg19.IsWhole) (arg20 : Memref sig .tc .vmem S16x8192 .f32) (harg20 : arg20.IsWhole) (arg21 : Memref sig .tc .vmem S16x8192 .f32) (harg21 : arg21.IsWhole) (arg22 : Memref sig .tc .vmem S768x128 .f32) (harg22 : arg22.IsWhole) (arg23 : Memref sig .tc .vmem S768x128 .f32) (harg23 : arg23.IsWhole) (arg24 : Memref sig .tc .vmem S320x128 .f32) (harg24 : arg24.IsWhole) (arg25 : Memref sig .tc .vmem S320x128 .f32) (harg25 : arg25.IsWhole) (arg26 : Memref sig .tc .vmem S128x768 .bf16) (harg26 : arg26.IsWhole) (arg27 : Memref sig .tc .vmem S768x128 .f32) (harg27 : arg27.IsWhole) (arg28 : Memref sig .tc .vmem S768x128 .f32) (harg28 : arg28.IsWhole)   (v18 : BitVec 32) (v947 v948 : IVec S16x512 32) (v960 v961 : FVec Ideal S16x128 .f32) (c0_i32_473 v966 : BitVec 32) (init : FVec Ideal S16x128 .f32) :
    Idealize.ShloMosaic.LoopInv (M := 𝕄) Idealize.ShloMosaic.frame (wpE (defs₀ (F := Ideal)) 𝒱₀ (c : Thread nD τ) none) Set.univ
      (k0_t4_loop i).lb (k0_t4_loop i).ub (k0_t4_loop i).st (k0_t4_ok i) init (Gen.k0_t4_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v18 v947 v948 v960 v961 c0_i32_473 v966) where
  inv := fun _ acc => iprop(⌜acc = init⌝)
  step := fun k _ => absurd (lt_of_lt_of_eq k.isLt (t4_trips i)) (Nat.not_lt_zero _)

@[sl_loop, instance_reducible] def loopInv_k0_t6 (c : Dev nD) (i : grid0.Coords) (arg2 : Memref sig .tc .vmem S1x1x320x576 .fp8e4m3) (harg2 : arg2.IsWhole) (arg3 : Memref sig .tc .vmem S1x16x20 .f32) (harg3 : arg3.IsWhole) (arg4 : Memref sig .tc .vmem S1x16x20 .f32) (harg4 : arg4.IsWhole) (arg5 : Memref sig .tc .vmem S1x1x768x128 .fp8e4m3) (harg5 : arg5.IsWhole) (arg6 : Memref sig .tc .vmem S1x16x48 .f32) (harg6 : arg6.IsWhole) (arg7 : Memref sig .tc .vmem S1x16x48 .f32) (harg7 : arg7.IsWhole) (arg8 : Memref sig .tc .vmem S1x1x1x768 .f32) (harg8 : arg8.IsWhole) (arg9 : Memref sig .tc .vmem S1x576x8192 .fp8e4m3) (harg9 : arg9.IsWhole) (arg10 : Memref sig .tc .vmem S1x1x8192 .f32) (harg10 : arg10.IsWhole) (arg11 : Memref sig .tc .vmem S1x128x8192 .fp8e4m3) (harg11 : arg11.IsWhole) (arg12 : Memref sig .tc .vmem S1x1x8192 .f32) (harg12 : arg12.IsWhole) (arg13 : Memref sig .tc .vmem S1x8192x128 .fp8e4m3) (harg13 : arg13.IsWhole) (arg14 : Memref sig .tc .vmem S1x8192x1 .f32) (harg14 : arg14.IsWhole) (arg15 : Memref sig .tc .vmem S1x16x1 .f32) (harg15 : arg15.IsWhole) (arg16 : Memref sig .tc .vmem S1x16x48x128 .f32) (harg16 : arg16.IsWhole) (arg17 : Memref sig .tc .vmem S1x128x8192 .f32) (harg17 : arg17.IsWhole) (arg18 : Memref sig .tc .vmem S1x16x48 .f32) (harg18 : arg18.IsWhole) (arg19 : Memref sig .tc .vmem S768x8192 .f32) (harg19 : arg19.IsWhole) (arg20 : Memref sig .tc .vmem S16x8192 .f32) (harg20 : arg20.IsWhole) (arg21 : Memref sig .tc .vmem S16x8192 .f32) (harg21 : arg21.IsWhole) (arg22 : Memref sig .tc .vmem S768x128 .f32) (harg22 : arg22.IsWhole) (arg23 : Memref sig .tc .vmem S768x128 .f32) (harg23 : arg23.IsWhole) (arg24 : Memref sig .tc .vmem S320x128 .f32) (harg24 : arg24.IsWhole) (arg25 : Memref sig .tc .vmem S320x128 .f32) (harg25 : arg25.IsWhole) (arg26 : Memref sig .tc .vmem S128x768 .bf16) (harg26 : arg26.IsWhole) (arg27 : Memref sig .tc .vmem S768x128 .f32) (harg27 : arg27.IsWhole) (arg28 : Memref sig .tc .vmem S768x128 .f32) (harg28 : arg28.IsWhole)   (v18 : BitVec 32) (v947 v948 : IVec S16x512 32) (v960 v961 : FVec Ideal S16x128 .f32) (c0_i32_473 v966 : BitVec 32) (v968 : FVec Ideal S16x128 .f32) (v988 : BitVec 32) (init : FVec Ideal S16x128 .f32) :
    Idealize.ShloMosaic.LoopInv (M := 𝕄) Idealize.ShloMosaic.frame (wpE (defs₀ (F := Ideal)) 𝒱₀ (c : Thread nD τ) none) Set.univ
      (k0_t6_loop i).lb (k0_t6_loop i).ub (k0_t6_loop i).st (k0_t6_ok i) init (Gen.k0_t6_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v18 v947 v948 v960 v961 c0_i32_473 v966 v968 v988) where
  inv := fun _ acc => iprop(⌜acc = init⌝)
  step := fun k _ => absurd (lt_of_lt_of_eq k.isLt (t6_trips i)) (Nat.not_lt_zero _)

set_option pp.maxSteps 2000 in
@[sl_loop, instance_reducible] def loopInv_k0_t3 (c : Dev nD) (i : grid0.Coords) (arg2 : Memref sig .tc .vmem S1x1x320x576 .fp8e4m3) (harg2 : arg2.IsWhole) (arg3 : Memref sig .tc .vmem S1x16x20 .f32) (harg3 : arg3.IsWhole) (arg4 : Memref sig .tc .vmem S1x16x20 .f32) (harg4 : arg4.IsWhole) (arg5 : Memref sig .tc .vmem S1x1x768x128 .fp8e4m3) (harg5 : arg5.IsWhole) (arg6 : Memref sig .tc .vmem S1x16x48 .f32) (harg6 : arg6.IsWhole) (arg7 : Memref sig .tc .vmem S1x16x48 .f32) (harg7 : arg7.IsWhole) (arg8 : Memref sig .tc .vmem S1x1x1x768 .f32) (harg8 : arg8.IsWhole) (arg9 : Memref sig .tc .vmem S1x576x8192 .fp8e4m3) (harg9 : arg9.IsWhole) (arg10 : Memref sig .tc .vmem S1x1x8192 .f32) (harg10 : arg10.IsWhole) (arg11 : Memref sig .tc .vmem S1x128x8192 .fp8e4m3) (harg11 : arg11.IsWhole) (arg12 : Memref sig .tc .vmem S1x1x8192 .f32) (harg12 : arg12.IsWhole) (arg13 : Memref sig .tc .vmem S1x8192x128 .fp8e4m3) (harg13 : arg13.IsWhole) (arg14 : Memref sig .tc .vmem S1x8192x1 .f32) (harg14 : arg14.IsWhole) (arg15 : Memref sig .tc .vmem S1x16x1 .f32) (harg15 : arg15.IsWhole) (arg16 : Memref sig .tc .vmem S1x16x48x128 .f32) (harg16 : arg16.IsWhole) (arg17 : Memref sig .tc .vmem S1x128x8192 .f32) (harg17 : arg17.IsWhole) (arg18 : Memref sig .tc .vmem S1x16x48 .f32) (harg18 : arg18.IsWhole) (arg19 : Memref sig .tc .vmem S768x8192 .f32) (harg19 : arg19.IsWhole) (arg20 : Memref sig .tc .vmem S16x8192 .f32) (harg20 : arg20.IsWhole) (arg21 : Memref sig .tc .vmem S16x8192 .f32) (harg21 : arg21.IsWhole) (arg22 : Memref sig .tc .vmem S768x128 .f32) (harg22 : arg22.IsWhole) (arg23 : Memref sig .tc .vmem S768x128 .f32) (harg23 : arg23.IsWhole) (arg24 : Memref sig .tc .vmem S320x128 .f32) (harg24 : arg24.IsWhole) (arg25 : Memref sig .tc .vmem S320x128 .f32) (harg25 : arg25.IsWhole) (arg26 : Memref sig .tc .vmem S128x768 .bf16) (harg26 : arg26.IsWhole) (arg27 : Memref sig .tc .vmem S768x128 .f32) (harg27 : arg27.IsWhole) (arg28 : Memref sig .tc .vmem S768x128 .f32) (harg28 : arg28.IsWhole)   (v18 : BitVec 32) (v947 v948 : IVec S16x512 32) (v960 v961 : FVec Ideal S16x128 .f32) (c0_i32_473 v966 : BitVec 32)
  (f20 : Bf c arg20) (init : FVec Ideal S16x128 .f32) :
    Idealize.ShloMosaic.LoopInv (M := 𝕄) Idealize.ShloMosaic.frame (wpE (defs₀ (F := Ideal)) 𝒱₀ (c : Thread nD τ) none) Set.univ
      (k0_t3_loop i).lb (k0_t3_loop i).ub (k0_t3_loop i).st (k0_t3_ok i) init (Gen.k0_t3_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v18 v947 v948 v960 v961 c0_i32_473 v966) where
  inv := fun k acc => iprop(pt c arg20 f20 ∗ ⌜(k = 0 ∧ acc = init) ∨ (0 < k ∧ (init = k0_pay753 → SumF k (ET (View.read (Elt Ideal) arg20.view f20) v960) acc))⌝)
  step := fun k acc => by
    iintro ⟨H20, %hP⟩
    unfold Gen.k0_t3_body
    sl_exec_parts
    sl_step
    isplitl [H20]
    · iexact H20
    ipureintro
    refine Or.inr ⟨Nat.succ_pos _, fun e => ?_⟩
    have hk : k.val < 16 := t3_lt i k
    have hk5 : 512 * k.val + 512 ≤ 8192 := by omega
    refine SumF_step (k := k.val) (acc := acc) (by omega) ?_ ?_ ?_
    · intro hz a l
      rcases hP with ⟨_, h⟩ | ⟨h, _⟩
      · rw [h, e]
        exact Ideal.ofBits_zero .f32
      · omega
    · intro hz
      rcases hP with ⟨h, _⟩ | ⟨_, h⟩
      · omega
      · exact h e
    · intro a l
      have hl : ∀ j, (512 * k.val + (128 * j + l.val)) % 128 = (128 * j + l.val) % 128 := fun j => by omega
      have hl0 := hl 0; have hl1 := hl 1; have hl2 := hl 2; have hl3 := hl 3
      simp only [Nat.mul_zero, Nat.zero_add, Nat.mul_one, Nat.reduceMul] at hl0 hl1 hl2 hl3
      simp only [k0_pay754]
      simp only [addf_apply, sliceLane_apply, exp_apply, subf_apply, concat4_apply, readAtLg (hoff := k0_off105_eq i k) (ho := hk5), Nat.reduceAdd, Nat.reduceLeDiff, le_refl, Nat.zero_add, ET, lane, hl0, hl1, hl2, hl3]
      rfl

set_option pp.maxSteps 2000 in
set_option maxHeartbeats 4000000 in
@[sl_loop, instance_reducible] def loopInv_k0_t5 (c : Dev nD) (i : grid0.Coords) (arg2 : Memref sig .tc .vmem S1x1x320x576 .fp8e4m3) (harg2 : arg2.IsWhole) (arg3 : Memref sig .tc .vmem S1x16x20 .f32) (harg3 : arg3.IsWhole) (arg4 : Memref sig .tc .vmem S1x16x20 .f32) (harg4 : arg4.IsWhole) (arg5 : Memref sig .tc .vmem S1x1x768x128 .fp8e4m3) (harg5 : arg5.IsWhole) (arg6 : Memref sig .tc .vmem S1x16x48 .f32) (harg6 : arg6.IsWhole) (arg7 : Memref sig .tc .vmem S1x16x48 .f32) (harg7 : arg7.IsWhole) (arg8 : Memref sig .tc .vmem S1x1x1x768 .f32) (harg8 : arg8.IsWhole) (arg9 : Memref sig .tc .vmem S1x576x8192 .fp8e4m3) (harg9 : arg9.IsWhole) (arg10 : Memref sig .tc .vmem S1x1x8192 .f32) (harg10 : arg10.IsWhole) (arg11 : Memref sig .tc .vmem S1x128x8192 .fp8e4m3) (harg11 : arg11.IsWhole) (arg12 : Memref sig .tc .vmem S1x1x8192 .f32) (harg12 : arg12.IsWhole) (arg13 : Memref sig .tc .vmem S1x8192x128 .fp8e4m3) (harg13 : arg13.IsWhole) (arg14 : Memref sig .tc .vmem S1x8192x1 .f32) (harg14 : arg14.IsWhole) (arg15 : Memref sig .tc .vmem S1x16x1 .f32) (harg15 : arg15.IsWhole) (arg16 : Memref sig .tc .vmem S1x16x48x128 .f32) (harg16 : arg16.IsWhole) (arg17 : Memref sig .tc .vmem S1x128x8192 .f32) (harg17 : arg17.IsWhole) (arg18 : Memref sig .tc .vmem S1x16x48 .f32) (harg18 : arg18.IsWhole) (arg19 : Memref sig .tc .vmem S768x8192 .f32) (harg19 : arg19.IsWhole) (arg20 : Memref sig .tc .vmem S16x8192 .f32) (harg20 : arg20.IsWhole) (arg21 : Memref sig .tc .vmem S16x8192 .f32) (harg21 : arg21.IsWhole) (arg22 : Memref sig .tc .vmem S768x128 .f32) (harg22 : arg22.IsWhole) (arg23 : Memref sig .tc .vmem S768x128 .f32) (harg23 : arg23.IsWhole) (arg24 : Memref sig .tc .vmem S320x128 .f32) (harg24 : arg24.IsWhole) (arg25 : Memref sig .tc .vmem S320x128 .f32) (harg25 : arg25.IsWhole) (arg26 : Memref sig .tc .vmem S128x768 .bf16) (harg26 : arg26.IsWhole) (arg27 : Memref sig .tc .vmem S768x128 .f32) (harg27 : arg27.IsWhole) (arg28 : Memref sig .tc .vmem S768x128 .f32) (harg28 : arg28.IsWhole)   (v18 : BitVec 32) (v947 v948 : IVec S16x512 32) (v960 v961 : FVec Ideal S16x128 .f32) (c0_i32_473 v966 : BitVec 32) (v968 : FVec Ideal S16x128 .f32)
  (f12 : Bf c arg12) (f13 : Bf c arg13) (f14 : Bf c arg14) (f19 : Bf c arg19) (f20 : Bf c arg20) (f21 : Bf c arg21) (f23 : Bf c arg23) (f26 : Bf c arg26) (init : FVec Ideal S16x128 .f32) :
    Idealize.ShloMosaic.LoopInv (M := 𝕄) Idealize.ShloMosaic.frame (wpE (defs₀ (F := Ideal)) 𝒱₀ (c : Thread nD τ) none) Set.univ
      (k0_t5_loop i).lb (k0_t5_loop i).ub (k0_t5_loop i).st (k0_t5_ok i) init (Gen.k0_t5_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v18 v947 v948 v960 v961 c0_i32_473 v966 v968) where
  inv := fun k acc => iprop(pt c arg12 f12 ∗ pt c arg13 f13 ∗ pt c arg14 f14 ∗ pt c arg19 f19 ∗ pt c arg20 f20 ∗ pt c arg21 f21 ∗ pt c arg23 f23 ∗ pt c arg26 f26 ∗ (∃ f, pt c arg17 f) ∗ (∃ f, pt c arg27 f) ∗ (∃ f, pt c arg28 f) ∗
    ⌜(k = 0 ∧ acc = init) ∨ (0 < k ∧ ((v947 = k0_pay748 (BitVec.ofNat 32 (i 1).val) ∧ v948 = iota .tc S16x512 32 [1] iota_S16x512_d1_w32 ∧ init = k0_pay753) → SumF k (KT (i 1).val (View.read (Elt Ideal) arg20.view f20) (View.read (Elt Ideal) arg21.view f21) (k0_pay756 v960 v968)) acc))⌝)
  step := fun k acc => by
    iintro ⟨H12, H13, H14, H19, H20, H21, H23, H26, ⟨%f17, H17⟩, ⟨%f27, H27⟩, ⟨%f28, H28⟩, %hP⟩
    unfold Gen.k0_t5_body
    sl_exec_parts
    sl_step
    isplitl [H12]
    · iexact H12
    isplitl [H13]
    · iexact H13
    isplitl [H14]
    · iexact H14
    isplitl [H19]
    · iexact H19
    isplitl [H20]
    · iexact H20
    isplitl [H21]
    · iexact H21
    isplitl [H23]
    · iexact H23
    isplitl [H26]
    · iexact H26
    isplitl [H17]
    · iexists _
      iexact H17
    isplitl [H27]
    · iexists _
      iexact H27
    isplitl [H28]
    · iexists _
      iexact H28
    ipureintro
    refine Or.inr ⟨Nat.succ_pos _, fun e => ?_⟩
    obtain ⟨e1, e2, e3⟩ := e
    have hk : k.val < 16 := t5_lt i k
    have hk5 : 512 * k.val + 512 ≤ 8192 := by omega
    refine SumF_step (k := k.val) (acc := acc) (by omega) ?_ ?_ ?_
    · intro hz a l
      rcases hP with ⟨_, h⟩ | ⟨h, _⟩
      · rw [h, e3]
        exact Ideal.ofBits_zero .f32
      · omega
    · intro hz
      rcases hP with ⟨h, _⟩ | ⟨_, h⟩
      · omega
      · exact h ⟨e1, e2, e3⟩
    · intro a l
      subst e1 e2
      clear hP
      delta loopInv_k0_t5.sl.r
      have hT : ∀ x : Fin 512, select (k0_pay296 i (k0_pay748 (BitVec.ofNat 32 (i 1).val)) (iota .tc S16x512 32 [1] iota_S16x512_d1_w32) 0#32 1#32 k)
          (mulf (View.readAt (Elt Ideal) arg21.view (Rect.unit (s := S16x8192) (k0_off107 i k) S16x512.size (k0_off107_inb i k)).toLoadRect f21)
            (subf (log (View.readAt (Elt Ideal) arg21.view (Rect.unit (s := S16x8192) (k0_off107 i k) S16x512.size (k0_off107_inb i k)).toLoadRect f21))
              (k0_pay297 (k0_pay756 v960 v968) (View.readAt (Elt Ideal) arg20.view (Rect.unit (s := S16x8192) (k0_off107 i k) S16x512.size (k0_off107_inb i k)).toLoadRect f20))))
          (broadcast S16x512 (Scalar.ofBits .f32 0x00000000#32)) (ix2 a x)
          = KT (i 1).val (View.read (Elt Ideal) arg20.view f20) (View.read (Elt Ideal) arg21.view f21) (k0_pay756 v960 v968) a ⟨512 * k.val + x.val, by omega⟩ := fun x => by
        refine (maskT5 i k hk a x _ _).trans ?_
        have hl : (512 * k.val + x.val) % 128 = x.val % 128 := by omega
        simp only [k0_pay297, mulf_apply, subf_apply, log_apply, concat4_apply, readAtLg (hoff := k0_off107_eq i k) (ho := hk5), broadcast0_apply, KT, lane, hl]
        exact if_congr Iff.rfl rfl (Ideal.ofBits_zero .f32)
      simp only [k0_pay298, addf_apply, sliceLane_apply, Nat.reduceAdd, Nat.reduceLeDiff, le_refl, Nat.zero_add]
      exact congrArg₂ FloatOps.addf (congrArg₂ FloatOps.addf (congrArg₂ FloatOps.addf (congrArg₂ FloatOps.addf rfl (hT ⟨l.val, by omega⟩))
        (hT ⟨128 + l.val, by omega⟩)) (hT ⟨256 + l.val, by omega⟩)) (hT ⟨384 + l.val, by omega⟩)
end Cert.Proof.KIV
-- ==== Proof.KIV.Row.lean ====
/-
  One query row's divergence over all keys, and how the kernel's running lane values add up to it.
-/
module

public import proofs.«01_k».proof.Proof.KIV.Loops2

@[expose] public section

noncomputable section

namespace Cert.Proof.KIV

open Cert.KernelIdeal Cert.Proof.KernelIdeal Cert.KernelIdeal.Gen
open Idealize.ShloMosaic

/-- The divergence of one query row at token `t`, of its logits `g` and target probabilities `p`. -/
def KLrow (t : ℕ) (g p : Fin 8192 → EReal) : EReal :=
  ∑ s : Fin 8192, if s.val ≤ t then
    p s * (Ideal.log (p s) - (g s - (Finset.univ.sup g + Ideal.log (∑ r : Fin 8192, Ideal.exp (g r - Finset.univ.sup g))))) else 0

theorem lane_sum (f : ℕ → EReal) (N : ℕ) :
    ∑ l : Fin 128, ∑ m ∈ Finset.range N, f (128 * m + l.val) = ∑ s ∈ Finset.range (128 * N), f s := by
  induction N with
  | zero => simp
  | succ N ih =>
    simp only [Finset.sum_range_succ, Finset.sum_add_distrib]
    rw [ih, show 128 * (N + 1) = 128 * N + 128 by omega, Finset.sum_range_add, Fin.sum_univ_eq_sum_range (fun x => f (128 * N + x)) 128]

theorem lane_sup (f : ℕ → EReal) (N : ℕ) :
    (Finset.univ.sup fun l : Fin 128 => (Finset.range N).sup fun m => f (128 * m + l.val)) = (Finset.range (128 * N)).sup f := by
  apply le_antisymm
  · refine Finset.sup_le fun l _ => Finset.sup_le fun m hm => ?_
    have := Finset.mem_range.mp hm
    exact Finset.le_sup (f := f) (Finset.mem_range.mpr (by omega))
  · refine Finset.sup_le fun s hs => ?_
    have := Finset.mem_range.mp hs
    have e : 128 * (s / 128) + s % 128 = s := by omega
    refine le_trans ?_ (Finset.le_sup (f := fun l : Fin 128 => (Finset.range N).sup fun m => f (128 * m + l.val)) (Finset.mem_univ ⟨s % 128, by omega⟩))
    refine le_trans (le_of_eq ?_) (Finset.le_sup (f := fun m => f (128 * m + s % 128)) (Finset.mem_range.mpr (show s / 128 < N by omega)))
    rw [e]

theorem sum_ext (h : Fin 8192 → EReal) (n : ℕ) (hn : n ≤ 8192) (h0 : ∀ s : Fin 8192, n ≤ s.val → h s = 0) :
    ∑ s ∈ Finset.range n, ext h s = ∑ s, h s := by
  have e : ∑ s, h s = ∑ s ∈ Finset.range 8192, ext h s := by
    rw [← Fin.sum_univ_eq_sum_range (ext h) 8192]
    exact Finset.sum_congr rfl fun s _ => (ext_val h s).symm
  rw [e]
  refine Finset.sum_subset (fun s hs => Finset.mem_range.mpr (lt_of_lt_of_le (Finset.mem_range.mp hs) hn)) fun s hs hs' => ?_
  rw [ext, dif_pos (Finset.mem_range.mp hs)]
  exact h0 _ (not_lt.mp fun hlt => hs' (Finset.mem_range.mpr hlt))

theorem sup_ext (g : Fin 8192 → EReal) (n : ℕ) (hn : n ≤ 8192) (h0 : ∀ s : Fin 8192, n ≤ s.val → g s = ⊥) :
    (Finset.range n).sup (ext g) = Finset.univ.sup g := by
  apply le_antisymm
  · refine Finset.sup_le fun s hs => ?_
    have := Finset.mem_range.mp hs
    rw [ext, dif_pos (by omega)]
    exact Finset.le_sup (f := g) (Finset.mem_univ _)
  · refine Finset.sup_le fun s _ => ?_
    rcases Nat.lt_or_ge s.val n with h | h
    · rw [← ext_val g s]
      exact Finset.le_sup (f := ext g) (Finset.mem_range.mpr h)
    · rw [h0 s h]
      exact bot_le

theorem pay752_apply (v : FVec Ideal S16x128 .f32) (a : Fin 16) (l : Fin 128) :
    k0_pay752 v (ix2 a l) = Finset.univ.sup fun x : Fin 128 => v (ix2 a x) := by
  pointwise [k0_pay752]
  rw [ofBits_negInf]
  rfl

theorem pay756_apply (v w : FVec Ideal S16x128 .f32) (a : Fin 16) (l : Fin 128) :
    k0_pay756 v w (ix2 a l) = v (ix2 a l) + Ideal.log (∑ x : Fin 128, w (ix2 a x)) := by
  pointwise [k0_pay756]

theorem pay766_apply (v : FVec Ideal S16x128 .f32) (a : Fin 16) : k0_pay766 v (ix3 0 a 0) = ∑ x : Fin 128, v (ix2 a x) := by
  pointwise [k0_pay766]

theorem exp_bot_sub (M : EReal) : Ideal.exp (⊥ - M) = 0 := by
  rw [EReal.bot_sub]
  rfl

/-- What the three tile loops of a grid point leave adds up to the row's divergence. -/
theorem KL_of_facts {b n : ℕ} (hn : 16 * b + 16 ≤ 512 * n) (hn' : 512 * n ≤ 8192) {X2 : FVec Ideal S1x1x320x576 .fp8e4m3} {X5 : FVec Ideal S1x1x768x128 .fp8e4m3}
    {X9 : FVec Ideal S1x576x8192 .fp8e4m3} {X10 : FVec Ideal S1x1x8192 .f32} {X11 : FVec Ideal S1x128x8192 .fp8e4m3}
    {X12 : FVec Ideal S1x1x8192 .f32} {X22 : FVec Ideal S768x128 .f32} {X24 X25 : FVec Ideal S320x128 .f32}
    {mx se kl : FVec Ideal S16x128 .f32} {L Q : FVec Ideal S16x8192 .f32}
    (h1 : T1F b n X2 X5 X9 X10 X11 X12 X22 X24 X25 mx L Q) (h2 : SumF n (ET L (k0_pay752 mx)) se)
    (h3 : SumF n (KT b L Q (k0_pay756 (k0_pay752 mx) se)) kl) (a : Fin 16) :
    k0_pay766 kl (ix3 0 a 0) = KLrow (16 * b + a.val) (LG b X5 X11 X12 X22 a) (PP b X2 X9 X10 X24 X25 a) := by
  obtain ⟨hL, hQ, hM⟩ := h1
  have hb : ∀ s : Fin 8192, 512 * n ≤ s.val → LG b X5 X11 X12 X22 a s = ⊥ := fun s hs => by
    rw [LG, if_neg (by omega)]
  have eM : ∀ l, k0_pay752 mx (ix2 a l) = Finset.univ.sup (LG b X5 X11 X12 X22 a) := fun l => by
    rw [pay752_apply]
    simp only [hM]
    rw [lane_sup, show 128 * (4 * n) = 512 * n by omega, sup_ext _ _ hn' hb]
  have eS : ∑ x : Fin 128, se (ix2 a x) = ∑ r : Fin 8192, Ideal.exp (LG b X5 X11 X12 X22 a r - Finset.univ.sup (LG b X5 X11 X12 X22 a)) := by
    simp only [h2 a]
    rw [lane_sum, show 128 * (4 * n) = 512 * n by omega, ← sum_ext _ _ hn' fun s hs => by rw [hb s hs, exp_bot_sub]]
    refine Finset.sum_congr rfl fun s hs => ?_
    have hs' := Finset.mem_range.mp hs
    simp only [ext, dif_pos (show s < 8192 by omega), ET, eM]
    rw [hL a _ hs']
  rw [pay766_apply]
  simp only [h3 a]
  rw [lane_sum, show 128 * (4 * n) = 512 * n by omega, KLrow, ← sum_ext _ _ hn' fun s hs => by rw [if_neg (by omega)]]
  refine Finset.sum_congr rfl fun s hs => ?_
  have hs' := Finset.mem_range.mp hs
  simp only [ext, dif_pos (show s < 8192 by omega), KT, pay756_apply, eM, eS]
  rw [hL a _ hs', hQ a _ hs']

/-- The first `n` blocks of 16 rows of a buffer read as `g`. -/
def Fill {c : Dev nD} {N : ℕ} (M : Memref sig .tc .vmem ⟨2, ![N, 128]⟩ .f32) (f : Bf c M) (n : ℕ)
    (L : List (View.Piece (Elt Ideal) ⟨2, ![N, 128]⟩ .f32)) (g : ℕ → Fin 16 → EReal) : Prop :=
  ∀ (j : ℕ) (a : Fin 16) (l : Fin 128) (h : 16 * j + a.val < N), j < n →
    View.read (Elt Ideal) M.view (M.view.writes (Elt Ideal) f L) (ix2 ⟨16 * j + a.val, h⟩ l) = g j a

theorem Fill.nil {c : Dev nD} {N : ℕ} (M : Memref sig .tc .vmem ⟨2, ![N, 128]⟩ .f32) (f : Bf c M) (g : ℕ → Fin 16 → EReal) : Fill M f 0 [] g :=
  fun _ _ _ _ h => absurd h (Nat.not_lt_zero _)

theorem Fill.cons {c : Dev nD} {N : ℕ} {M : Memref sig .tc .vmem ⟨2, ![N, 128]⟩ .f32} {f : Bf c M} {n o : ℕ} (ho : o = 16 * n)
    {L : List (View.Piece (Elt Ideal) ⟨2, ![N, 128]⟩ .f32)} {g : ℕ → Fin 16 → EReal}
    (inb : ∀ a, (![o, 0] : Fin 2 → ℕ) a + S16x128.size a ≤ (⟨2, ![N, 128]⟩ : Shape).size a) (P : FVec Ideal S16x128 .f32)
    (hP : ∀ (a : Fin 16) (l : Fin 128), P (ix2 a l) = g n a) (h : Fill M f n L g) :
    Fill M f (n + 1) (⟨Rect.unit (s := ⟨2, ![N, 128]⟩) ![o, 0] S16x128.size inb, P⟩ :: L) g := by
  intro j a l hj hlt
  subst ho
  by_cases hjn : j < n
  · rw [View.read_writes_cons_unit_of_not_mem M.view f inb P L (ix2 ⟨16 * j + a.val, hj⟩ l) rfl 0 (Or.inl (by simp; omega))]
    exact h j a l hj hjn
  · have : j = n := by omega
    subst this
    rw [View.read_writes_cons_unit_of_mem M.view f inb P L (ix2 ⟨16 * j + a.val, hj⟩ l) (ix2 a l) rfl (by intro x; fin_cases x <;> simp)]
    exact hP a l

/-- The index weights of a grid point: head `j` of row `a` in row `16 * j + a`, in every lane. -/
def W22 (X6 X7 : FVec Ideal S1x16x48 .f32) : FVec Ideal S768x128 .f32 := fun p =>
  X6 (ix3 0 ⟨(p 0).val % 16, Nat.mod_lt _ (by decide)⟩ ⟨(p 0).val / 16, Nat.div_lt_of_lt_mul (p 0).isLt⟩)
    * X7 (ix3 0 ⟨(p 0).val % 16, Nat.mod_lt _ (by decide)⟩ ⟨(p 0).val / 16, Nat.div_lt_of_lt_mul (p 0).isLt⟩)

/-- The main heads' row values of a grid point: head `h` of row `a` in row `16 * h + a`, in every lane. -/
def W24 (X3 : FVec Ideal S1x16x20 .f32) (c24 : EReal) : FVec Ideal S320x128 .f32 := fun p =>
  X3 (ix3 0 ⟨(p 0).val % 16, Nat.mod_lt _ (by decide)⟩ ⟨(p 0).val / 16, Nat.div_lt_of_lt_mul (p 0).isLt⟩) * c24

def WQ (X6 X7 : FVec Ideal S1x16x48 .f32) (j : ℕ) (a : Fin 16) : EReal :=
  if h : j < 48 then X6 (ix3 0 a ⟨j, h⟩) * X7 (ix3 0 a ⟨j, h⟩) else 0

def WA (X3 : FVec Ideal S1x16x20 .f32) (c24 : EReal) (j : ℕ) (a : Fin 16) : EReal :=
  if h : j < 20 then X3 (ix3 0 a ⟨j, h⟩) * c24 else 0

theorem W22_row (X6 X7 : FVec Ideal S1x16x48 .f32) (j : Fin 48) (a : Fin 16) (l : Fin 128) :
    W22 X6 X7 (ix2 (row j a) l) = X6 (ix3 0 a j) * X7 (ix3 0 a j) := by
  have e1 : (⟨(16 * j.val + a.val) % 16, Nat.mod_lt _ (by decide)⟩ : Fin 16) = a := Fin.ext (by show (16 * j.val + a.val) % 16 = a.val; omega)
  have e2 : (⟨(16 * j.val + a.val) / 16, by omega⟩ : Fin 48) = j := Fin.ext (by show (16 * j.val + a.val) / 16 = j.val; omega)
  show X6 (ix3 0 ⟨(16 * j.val + a.val) % 16, _⟩ ⟨(16 * j.val + a.val) / 16, _⟩) * X7 (ix3 0 ⟨(16 * j.val + a.val) % 16, _⟩ ⟨(16 * j.val + a.val) / 16, _⟩) = _
  rw [e1, e2]

theorem W24_row (X3 : FVec Ideal S1x16x20 .f32) (c24 : EReal) (j : Fin 20) (a : Fin 16) (l : Fin 128) :
    W24 X3 c24 (ix2 (row j a) l) = X3 (ix3 0 a j) * c24 := by
  have e1 : (⟨(16 * j.val + a.val) % 16, Nat.mod_lt _ (by decide)⟩ : Fin 16) = a := Fin.ext (by show (16 * j.val + a.val) % 16 = a.val; omega)
  have e2 : (⟨(16 * j.val + a.val) / 16, by omega⟩ : Fin 20) = j := Fin.ext (by show (16 * j.val + a.val) / 16 = j.val; omega)
  show X3 (ix3 0 ⟨(16 * j.val + a.val) % 16, _⟩ ⟨(16 * j.val + a.val) / 16, _⟩) * c24 = _
  rw [e1, e2]

theorem Fill.w22 {c : Dev nD} {M : Memref sig .tc .vmem S768x128 .f32} {f : Bf c M} {L : List (View.Piece (Elt Ideal) S768x128 .f32)}
    {X6 X7 : FVec Ideal S1x16x48 .f32} (h : Fill (N := 768) M f 48 L (WQ X6 X7)) :
    View.read (Elt Ideal) M.view (M.view.writes (Elt Ideal) f L) = W22 X6 X7 := by
  funext p
  obtain ⟨r, l, rfl⟩ : ∃ (r : Fin 768) (l : Fin 128), p = ix2 r l := ⟨p 0, p 1, eq_ix2 p⟩
  have e : r = ⟨16 * (r.val / 16) + r.val % 16, by omega⟩ := Fin.ext (by show r.val = 16 * (r.val / 16) + r.val % 16; omega)
  have := h (r.val / 16) ⟨r.val % 16, by omega⟩ l (by show 16 * (r.val / 16) + r.val % 16 < _; omega) (by omega)
  rw [WQ, dif_pos (by omega)] at this
  exact (congrArg (fun r => View.read (Elt Ideal) M.view (M.view.writes (Elt Ideal) f L) (ix2 r l)) e).trans this

theorem Fill.w24 {c : Dev nD} {M : Memref sig .tc .vmem S320x128 .f32} {f : Bf c M} {L : List (View.Piece (Elt Ideal) S320x128 .f32)}
    {X3 : FVec Ideal S1x16x20 .f32} {c24 : EReal} (h : Fill (N := 320) M f 20 L (WA X3 c24)) :
    View.read (Elt Ideal) M.view (M.view.writes (Elt Ideal) f L) = W24 X3 c24 := by
  funext p
  obtain ⟨r, l, rfl⟩ : ∃ (r : Fin 320) (l : Fin 128), p = ix2 r l := ⟨p 0, p 1, eq_ix2 p⟩
  have e : r = ⟨16 * (r.val / 16) + r.val % 16, by omega⟩ := Fin.ext (by show r.val = 16 * (r.val / 16) + r.val % 16; omega)
  have := h (r.val / 16) ⟨r.val % 16, by omega⟩ l (by show 16 * (r.val / 16) + r.val % 16 < _; omega) (by omega)
  rw [WA, dif_pos (by omega)] at this
  exact (congrArg (fun r => View.read (Elt Ideal) M.view (M.view.writes (Elt Ideal) f L) (ix2 r l)) e).trans this

theorem bcCol_apply (w : FVec Ideal S16x1 .f32) (h h') (a : Fin 16) (l : Fin 128) :
    shapeCast S16x128 (broadcastTo S16x128 w h) h' (ix2 a l) = w (ix2 a 0) := by
  pointwise

theorem cast16x1_self (w : FVec Ideal S16x1 .f32) (h) (a : Fin 16) : shapeCast S16x1 w h (ix2 a 0) = w (ix2 a 0) := by
  pointwise

theorem cast1x16x1 (w : FVec Ideal S1x16x1 .f32) (h) (a : Fin 16) : shapeCast S16x1 w h (ix2 a 0) = w (ix3 0 a 0) := by
  pointwise

theorem cast1x16x48 (w : FVec Ideal S1x16x48 .f32) (h) (a : Fin 16) (j : Fin 48) : shapeCast S16x48 w h (ix2 a j) = w (ix3 0 a j) := by
  pointwise

theorem sliceCol_apply {j : ℕ} (v : FVec Ideal S16x48 .f32) (h) (a : Fin 16) (hj : j < 48) :
    extractStridedSlice S16x1 ![0, j] v h (ix2 a 0) = v (ix2 a ⟨j, hj⟩) := by
  refine congrArg v (funext fun x => Fin.ext ?_)
  fin_cases x
  · exact Nat.zero_add _
  · rfl

theorem readCol_apply {c : Dev nD} (M : Memref sig .tc .vmem S1x16x20 .f32) (f : Bf c M) {j : ℕ} (hj : j < 20) (inb) (a : Fin 16) :
    View.readAt (Elt Ideal) M.view (Rect.unit (s := S1x16x20) ![0, 0, j] S1x16x1.size inb).toLoadRect f (ix3 0 a 0)
      = View.read (Elt Ideal) M.view f (ix3 0 a ⟨j, hj⟩) := by
  refine congrArg (View.read (Elt Ideal) M.view f) (funext fun x => Fin.ext ?_)
  fin_cases x <;> first | rfl | exact (Nat.zero_add _).trans (Nat.one_mul _)

theorem readAll48_apply {c : Dev nD} (M : Memref sig .tc .vmem S1x16x48 .f32) (f : Bf c M) (inb) (a : Fin 16) (j : Fin 48) :
    View.readAt (Elt Ideal) M.view (Rect.unit (s := S1x16x48) ![0, 0, 0] S1x16x48.size inb).toLoadRect f (ix3 0 a j)
      = View.read (Elt Ideal) M.view f (ix3 0 a j) := by
  refine congrArg (View.read (Elt Ideal) M.view f) (funext fun x => Fin.ext ?_)
  fin_cases x <;> first | rfl | exact (Nat.zero_add _).trans (Nat.one_mul _)

theorem wq_piece {c : Dev nD} (M6 : Memref sig .tc .vmem S1x16x48 .f32) (f6 : Bf c M6) (M7 : Memref sig .tc .vmem S1x16x48 .f32) (f7 : Bf c M7)
    (j : ℕ) (hj : j < 48) (i6 i7 h6 h7 hs h1 h2 h3) (a : Fin 16) (l : Fin 128) :
    shapeCast S16x128 (broadcastTo S16x128 (shapeCast S16x1 (extractStridedSlice S16x1 ![0, j]
      (mulf (F := Ideal) (φ := .f32) (shapeCast S16x48 (View.readAt (Elt Ideal) M6.view (Rect.unit (s := S1x16x48) ![0, 0, 0] S1x16x48.size i6).toLoadRect f6) h6)
        (shapeCast S16x48 (View.readAt (Elt Ideal) M7.view (Rect.unit (s := S1x16x48) ![0, 0, 0] S1x16x48.size i7).toLoadRect f7) h7)) hs) h1) h2) h3 (ix2 a l)
      = WQ (View.read (Elt Ideal) M6.view f6) (View.read (Elt Ideal) M7.view f7) j a := by
  rw [WQ, dif_pos hj]
  refine (bcCol_apply _ _ _ a l).trans ((cast16x1_self _ _ a).trans ((sliceCol_apply _ _ a hj).trans ?_))
  exact congrArg₂ (· * ·) ((cast1x16x48 _ _ a _).trans (readAll48_apply M6 f6 _ a _)) ((cast1x16x48 _ _ a _).trans (readAll48_apply M7 f7 _ a _))

theorem wa_piece {c : Dev nD} (M : Memref sig .tc .vmem S1x16x20 .f32) (f : Bf c M) (c24 : EReal)
    (j : ℕ) (hj : j < 20) (i6 h1 h2 h3 h4) (a : Fin 16) (l : Fin 128) :
    shapeCast S16x128 (broadcastTo S16x128 (shapeCast S16x1 (mulf (F := Ideal) (φ := .f32) (shapeCast S16x1
      (View.readAt (Elt Ideal) M.view (Rect.unit (s := S1x16x20) ![0, 0, j] S1x16x1.size i6).toLoadRect f) h1) (broadcast S16x1 c24)) h2) h3) h4 (ix2 a l)
      = WA (View.read (Elt Ideal) M.view f) c24 j a := by
  rw [WA, dif_pos hj]
  exact (bcCol_apply _ _ _ a l).trans ((cast16x1_self _ _ a).trans
    (congrArg (· * c24) ((cast1x16x1 _ _ a).trans (readCol_apply M f hj _ a))))

end Cert.Proof.KIV
-- ==== Proof.KIV.Run.lean ====
/-
  One grid point of the kernel over the extended reals: what the body leaves in the block of the first result.
-/
module

public import proofs.«01_k».proof.Proof.KI.Offsets
public import proofs.«01_k».proof.Proof.KIV.Fwd
public import proofs.«01_k».proof.Proof.KIV.Loops2
public import proofs.«01_k».proof.Proof.KIV.Row

@[expose] public section

set_option maxRecDepth 16384

noncomputable section

namespace Cert.Proof.KIV

open Cert.KernelIdeal Cert.Proof.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UU nD τ) ℕ

/-- The two named constants, as the body multiplies by them. -/
abbrev kSM : EReal := Named.named (F := Ideal) (φ := .f32) κ "sm_scale_log2e" 0x3DE995B3#32
abbrev kL2 : EReal := Named.named (F := Ideal) (φ := .f32) κ "log2e" 0x3FB8AA3B#32

set_option maxHeartbeats 40000000 in
set_option pp.maxSteps 6000 in
/-- The whole body. -/
theorem body_run (c : Dev nD) (i : grid0.Coords) (arg2 : Memref sig .tc .vmem S1x1x320x576 .fp8e4m3) (harg2 : arg2.IsWhole) (arg3 : Memref sig .tc .vmem S1x16x20 .f32) (harg3 : arg3.IsWhole) (arg4 : Memref sig .tc .vmem S1x16x20 .f32) (harg4 : arg4.IsWhole) (arg5 : Memref sig .tc .vmem S1x1x768x128 .fp8e4m3) (harg5 : arg5.IsWhole) (arg6 : Memref sig .tc .vmem S1x16x48 .f32) (harg6 : arg6.IsWhole) (arg7 : Memref sig .tc .vmem S1x16x48 .f32) (harg7 : arg7.IsWhole) (arg8 : Memref sig .tc .vmem S1x1x1x768 .f32) (harg8 : arg8.IsWhole) (arg9 : Memref sig .tc .vmem S1x576x8192 .fp8e4m3) (harg9 : arg9.IsWhole) (arg10 : Memref sig .tc .vmem S1x1x8192 .f32) (harg10 : arg10.IsWhole) (arg11 : Memref sig .tc .vmem S1x128x8192 .fp8e4m3) (harg11 : arg11.IsWhole) (arg12 : Memref sig .tc .vmem S1x1x8192 .f32) (harg12 : arg12.IsWhole) (arg13 : Memref sig .tc .vmem S1x8192x128 .fp8e4m3) (harg13 : arg13.IsWhole) (arg14 : Memref sig .tc .vmem S1x8192x1 .f32) (harg14 : arg14.IsWhole) (arg15 : Memref sig .tc .vmem S1x16x1 .f32) (harg15 : arg15.IsWhole) (arg16 : Memref sig .tc .vmem S1x16x48x128 .f32) (harg16 : arg16.IsWhole) (arg17 : Memref sig .tc .vmem S1x128x8192 .f32) (harg17 : arg17.IsWhole) (arg18 : Memref sig .tc .vmem S1x16x48 .f32) (harg18 : arg18.IsWhole) (arg19 : Memref sig .tc .vmem S768x8192 .f32) (harg19 : arg19.IsWhole) (arg20 : Memref sig .tc .vmem S16x8192 .f32) (harg20 : arg20.IsWhole) (arg21 : Memref sig .tc .vmem S16x8192 .f32) (harg21 : arg21.IsWhole) (arg22 : Memref sig .tc .vmem S768x128 .f32) (harg22 : arg22.IsWhole) (arg23 : Memref sig .tc .vmem S768x128 .f32) (harg23 : arg23.IsWhole) (arg24 : Memref sig .tc .vmem S320x128 .f32) (harg24 : arg24.IsWhole) (arg25 : Memref sig .tc .vmem S320x128 .f32) (harg25 : arg25.IsWhole) (arg26 : Memref sig .tc .vmem S128x768 .bf16) (harg26 : arg26.IsWhole) (arg27 : Memref sig .tc .vmem S768x128 .f32) (harg27 : arg27.IsWhole) (arg28 : Memref sig .tc .vmem S768x128 .f32) (harg28 : arg28.IsWhole)
  (f2 : Bf c arg2) (f3 : Bf c arg3) (f4 : Bf c arg4) (f5 : Bf c arg5) (f6 : Bf c arg6) (f7 : Bf c arg7) (f8 : Bf c arg8) (f9 : Bf c arg9) (f10 : Bf c arg10) (f11 : Bf c arg11) (f12 : Bf c arg12) (f13 : Bf c arg13) (f14 : Bf c arg14) (f15 : Bf c arg15) (f16 : Bf c arg16) (f17 : Bf c arg17) (f18 : Bf c arg18) (f19 : Bf c arg19) (f20 : Bf c arg20) (f21 : Bf c arg21) (f22 : Bf c arg22) (f23 : Bf c arg23) (f24 : Bf c arg24) (f25 : Bf c arg25) (f26 : Bf c arg26) (f27 : Bf c arg27) (f28 : Bf c arg28)
  (K : PUnit → sProp 𝕄) :
  iprop((pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ pt c arg28 f28) ∗ ((pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ (∃ g15 : Bf c arg15, pt c arg15 g15 ∗ ⌜∀ a : Fin 16, View.read (Elt Ideal) arg15.view g15 (ix3 0 a 0) = KLrow (16 * (i 1).val + a.val) (LG (i 1).val (View.read (Elt Ideal) arg5.view f5) (View.read (Elt Ideal) arg11.view f11) (View.read (Elt Ideal) arg12.view f12) (W22 (View.read (Elt Ideal) arg6.view f6) (View.read (Elt Ideal) arg7.view f7)) a) (PP (i 1).val (View.read (Elt Ideal) arg2.view f2) (View.read (Elt Ideal) arg9.view f9) (View.read (Elt Ideal) arg10.view f10) (W24 (View.read (Elt Ideal) arg3.view f3) kSM) (W24 (View.read (Elt Ideal) arg4.view f4) kL2) a)⌝) ∗ (∃ f, pt c arg16 f) ∗ (∃ f, pt c arg17 f) ∗ (∃ f, pt c arg18 f) ∗ (∃ f, pt c arg19 f) ∗ (∃ f, pt c arg20 f) ∗ (∃ f, pt c arg21 f) ∗ (∃ f, pt c arg22 f) ∗ (∃ f, pt c arg23 f) ∗ (∃ f, pt c arg24 f) ∗ (∃ f, pt c arg25 f) ∗ (∃ f, pt c arg26 f) ∗ (∃ f, pt c arg27 f) ∗ (∃ f, pt c arg28 f)) -∗ K ⟨⟩)) ⊢ wp frame (wpE (defs₀ (F := Ideal)) 𝒱₀ (c : Thread nD τ) none) Set.univ
    (cc0_indexer_kl_bwd (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  iintro ⟨⟨H2, H3, H4, H5, H6, H7, H8, H9, H10, H11, H12, H13, H14, H15, H16, H17, H18, H19, H20, H21, H22, H23, H24, H25, H26, H27, H28⟩, HK⟩
  simp only [Gen.cc0_indexer_kl_bwd_eq_skeleton]
  unfold Gen.cc0_indexer_kl_bwd_skel
  sl_exec_parts
  sl_step
  have e22 : View.read (Elt Ideal) arg22.view (arg22.view.writes (Elt Ideal) arg22.view.junk (body_run.sl.H22_48 c arg6 arg7 f6 f7)) = W22 (View.read (Elt Ideal) arg6.view f6) (View.read (Elt Ideal) arg7.view f7) := by
    refine Fill.w22 (c := c) ?_
    refine Fill.cons (n := 47) rfl _ _ (fun a l => wq_piece arg6 f6 arg7 f7 47 (by decide) _ _ shapeCasts_S1x16x48_S16x48 shapeCasts_S1x16x48_S16x48 slices_S16x48_o0_47_S16x1 shapeCasts_S16x1_S16x1 broadcasts_S16x1_S16x128 shapeCasts_S16x128_S16x128 a l) ?_
    refine Fill.cons (n := 46) rfl _ _ (fun a l => wq_piece arg6 f6 arg7 f7 46 (by decide) _ _ shapeCasts_S1x16x48_S16x48 shapeCasts_S1x16x48_S16x48 slices_S16x48_o0_46_S16x1 shapeCasts_S16x1_S16x1 broadcasts_S16x1_S16x128 shapeCasts_S16x128_S16x128 a l) ?_
    refine Fill.cons (n := 45) rfl _ _ (fun a l => wq_piece arg6 f6 arg7 f7 45 (by decide) _ _ shapeCasts_S1x16x48_S16x48 shapeCasts_S1x16x48_S16x48 slices_S16x48_o0_45_S16x1 shapeCasts_S16x1_S16x1 broadcasts_S16x1_S16x128 shapeCasts_S16x128_S16x128 a l) ?_
    refine Fill.cons (n := 44) rfl _ _ (fun a l => wq_piece arg6 f6 arg7 f7 44 (by decide) _ _ shapeCasts_S1x16x48_S16x48 shapeCasts_S1x16x48_S16x48 slices_S16x48_o0_44_S16x1 shapeCasts_S16x1_S16x1 broadcasts_S16x1_S16x128 shapeCasts_S16x128_S16x128 a l) ?_
    refine Fill.cons (n := 43) rfl _ _ (fun a l => wq_piece arg6 f6 arg7 f7 43 (by decide) _ _ shapeCasts_S1x16x48_S16x48 shapeCasts_S1x16x48_S16x48 slices_S16x48_o0_43_S16x1 shapeCasts_S16x1_S16x1 broadcasts_S16x1_S16x128 shapeCasts_S16x128_S16x128 a l) ?_
    refine Fill.cons (n := 42) rfl _ _ (fun a l => wq_piece arg6 f6 arg7 f7 42 (by decide) _ _ shapeCasts_S1x16x48_S16x48 shapeCasts_S1x16x48_S16x48 slices_S16x48_o0_42_S16x1 shapeCasts_S16x1_S16x1 broadcasts_S16x1_S16x128 shapeCasts_S16x128_S16x128 a l) ?_
    refine Fill.cons (n := 41) rfl _ _ (fun a l => wq_piece arg6 f6 arg7 f7 41 (by decide) _ _ shapeCasts_S1x16x48_S16x48 shapeCasts_S1x16x48_S16x48 slices_S16x48_o0_41_S16x1 shapeCasts_S16x1_S16x1 broadcasts_S16x1_S16x128 shapeCasts_S16x128_S16x128 a l) ?_
    refine Fill.cons (n := 40) rfl _ _ (fun a l => wq_piece arg6 f6 arg7 f7 40 (by decide) _ _ shapeCasts_S1x16x48_S16x48 shapeCasts_S1x16x48_S16x48 slices_S16x48_o0_40_S16x1 shapeCasts_S16x1_S16x1 broadcasts_S16x1_S16x128 shapeCasts_S16x128_S16x128 a l) ?_
    refine Fill.cons (n := 39) rfl _ _ (fun a l => wq_piece arg6 f6 arg7 f7 39 (by decide) _ _ shapeCasts_S1x16x48_S16x48 shapeCasts_S1x16x48_S16x48 slices_S16x48_o0_39_S16x1 shapeCasts_S16x1_S16x1 broadcasts_S16x1_S16x128 shapeCasts_S16x128_S16x128 a l) ?_
    refine Fill.cons (n := 38) rfl _ _ (fun a l => wq_piece arg6 f6 arg7 f7 38 (by decide) _ _ shapeCasts_S1x16x48_S16x48 shapeCasts_S1x16x48_S16x48 slices_S16x48_o0_38_S16x1 shapeCasts_S16x1_S16x1 broadcasts_S16x1_S16x128 shapeCasts_S16x128_S16x128 a l) ?_
    refine Fill.cons (n := 37) rfl _ _ (fun a l => wq_piece arg6 f6 arg7 f7 37 (by decide) _ _ shapeCasts_S1x16x48_S16x48 shapeCasts_S1x16x48_S16x48 slices_S16x48_o0_37_S16x1 shapeCasts_S16x1_S16x1 broadcasts_S16x1_S16x128 shapeCasts_S16x128_S16x128 a l) ?_
    refine Fill.cons (n := 36) rfl _ _ (fun a l => wq_piece arg6 f6 arg7 f7 36 (by decide) _ _ shapeCasts_S1x16x48_S16x48 shapeCasts_S1x16x48_S16x48 slices_S16x48_o0_36_S16x1 shapeCasts_S16x1_S16x1 broadcasts_S16x1_S16x128 shapeCasts_S16x128_S16x128 a l) ?_
    refine Fill.cons (n := 35) rfl _ _ (fun a l => wq_piece arg6 f6 arg7 f7 35 (by decide) _ _ shapeCasts_S1x16x48_S16x48 shapeCasts_S1x16x48_S16x48 slices_S16x48_o0_35_S16x1 shapeCasts_S16x1_S16x1 broadcasts_S16x1_S16x128 shapeCasts_S16x128_S16x128 a l) ?_
    refine Fill.cons (n := 34) rfl _ _ (fun a l => wq_piece arg6 f6 arg7 f7 34 (by decide) _ _ shapeCasts_S1x16x48_S16x48 shapeCasts_S1x16x48_S16x48 slices_S16x48_o0_34_S16x1 shapeCasts_S16x1_S16x1 broadcasts_S16x1_S16x128 shapeCasts_S16x128_S16x128 a l) ?_
    refine Fill.cons (n := 33) rfl _ _ (fun a l => wq_piece arg6 f6 arg7 f7 33 (by decide) _ _ shapeCasts_S1x16x48_S16x48 shapeCasts_S1x16x48_S16x48 slices_S16x48_o0_33_S16x1 shapeCasts_S16x1_S16x1 broadcasts_S16x1_S16x128 shapeCasts_S16x128_S16x128 a l) ?_
    refine Fill.cons (n := 32) rfl _ _ (fun a l => wq_piece arg6 f6 arg7 f7 32 (by decide) _ _ shapeCasts_S1x16x48_S16x48 shapeCasts_S1x16x48_S16x48 slices_S16x48_o0_32_S16x1 shapeCasts_S16x1_S16x1 broadcasts_S16x1_S16x128 shapeCasts_S16x128_S16x128 a l) ?_
    refine Fill.cons (n := 31) rfl _ _ (fun a l => wq_piece arg6 f6 arg7 f7 31 (by decide) _ _ shapeCasts_S1x16x48_S16x48 shapeCasts_S1x16x48_S16x48 slices_S16x48_o0_31_S16x1 shapeCasts_S16x1_S16x1 broadcasts_S16x1_S16x128 shapeCasts_S16x128_S16x128 a l) ?_
    refine Fill.cons (n := 30) rfl _ _ (fun a l => wq_piece arg6 f6 arg7 f7 30 (by decide) _ _ shapeCasts_S1x16x48_S16x48 shapeCasts_S1x16x48_S16x48 slices_S16x48_o0_30_S16x1 shapeCasts_S16x1_S16x1 broadcasts_S16x1_S16x128 shapeCasts_S16x128_S16x128 a l) ?_
    refine Fill.cons (n := 29) rfl _ _ (fun a l => wq_piece arg6 f6 arg7 f7 29 (by decide) _ _ shapeCasts_S1x16x48_S16x48 shapeCasts_S1x16x48_S16x48 slices_S16x48_o0_29_S16x1 shapeCasts_S16x1_S16x1 broadcasts_S16x1_S16x128 shapeCasts_S16x128_S16x128 a l) ?_
    refine Fill.cons (n := 28) rfl _ _ (fun a l => wq_piece arg6 f6 arg7 f7 28 (by decide) _ _ shapeCasts_S1x16x48_S16x48 shapeCasts_S1x16x48_S16x48 slices_S16x48_o0_28_S16x1 shapeCasts_S16x1_S16x1 broadcasts_S16x1_S16x128 shapeCasts_S16x128_S16x128 a l) ?_
    refine Fill.cons (n := 27) rfl _ _ (fun a l => wq_piece arg6 f6 arg7 f7 27 (by decide) _ _ shapeCasts_S1x16x48_S16x48 shapeCasts_S1x16x48_S16x48 slices_S16x48_o0_27_S16x1 shapeCasts_S16x1_S16x1 broadcasts_S16x1_S16x128 shapeCasts_S16x128_S16x128 a l) ?_
    refine Fill.cons (n := 26) rfl _ _ (fun a l => wq_piece arg6 f6 arg7 f7 26 (by decide) _ _ shapeCasts_S1x16x48_S16x48 shapeCasts_S1x16x48_S16x48 slices_S16x48_o0_26_S16x1 shapeCasts_S16x1_S16x1 broadcasts_S16x1_S16x128 shapeCasts_S16x128_S16x128 a l) ?_
    refine Fill.cons (n := 25) rfl _ _ (fun a l => wq_piece arg6 f6 arg7 f7 25 (by decide) _ _ shapeCasts_S1x16x48_S16x48 shapeCasts_S1x16x48_S16x48 slices_S16x48_o0_25_S16x1 shapeCasts_S16x1_S16x1 broadcasts_S16x1_S16x128 shapeCasts_S16x128_S16x128 a l) ?_
    refine Fill.cons (n := 24) rfl _ _ (fun a l => wq_piece arg6 f6 arg7 f7 24 (by decide) _ _ shapeCasts_S1x16x48_S16x48 shapeCasts_S1x16x48_S16x48 slices_S16x48_o0_24_S16x1 shapeCasts_S16x1_S16x1 broadcasts_S16x1_S16x128 shapeCasts_S16x128_S16x128 a l) ?_
    refine Fill.cons (n := 23) rfl _ _ (fun a l => wq_piece arg6 f6 arg7 f7 23 (by decide) _ _ shapeCasts_S1x16x48_S16x48 shapeCasts_S1x16x48_S16x48 slices_S16x48_o0_23_S16x1 shapeCasts_S16x1_S16x1 broadcasts_S16x1_S16x128 shapeCasts_S16x128_S16x128 a l) ?_
    refine Fill.cons (n := 22) rfl _ _ (fun a l => wq_piece arg6 f6 arg7 f7 22 (by decide) _ _ shapeCasts_S1x16x48_S16x48 shapeCasts_S1x16x48_S16x48 slices_S16x48_o0_22_S16x1 shapeCasts_S16x1_S16x1 broadcasts_S16x1_S16x128 shapeCasts_S16x128_S16x128 a l) ?_
    refine Fill.cons (n := 21) rfl _ _ (fun a l => wq_piece arg6 f6 arg7 f7 21 (by decide) _ _ shapeCasts_S1x16x48_S16x48 shapeCasts_S1x16x48_S16x48 slices_S16x48_o0_21_S16x1 shapeCasts_S16x1_S16x1 broadcasts_S16x1_S16x128 shapeCasts_S16x128_S16x128 a l) ?_
    refine Fill.cons (n := 20) rfl _ _ (fun a l => wq_piece arg6 f6 arg7 f7 20 (by decide) _ _ shapeCasts_S1x16x48_S16x48 shapeCasts_S1x16x48_S16x48 slices_S16x48_o0_20_S16x1 shapeCasts_S16x1_S16x1 broadcasts_S16x1_S16x128 shapeCasts_S16x128_S16x128 a l) ?_
    refine Fill.cons (n := 19) rfl _ _ (fun a l => wq_piece arg6 f6 arg7 f7 19 (by decide) _ _ shapeCasts_S1x16x48_S16x48 shapeCasts_S1x16x48_S16x48 slices_S16x48_o0_19_S16x1 shapeCasts_S16x1_S16x1 broadcasts_S16x1_S16x128 shapeCasts_S16x128_S16x128 a l) ?_
    refine Fill.cons (n := 18) rfl _ _ (fun a l => wq_piece arg6 f6 arg7 f7 18 (by decide) _ _ shapeCasts_S1x16x48_S16x48 shapeCasts_S1x16x48_S16x48 slices_S16x48_o0_18_S16x1 shapeCasts_S16x1_S16x1 broadcasts_S16x1_S16x128 shapeCasts_S16x128_S16x128 a l) ?_
    refine Fill.cons (n := 17) rfl _ _ (fun a l => wq_piece arg6 f6 arg7 f7 17 (by decide) _ _ shapeCasts_S1x16x48_S16x48 shapeCasts_S1x16x48_S16x48 slices_S16x48_o0_17_S16x1 shapeCasts_S16x1_S16x1 broadcasts_S16x1_S16x128 shapeCasts_S16x128_S16x128 a l) ?_
    refine Fill.cons (n := 16) rfl _ _ (fun a l => wq_piece arg6 f6 arg7 f7 16 (by decide) _ _ shapeCasts_S1x16x48_S16x48 shapeCasts_S1x16x48_S16x48 slices_S16x48_o0_16_S16x1 shapeCasts_S16x1_S16x1 broadcasts_S16x1_S16x128 shapeCasts_S16x128_S16x128 a l) ?_
    refine Fill.cons (n := 15) rfl _ _ (fun a l => wq_piece arg6 f6 arg7 f7 15 (by decide) _ _ shapeCasts_S1x16x48_S16x48 shapeCasts_S1x16x48_S16x48 slices_S16x48_o0_15_S16x1 shapeCasts_S16x1_S16x1 broadcasts_S16x1_S16x128 shapeCasts_S16x128_S16x128 a l) ?_
    refine Fill.cons (n := 14) rfl _ _ (fun a l => wq_piece arg6 f6 arg7 f7 14 (by decide) _ _ shapeCasts_S1x16x48_S16x48 shapeCasts_S1x16x48_S16x48 slices_S16x48_o0_14_S16x1 shapeCasts_S16x1_S16x1 broadcasts_S16x1_S16x128 shapeCasts_S16x128_S16x128 a l) ?_
    refine Fill.cons (n := 13) rfl _ _ (fun a l => wq_piece arg6 f6 arg7 f7 13 (by decide) _ _ shapeCasts_S1x16x48_S16x48 shapeCasts_S1x16x48_S16x48 slices_S16x48_o0_13_S16x1 shapeCasts_S16x1_S16x1 broadcasts_S16x1_S16x128 shapeCasts_S16x128_S16x128 a l) ?_
    refine Fill.cons (n := 12) rfl _ _ (fun a l => wq_piece arg6 f6 arg7 f7 12 (by decide) _ _ shapeCasts_S1x16x48_S16x48 shapeCasts_S1x16x48_S16x48 slices_S16x48_o0_12_S16x1 shapeCasts_S16x1_S16x1 broadcasts_S16x1_S16x128 shapeCasts_S16x128_S16x128 a l) ?_
    refine Fill.cons (n := 11) rfl _ _ (fun a l => wq_piece arg6 f6 arg7 f7 11 (by decide) _ _ shapeCasts_S1x16x48_S16x48 shapeCasts_S1x16x48_S16x48 slices_S16x48_o0_11_S16x1 shapeCasts_S16x1_S16x1 broadcasts_S16x1_S16x128 shapeCasts_S16x128_S16x128 a l) ?_
    refine Fill.cons (n := 10) rfl _ _ (fun a l => wq_piece arg6 f6 arg7 f7 10 (by decide) _ _ shapeCasts_S1x16x48_S16x48 shapeCasts_S1x16x48_S16x48 slices_S16x48_o0_10_S16x1 shapeCasts_S16x1_S16x1 broadcasts_S16x1_S16x128 shapeCasts_S16x128_S16x128 a l) ?_
    refine Fill.cons (n := 9) rfl _ _ (fun a l => wq_piece arg6 f6 arg7 f7 9 (by decide) _ _ shapeCasts_S1x16x48_S16x48 shapeCasts_S1x16x48_S16x48 slices_S16x48_o0_9_S16x1 shapeCasts_S16x1_S16x1 broadcasts_S16x1_S16x128 shapeCasts_S16x128_S16x128 a l) ?_
    refine Fill.cons (n := 8) rfl _ _ (fun a l => wq_piece arg6 f6 arg7 f7 8 (by decide) _ _ shapeCasts_S1x16x48_S16x48 shapeCasts_S1x16x48_S16x48 slices_S16x48_o0_8_S16x1 shapeCasts_S16x1_S16x1 broadcasts_S16x1_S16x128 shapeCasts_S16x128_S16x128 a l) ?_
    refine Fill.cons (n := 7) rfl _ _ (fun a l => wq_piece arg6 f6 arg7 f7 7 (by decide) _ _ shapeCasts_S1x16x48_S16x48 shapeCasts_S1x16x48_S16x48 slices_S16x48_o0_7_S16x1 shapeCasts_S16x1_S16x1 broadcasts_S16x1_S16x128 shapeCasts_S16x128_S16x128 a l) ?_
    refine Fill.cons (n := 6) rfl _ _ (fun a l => wq_piece arg6 f6 arg7 f7 6 (by decide) _ _ shapeCasts_S1x16x48_S16x48 shapeCasts_S1x16x48_S16x48 slices_S16x48_o0_6_S16x1 shapeCasts_S16x1_S16x1 broadcasts_S16x1_S16x128 shapeCasts_S16x128_S16x128 a l) ?_
    refine Fill.cons (n := 5) rfl _ _ (fun a l => wq_piece arg6 f6 arg7 f7 5 (by decide) _ _ shapeCasts_S1x16x48_S16x48 shapeCasts_S1x16x48_S16x48 slices_S16x48_o0_5_S16x1 shapeCasts_S16x1_S16x1 broadcasts_S16x1_S16x128 shapeCasts_S16x128_S16x128 a l) ?_
    refine Fill.cons (n := 4) rfl _ _ (fun a l => wq_piece arg6 f6 arg7 f7 4 (by decide) _ _ shapeCasts_S1x16x48_S16x48 shapeCasts_S1x16x48_S16x48 slices_S16x48_o0_4_S16x1 shapeCasts_S16x1_S16x1 broadcasts_S16x1_S16x128 shapeCasts_S16x128_S16x128 a l) ?_
    refine Fill.cons (n := 3) rfl _ _ (fun a l => wq_piece arg6 f6 arg7 f7 3 (by decide) _ _ shapeCasts_S1x16x48_S16x48 shapeCasts_S1x16x48_S16x48 slices_S16x48_o0_3_S16x1 shapeCasts_S16x1_S16x1 broadcasts_S16x1_S16x128 shapeCasts_S16x128_S16x128 a l) ?_
    refine Fill.cons (n := 2) rfl _ _ (fun a l => wq_piece arg6 f6 arg7 f7 2 (by decide) _ _ shapeCasts_S1x16x48_S16x48 shapeCasts_S1x16x48_S16x48 slices_S16x48_o0_2_S16x1 shapeCasts_S16x1_S16x1 broadcasts_S16x1_S16x128 shapeCasts_S16x128_S16x128 a l) ?_
    refine Fill.cons (n := 1) rfl _ _ (fun a l => wq_piece arg6 f6 arg7 f7 1 (by decide) _ _ shapeCasts_S1x16x48_S16x48 shapeCasts_S1x16x48_S16x48 slices_S16x48_o0_1_S16x1 shapeCasts_S16x1_S16x1 broadcasts_S16x1_S16x128 shapeCasts_S16x128_S16x128 a l) ?_
    refine Fill.cons (n := 0) rfl _ _ (fun a l => wq_piece arg6 f6 arg7 f7 0 (by decide) _ _ shapeCasts_S1x16x48_S16x48 shapeCasts_S1x16x48_S16x48 slices_S16x48_o0_0_S16x1 shapeCasts_S16x1_S16x1 broadcasts_S16x1_S16x128 shapeCasts_S16x128_S16x128 a l) ?_
    exact Fill.nil _ _ _

  have e24 : View.read (Elt Ideal) arg24.view (arg24.view.writes (Elt Ideal) arg24.view.junk (body_run.sl.H24_20 c arg3 f3)) = W24 (View.read (Elt Ideal) arg3.view f3) kSM := by
    refine Fill.w24 (c := c) ?_
    refine Fill.cons (n := 19) rfl _ _ (fun a l => wa_piece arg3 f3 kSM 19 (by decide) _ shapeCasts_S1x16x1_S16x1 shapeCasts_S16x1_S16x1 broadcasts_S16x1_S16x128 shapeCasts_S16x128_S16x128 a l) ?_
    refine Fill.cons (n := 18) rfl _ _ (fun a l => wa_piece arg3 f3 kSM 18 (by decide) _ shapeCasts_S1x16x1_S16x1 shapeCasts_S16x1_S16x1 broadcasts_S16x1_S16x128 shapeCasts_S16x128_S16x128 a l) ?_
    refine Fill.cons (n := 17) rfl _ _ (fun a l => wa_piece arg3 f3 kSM 17 (by decide) _ shapeCasts_S1x16x1_S16x1 shapeCasts_S16x1_S16x1 broadcasts_S16x1_S16x128 shapeCasts_S16x128_S16x128 a l) ?_
    refine Fill.cons (n := 16) rfl _ _ (fun a l => wa_piece arg3 f3 kSM 16 (by decide) _ shapeCasts_S1x16x1_S16x1 shapeCasts_S16x1_S16x1 broadcasts_S16x1_S16x128 shapeCasts_S16x128_S16x128 a l) ?_
    refine Fill.cons (n := 15) rfl _ _ (fun a l => wa_piece arg3 f3 kSM 15 (by decide) _ shapeCasts_S1x16x1_S16x1 shapeCasts_S16x1_S16x1 broadcasts_S16x1_S16x128 shapeCasts_S16x128_S16x128 a l) ?_
    refine Fill.cons (n := 14) rfl _ _ (fun a l => wa_piece arg3 f3 kSM 14 (by decide) _ shapeCasts_S1x16x1_S16x1 shapeCasts_S16x1_S16x1 broadcasts_S16x1_S16x128 shapeCasts_S16x128_S16x128 a l) ?_
    refine Fill.cons (n := 13) rfl _ _ (fun a l => wa_piece arg3 f3 kSM 13 (by decide) _ shapeCasts_S1x16x1_S16x1 shapeCasts_S16x1_S16x1 broadcasts_S16x1_S16x128 shapeCasts_S16x128_S16x128 a l) ?_
    refine Fill.cons (n := 12) rfl _ _ (fun a l => wa_piece arg3 f3 kSM 12 (by decide) _ shapeCasts_S1x16x1_S16x1 shapeCasts_S16x1_S16x1 broadcasts_S16x1_S16x128 shapeCasts_S16x128_S16x128 a l) ?_
    refine Fill.cons (n := 11) rfl _ _ (fun a l => wa_piece arg3 f3 kSM 11 (by decide) _ shapeCasts_S1x16x1_S16x1 shapeCasts_S16x1_S16x1 broadcasts_S16x1_S16x128 shapeCasts_S16x128_S16x128 a l) ?_
    refine Fill.cons (n := 10) rfl _ _ (fun a l => wa_piece arg3 f3 kSM 10 (by decide) _ shapeCasts_S1x16x1_S16x1 shapeCasts_S16x1_S16x1 broadcasts_S16x1_S16x128 shapeCasts_S16x128_S16x128 a l) ?_
    refine Fill.cons (n := 9) rfl _ _ (fun a l => wa_piece arg3 f3 kSM 9 (by decide) _ shapeCasts_S1x16x1_S16x1 shapeCasts_S16x1_S16x1 broadcasts_S16x1_S16x128 shapeCasts_S16x128_S16x128 a l) ?_
    refine Fill.cons (n := 8) rfl _ _ (fun a l => wa_piece arg3 f3 kSM 8 (by decide) _ shapeCasts_S1x16x1_S16x1 shapeCasts_S16x1_S16x1 broadcasts_S16x1_S16x128 shapeCasts_S16x128_S16x128 a l) ?_
    refine Fill.cons (n := 7) rfl _ _ (fun a l => wa_piece arg3 f3 kSM 7 (by decide) _ shapeCasts_S1x16x1_S16x1 shapeCasts_S16x1_S16x1 broadcasts_S16x1_S16x128 shapeCasts_S16x128_S16x128 a l) ?_
    refine Fill.cons (n := 6) rfl _ _ (fun a l => wa_piece arg3 f3 kSM 6 (by decide) _ shapeCasts_S1x16x1_S16x1 shapeCasts_S16x1_S16x1 broadcasts_S16x1_S16x128 shapeCasts_S16x128_S16x128 a l) ?_
    refine Fill.cons (n := 5) rfl _ _ (fun a l => wa_piece arg3 f3 kSM 5 (by decide) _ shapeCasts_S1x16x1_S16x1 shapeCasts_S16x1_S16x1 broadcasts_S16x1_S16x128 shapeCasts_S16x128_S16x128 a l) ?_
    refine Fill.cons (n := 4) rfl _ _ (fun a l => wa_piece arg3 f3 kSM 4 (by decide) _ shapeCasts_S1x16x1_S16x1 shapeCasts_S16x1_S16x1 broadcasts_S16x1_S16x128 shapeCasts_S16x128_S16x128 a l) ?_
    refine Fill.cons (n := 3) rfl _ _ (fun a l => wa_piece arg3 f3 kSM 3 (by decide) _ shapeCasts_S1x16x1_S16x1 shapeCasts_S16x1_S16x1 broadcasts_S16x1_S16x128 shapeCasts_S16x128_S16x128 a l) ?_
    refine Fill.cons (n := 2) rfl _ _ (fun a l => wa_piece arg3 f3 kSM 2 (by decide) _ shapeCasts_S1x16x1_S16x1 shapeCasts_S16x1_S16x1 broadcasts_S16x1_S16x128 shapeCasts_S16x128_S16x128 a l) ?_
    refine Fill.cons (n := 1) rfl _ _ (fun a l => wa_piece arg3 f3 kSM 1 (by decide) _ shapeCasts_S1x16x1_S16x1 shapeCasts_S16x1_S16x1 broadcasts_S16x1_S16x128 shapeCasts_S16x128_S16x128 a l) ?_
    refine Fill.cons (n := 0) rfl _ _ (fun a l => wa_piece arg3 f3 kSM 0 (by decide) _ shapeCasts_S1x16x1_S16x1 shapeCasts_S16x1_S16x1 broadcasts_S16x1_S16x128 shapeCasts_S16x128_S16x128 a l) ?_
    exact Fill.nil _ _ _

  have e25 : View.read (Elt Ideal) arg25.view (arg25.view.writes (Elt Ideal) arg25.view.junk (body_run.sl.H25_20 c arg4 f4)) = W24 (View.read (Elt Ideal) arg4.view f4) kL2 := by
    refine Fill.w24 (c := c) ?_
    refine Fill.cons (n := 19) rfl _ _ (fun a l => wa_piece arg4 f4 kL2 19 (by decide) _ shapeCasts_S1x16x1_S16x1 shapeCasts_S16x1_S16x1 broadcasts_S16x1_S16x128 shapeCasts_S16x128_S16x128 a l) ?_
    refine Fill.cons (n := 18) rfl _ _ (fun a l => wa_piece arg4 f4 kL2 18 (by decide) _ shapeCasts_S1x16x1_S16x1 shapeCasts_S16x1_S16x1 broadcasts_S16x1_S16x128 shapeCasts_S16x128_S16x128 a l) ?_
    refine Fill.cons (n := 17) rfl _ _ (fun a l => wa_piece arg4 f4 kL2 17 (by decide) _ shapeCasts_S1x16x1_S16x1 shapeCasts_S16x1_S16x1 broadcasts_S16x1_S16x128 shapeCasts_S16x128_S16x128 a l) ?_
    refine Fill.cons (n := 16) rfl _ _ (fun a l => wa_piece arg4 f4 kL2 16 (by decide) _ shapeCasts_S1x16x1_S16x1 shapeCasts_S16x1_S16x1 broadcasts_S16x1_S16x128 shapeCasts_S16x128_S16x128 a l) ?_
    refine Fill.cons (n := 15) rfl _ _ (fun a l => wa_piece arg4 f4 kL2 15 (by decide) _ shapeCasts_S1x16x1_S16x1 shapeCasts_S16x1_S16x1 broadcasts_S16x1_S16x128 shapeCasts_S16x128_S16x128 a l) ?_
    refine Fill.cons (n := 14) rfl _ _ (fun a l => wa_piece arg4 f4 kL2 14 (by decide) _ shapeCasts_S1x16x1_S16x1 shapeCasts_S16x1_S16x1 broadcasts_S16x1_S16x128 shapeCasts_S16x128_S16x128 a l) ?_
    refine Fill.cons (n := 13) rfl _ _ (fun a l => wa_piece arg4 f4 kL2 13 (by decide) _ shapeCasts_S1x16x1_S16x1 shapeCasts_S16x1_S16x1 broadcasts_S16x1_S16x128 shapeCasts_S16x128_S16x128 a l) ?_
    refine Fill.cons (n := 12) rfl _ _ (fun a l => wa_piece arg4 f4 kL2 12 (by decide) _ shapeCasts_S1x16x1_S16x1 shapeCasts_S16x1_S16x1 broadcasts_S16x1_S16x128 shapeCasts_S16x128_S16x128 a l) ?_
    refine Fill.cons (n := 11) rfl _ _ (fun a l => wa_piece arg4 f4 kL2 11 (by decide) _ shapeCasts_S1x16x1_S16x1 shapeCasts_S16x1_S16x1 broadcasts_S16x1_S16x128 shapeCasts_S16x128_S16x128 a l) ?_
    refine Fill.cons (n := 10) rfl _ _ (fun a l => wa_piece arg4 f4 kL2 10 (by decide) _ shapeCasts_S1x16x1_S16x1 shapeCasts_S16x1_S16x1 broadcasts_S16x1_S16x128 shapeCasts_S16x128_S16x128 a l) ?_
    refine Fill.cons (n := 9) rfl _ _ (fun a l => wa_piece arg4 f4 kL2 9 (by decide) _ shapeCasts_S1x16x1_S16x1 shapeCasts_S16x1_S16x1 broadcasts_S16x1_S16x128 shapeCasts_S16x128_S16x128 a l) ?_
    refine Fill.cons (n := 8) rfl _ _ (fun a l => wa_piece arg4 f4 kL2 8 (by decide) _ shapeCasts_S1x16x1_S16x1 shapeCasts_S16x1_S16x1 broadcasts_S16x1_S16x128 shapeCasts_S16x128_S16x128 a l) ?_
    refine Fill.cons (n := 7) rfl _ _ (fun a l => wa_piece arg4 f4 kL2 7 (by decide) _ shapeCasts_S1x16x1_S16x1 shapeCasts_S16x1_S16x1 broadcasts_S16x1_S16x128 shapeCasts_S16x128_S16x128 a l) ?_
    refine Fill.cons (n := 6) rfl _ _ (fun a l => wa_piece arg4 f4 kL2 6 (by decide) _ shapeCasts_S1x16x1_S16x1 shapeCasts_S16x1_S16x1 broadcasts_S16x1_S16x128 shapeCasts_S16x128_S16x128 a l) ?_
    refine Fill.cons (n := 5) rfl _ _ (fun a l => wa_piece arg4 f4 kL2 5 (by decide) _ shapeCasts_S1x16x1_S16x1 shapeCasts_S16x1_S16x1 broadcasts_S16x1_S16x128 shapeCasts_S16x128_S16x128 a l) ?_
    refine Fill.cons (n := 4) rfl _ _ (fun a l => wa_piece arg4 f4 kL2 4 (by decide) _ shapeCasts_S1x16x1_S16x1 shapeCasts_S16x1_S16x1 broadcasts_S16x1_S16x128 shapeCasts_S16x128_S16x128 a l) ?_
    refine Fill.cons (n := 3) rfl _ _ (fun a l => wa_piece arg4 f4 kL2 3 (by decide) _ shapeCasts_S1x16x1_S16x1 shapeCasts_S16x1_S16x1 broadcasts_S16x1_S16x128 shapeCasts_S16x128_S16x128 a l) ?_
    refine Fill.cons (n := 2) rfl _ _ (fun a l => wa_piece arg4 f4 kL2 2 (by decide) _ shapeCasts_S1x16x1_S16x1 shapeCasts_S16x1_S16x1 broadcasts_S16x1_S16x128 shapeCasts_S16x128_S16x128 a l) ?_
    refine Fill.cons (n := 1) rfl _ _ (fun a l => wa_piece arg4 f4 kL2 1 (by decide) _ shapeCasts_S1x16x1_S16x1 shapeCasts_S16x1_S16x1 broadcasts_S16x1_S16x128 shapeCasts_S16x128_S16x128 a l) ?_
    refine Fill.cons (n := 0) rfl _ _ (fun a l => wa_piece arg4 f4 kL2 0 (by decide) _ shapeCasts_S1x16x1_S16x1 shapeCasts_S16x1_S16x1 broadcasts_S16x1_S16x128 shapeCasts_S16x128_S16x128 a l) ?_
    exact Fill.nil _ _ _

  have nt1 : Scf.trips (k0_t1_loop i).lb (k0_t1_loop i).ub (k0_t1_loop i).st = (i 1).val / 32 + 1 := t1_trips i
  rw [nt1] at hL12
  have nt3 : Scf.trips (k0_t3_loop i).lb (k0_t3_loop i).ub (k0_t3_loop i).st = (i 1).val / 32 + 1 := t3_trips i
  rw [nt3] at hL15
  have nt5 : Scf.trips (k0_t5_loop i).lb (k0_t5_loop i).ub (k0_t5_loop i).st = (i 1).val / 32 + 1 := t5_trips i
  rw [nt5] at hL28
  rw [e22, e24, e25] at hL12
  have h1 := (hL12.resolve_left fun h => absurd h.1 (Nat.succ_ne_zero _)).2 ⟨rfl, rfl, rfl⟩
  have h2 := (hL15.resolve_left fun h => absurd h.1 (Nat.succ_ne_zero _)).2 rfl
  have h3 := (hL28.resolve_left fun h => absurd h.1 (Nat.succ_ne_zero _)).2 ⟨rfl, rfl, rfl⟩
  have hi : (i 1).val < 512 := (i 1).isLt
  have hKL := KL_of_facts (b := (i 1).val) (n := (i 1).val / 32 + 1) (by omega) (by omega) h1 h2 h3
  clear hL12 hL15 hL28
  iapply HK
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexists _
    isplitl [H15]
    · iexact H15
    ipureintro
    intro a
    refine Eq.trans ?_ (hKL a)
    unfold body_run.sl.H15_1
    exact View.read_writes_cons_unit_of_mem arg15.view f15 _ _ [] (ix3 0 a 0) (ix3 0 a 0) rfl (by intro x; fin_cases x <;> simp)
  isplitl [H16]
  · iexists _
    iexact H16
  isplitl [H17]
  · iexists _
    iexact H17
  isplitl [H18]
  · iexists _
    iexact H18
  isplitl [H19]
  · iexists _
    iexact H19
  isplitl [H20]
  · iexists _
    iexact H20
  isplitl [H21]
  · iexists _
    iexact H21
  isplitl [H22]
  · iexists _
    iexact H22
  isplitl [H23]
  · iexists _
    iexact H23
  isplitl [H24]
  · iexists _
    iexact H24
  isplitl [H25]
  · iexists _
    iexact H25
  isplitl [H26]
  · iexists _
    iexact H26
  isplitl [H27]
  · iexists _
    iexact H27
  iexists _
  iexact H28

end Cert.Proof.KIV
-- ==== Proof.KIV.Host.lean ====
/-
  The arrays the host code hands the kernel, element by element in the argument arrays.
-/
module

public import proofs.«01_k».proof.Proof.Gen.KernelIdeal.Frame
public import proofs.«01_k».proof.Proof.KIV.Spec
public import Idealize.ShloMosaic.Lib.Pointwise
public import Idealize.ShloMosaic.Lib.Pipeline.Value

@[expose] public section

set_option maxRecDepth 16384

noncomputable section

namespace Cert.Proof.KIV

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- Query token `16 * i + a`. -/
abbrev tok (i : Fin 512) (a : Fin 16) : Fin 8192 := ⟨16 * i.val + a.val, by omega⟩

theorem V_v2 : V m c main_v2 = shapeCast S2x512x320x576 (transpose S2x512x20x16x576 [0, 1, 3, 2, 4]
    (shapeCast S2x512x16x20x576 (m ((c : Thread nD τ).loc main_arg0)) shapeCasts_S2x8192x20x576_S2x512x16x20x576)
    transposes_S2x512x16x20x576_S2x512x20x16x576_0_1_3_2_4) shapeCasts_S2x512x20x16x576_S2x512x320x576 := by
  unfold V
  after_results
  rfl

theorem swap_v2 (Y : FVec Ideal S2x512x16x20x576 .fp8e4m3) (e) (b : Fin 2) (i : Fin 512) (j : Fin 20) (a : Fin 16) (x : Fin 576) :
    transpose S2x512x20x16x576 [0, 1, 3, 2, 4] Y e (ix5 b i j a x) = Y (ix5 b i a j x) := by
  pointwise

theorem V_v2_apply (b : Fin 2) (i : Fin 512) (j : Fin 20) (a : Fin 16) (x : Fin 576) :
    V m c main_v2 (ix4 b i (row j a) x) = (m ((c : Thread nD τ).loc main_arg0)) (ix4 b (tok i a) j x) := by
  rw [V_v2]
  refine (shapeCast_apply _ _ _ (ix5 b i j a x) ?_).trans ((swap_v2 _ _ b i j a x).trans (shapeCast_apply _ _ _ (ix4 b (tok i a) j x) ?_))
  · rw [Shape.rowMajor_val_four, Shape.rowMajor_val_five]
    show (((b.val * 512 + i.val) * 20 + j.val) * 16 + a.val) * 576 + x.val = ((b.val * 512 + i.val) * 320 + (16 * j.val + a.val)) * 576 + x.val
    omega
  · rw [Shape.rowMajor_val_four, Shape.rowMajor_val_five]
    show ((b.val * 8192 + (16 * i.val + a.val)) * 20 + j.val) * 576 + x.val = (((b.val * 512 + i.val) * 16 + a.val) * 20 + j.val) * 576 + x.val
    omega

theorem V_v5 : V m c main_v5 = shapeCast S2x512x768x128 (transpose S2x512x48x16x128 [0, 1, 3, 2, 4]
    (shapeCast S2x512x16x48x128 (m ((c : Thread nD τ).loc main_arg5)) shapeCasts_S2x8192x48x128_S2x512x16x48x128)
    transposes_S2x512x16x48x128_S2x512x48x16x128_0_1_3_2_4) shapeCasts_S2x512x48x16x128_S2x512x768x128 := by
  unfold V
  after_results
  rfl

theorem swap_v5 (Y : FVec Ideal S2x512x16x48x128 .fp8e4m3) (e) (b : Fin 2) (i : Fin 512) (j : Fin 48) (a : Fin 16) (x : Fin 128) :
    transpose S2x512x48x16x128 [0, 1, 3, 2, 4] Y e (ix5 b i j a x) = Y (ix5 b i a j x) := by
  pointwise

theorem V_v5_apply (b : Fin 2) (i : Fin 512) (j : Fin 48) (a : Fin 16) (x : Fin 128) :
    V m c main_v5 (ix4 b i (row j a) x) = (m ((c : Thread nD τ).loc main_arg5)) (ix4 b (tok i a) j x) := by
  rw [V_v5]
  refine (shapeCast_apply _ _ _ (ix5 b i j a x) ?_).trans ((swap_v5 _ _ b i j a x).trans (shapeCast_apply _ _ _ (ix4 b (tok i a) j x) ?_))
  · rw [Shape.rowMajor_val_four, Shape.rowMajor_val_five]
    show (((b.val * 512 + i.val) * 48 + j.val) * 16 + a.val) * 128 + x.val = ((b.val * 512 + i.val) * 768 + (16 * j.val + a.val)) * 128 + x.val
    omega
  · rw [Shape.rowMajor_val_four, Shape.rowMajor_val_five]
    show ((b.val * 8192 + (16 * i.val + a.val)) * 48 + j.val) * 128 + x.val = (((b.val * 512 + i.val) * 16 + a.val) * 48 + j.val) * 128 + x.val
    omega

theorem V_v9_apply (b : Fin 2) (t : Fin 8192) (h : Fin 20) :
    V m c main_v9 (ix3 b t h) = (m ((c : Thread nD τ).loc main_arg4)) (ix3 b h t) := by
  unfold V
  after_results
  pointwise

theorem V_v10_apply (b : Fin 2) (t : Fin 8192) (h : Fin 48) :
    V m c main_v10 (ix3 b t h) = (m ((c : Thread nD τ).loc main_arg9)) (ix3 b t h) := by
  unfold V
  after_results
  rfl

theorem V_v11_apply (b : Fin 2) (k : Fin 576) (s : Fin 8192) :
    V m c main_v11 (ix3 b k s) = (m ((c : Thread nD τ).loc main_arg2)) (ix3 b s k) := by
  unfold V
  after_results
  pointwise

theorem V_v12_apply (b : Fin 2) (k : Fin 128) (s : Fin 8192) :
    V m c main_v12 (ix3 b k s) = (m ((c : Thread nD τ).loc main_arg7)) (ix3 b s k) := by
  unfold V
  after_results
  pointwise

theorem V_v14_apply (b : Fin 2) (s : Fin 8192) :
    V m c main_v14 (ix3 b 0 s) = (m ((c : Thread nD τ).loc main_arg3)) (ix2 b s) := by
  unfold V
  after_results
  pointwise

theorem V_v15_apply (b : Fin 2) (s : Fin 8192) :
    V m c main_v15 (ix3 b 0 s) = (m ((c : Thread nD τ).loc main_arg8)) (ix2 b s) := by
  unfold V
  after_results
  pointwise

/-- The two coordinates of a grid point. -/
abbrev gb (t : Fin cfg0.N) : Fin 2 := grid0.coords t 0
abbrev gi (t : Fin cfg0.N) : Fin 512 := grid0.coords t 1

theorem iblk0_apply (t : Fin cfg0.N) (r : Fin 320) (k : Fin 576) :
    iblk m c 0 t (ix4 0 0 r k) = V m c main_v2 (ix4 (gb t) (gi t) r k) := by
  show V m c main_v2 (((cfg0.win 0).blk t).view.emb (ix4 0 0 r k)) = _
  congr 1
  have h0 : (grid0.coords t 0).val < 2 := (grid0.coords t 0).isLt
  have h1 : (grid0.coords t 1).val < 512 := (grid0.coords t 1).isLt
  have e0 : win0_0.index t (0 : Fin 4) = (grid0.coords t 0).val := Nat.mod_eq_of_lt (by omega)
  have e1 : win0_0.index t (1 : Fin 4) = (grid0.coords t 1).val := Nat.mod_eq_of_lt (by omega)
  have e2 : win0_0.index t (2 : Fin 4) = 0 := rfl
  have e3 : win0_0.index t (3 : Fin 4) = 0 := rfl
  funext x
  apply Fin.ext
  match x with
  | ⟨0, _⟩ => show win0_0.index t (0 : Fin 4) * 1 + 1 * 0 = (grid0.coords t 0).val; omega
  | ⟨1, _⟩ => show win0_0.index t (1 : Fin 4) * 1 + 1 * 0 = (grid0.coords t 1).val; omega
  | ⟨2, _⟩ => show win0_0.index t (2 : Fin 4) * 320 + 1 * r.val = r.val; omega
  | ⟨3, _⟩ => show win0_0.index t (3 : Fin 4) * 576 + 1 * k.val = k.val; omega

theorem iblk1_apply (t : Fin cfg0.N) (a : Fin 16) (j : Fin 20) :
    iblk m c 1 t (ix3 0 a j) = V m c main_arg1 (ix3 (gb t) (tok (gi t) a) j) := by
  show V m c main_arg1 (((cfg0.win 1).blk t).view.emb (ix3 0 a j)) = _
  congr 1
  have h0 : (grid0.coords t 0).val < 2 := (grid0.coords t 0).isLt
  have h1 : (grid0.coords t 1).val < 512 := (grid0.coords t 1).isLt
  have e0 : win0_1.index t (0 : Fin 3) = (grid0.coords t 0).val := Nat.mod_eq_of_lt (by omega)
  have e1 : win0_1.index t (1 : Fin 3) = (grid0.coords t 1).val := Nat.mod_eq_of_lt (by omega)
  have e2 : win0_1.index t (2 : Fin 3) = 0 := rfl
  funext x
  apply Fin.ext
  match x with
  | ⟨0, _⟩ => show win0_1.index t (0 : Fin 3) * 1 + 1 * 0 = (grid0.coords t 0).val; omega
  | ⟨1, _⟩ => show win0_1.index t (1 : Fin 3) * 16 + 1 * a.val = 16 * (grid0.coords t 1).val + a.val; omega
  | ⟨2, _⟩ => show win0_1.index t (2 : Fin 3) * 20 + 1 * j.val = j.val; omega

theorem iblk2_apply (t : Fin cfg0.N) (a : Fin 16) (j : Fin 20) :
    iblk m c 2 t (ix3 0 a j) = V m c main_v9 (ix3 (gb t) (tok (gi t) a) j) := by
  show V m c main_v9 (((cfg0.win 2).blk t).view.emb (ix3 0 a j)) = _
  congr 1
  have h0 : (grid0.coords t 0).val < 2 := (grid0.coords t 0).isLt
  have h1 : (grid0.coords t 1).val < 512 := (grid0.coords t 1).isLt
  have e0 : win0_2.index t (0 : Fin 3) = (grid0.coords t 0).val := Nat.mod_eq_of_lt (by omega)
  have e1 : win0_2.index t (1 : Fin 3) = (grid0.coords t 1).val := Nat.mod_eq_of_lt (by omega)
  have e2 : win0_2.index t (2 : Fin 3) = 0 := rfl
  funext x
  apply Fin.ext
  match x with
  | ⟨0, _⟩ => show win0_2.index t (0 : Fin 3) * 1 + 1 * 0 = (grid0.coords t 0).val; omega
  | ⟨1, _⟩ => show win0_2.index t (1 : Fin 3) * 16 + 1 * a.val = 16 * (grid0.coords t 1).val + a.val; omega
  | ⟨2, _⟩ => show win0_2.index t (2 : Fin 3) * 20 + 1 * j.val = j.val; omega

theorem iblk3_apply (t : Fin cfg0.N) (r : Fin 768) (k : Fin 128) :
    iblk m c 3 t (ix4 0 0 r k) = V m c main_v5 (ix4 (gb t) (gi t) r k) := by
  show V m c main_v5 (((cfg0.win 3).blk t).view.emb (ix4 0 0 r k)) = _
  congr 1
  have h0 : (grid0.coords t 0).val < 2 := (grid0.coords t 0).isLt
  have h1 : (grid0.coords t 1).val < 512 := (grid0.coords t 1).isLt
  have e0 : win0_3.index t (0 : Fin 4) = (grid0.coords t 0).val := Nat.mod_eq_of_lt (by omega)
  have e1 : win0_3.index t (1 : Fin 4) = (grid0.coords t 1).val := Nat.mod_eq_of_lt (by omega)
  have e2 : win0_3.index t (2 : Fin 4) = 0 := rfl
  have e3 : win0_3.index t (3 : Fin 4) = 0 := rfl
  funext x
  apply Fin.ext
  match x with
  | ⟨0, _⟩ => show win0_3.index t (0 : Fin 4) * 1 + 1 * 0 = (grid0.coords t 0).val; omega
  | ⟨1, _⟩ => show win0_3.index t (1 : Fin 4) * 1 + 1 * 0 = (grid0.coords t 1).val; omega
  | ⟨2, _⟩ => show win0_3.index t (2 : Fin 4) * 768 + 1 * r.val = r.val; omega
  | ⟨3, _⟩ => show win0_3.index t (3 : Fin 4) * 128 + 1 * k.val = k.val; omega

theorem iblk4_apply (t : Fin cfg0.N) (a : Fin 16) (j : Fin 48) :
    iblk m c 4 t (ix3 0 a j) = V m c main_v10 (ix3 (gb t) (tok (gi t) a) j) := by
  show V m c main_v10 (((cfg0.win 4).blk t).view.emb (ix3 0 a j)) = _
  congr 1
  have h0 : (grid0.coords t 0).val < 2 := (grid0.coords t 0).isLt
  have h1 : (grid0.coords t 1).val < 512 := (grid0.coords t 1).isLt
  have e0 : win0_4.index t (0 : Fin 3) = (grid0.coords t 0).val := Nat.mod_eq_of_lt (by omega)
  have e1 : win0_4.index t (1 : Fin 3) = (grid0.coords t 1).val := Nat.mod_eq_of_lt (by omega)
  have e2 : win0_4.index t (2 : Fin 3) = 0 := rfl
  funext x
  apply Fin.ext
  match x with
  | ⟨0, _⟩ => show win0_4.index t (0 : Fin 3) * 1 + 1 * 0 = (grid0.coords t 0).val; omega
  | ⟨1, _⟩ => show win0_4.index t (1 : Fin 3) * 16 + 1 * a.val = 16 * (grid0.coords t 1).val + a.val; omega
  | ⟨2, _⟩ => show win0_4.index t (2 : Fin 3) * 48 + 1 * j.val = j.val; omega

theorem iblk5_apply (t : Fin cfg0.N) (a : Fin 16) (j : Fin 48) :
    iblk m c 5 t (ix3 0 a j) = V m c main_arg6 (ix3 (gb t) (tok (gi t) a) j) := by
  show V m c main_arg6 (((cfg0.win 5).blk t).view.emb (ix3 0 a j)) = _
  congr 1
  have h0 : (grid0.coords t 0).val < 2 := (grid0.coords t 0).isLt
  have h1 : (grid0.coords t 1).val < 512 := (grid0.coords t 1).isLt
  have e0 : win0_5.index t (0 : Fin 3) = (grid0.coords t 0).val := Nat.mod_eq_of_lt (by omega)
  have e1 : win0_5.index t (1 : Fin 3) = (grid0.coords t 1).val := Nat.mod_eq_of_lt (by omega)
  have e2 : win0_5.index t (2 : Fin 3) = 0 := rfl
  funext x
  apply Fin.ext
  match x with
  | ⟨0, _⟩ => show win0_5.index t (0 : Fin 3) * 1 + 1 * 0 = (grid0.coords t 0).val; omega
  | ⟨1, _⟩ => show win0_5.index t (1 : Fin 3) * 16 + 1 * a.val = 16 * (grid0.coords t 1).val + a.val; omega
  | ⟨2, _⟩ => show win0_5.index t (2 : Fin 3) * 48 + 1 * j.val = j.val; omega

theorem iblk7_apply (t : Fin cfg0.N) (k : Fin 576) (s : Fin 8192) :
    iblk m c 7 t (ix3 0 k s) = V m c main_v11 (ix3 (gb t) k s) := by
  show V m c main_v11 (((cfg0.win 7).blk t).view.emb (ix3 0 k s)) = _
  congr 1
  have h0 : (grid0.coords t 0).val < 2 := (grid0.coords t 0).isLt
  have h1 : (grid0.coords t 1).val < 512 := (grid0.coords t 1).isLt
  have e0 : win0_7.index t (0 : Fin 3) = (grid0.coords t 0).val := Nat.mod_eq_of_lt (by omega)
  have e1 : win0_7.index t (1 : Fin 3) = 0 := rfl
  have e2 : win0_7.index t (2 : Fin 3) = 0 := rfl
  funext x
  apply Fin.ext
  match x with
  | ⟨0, _⟩ => show win0_7.index t (0 : Fin 3) * 1 + 1 * 0 = (grid0.coords t 0).val; omega
  | ⟨1, _⟩ => show win0_7.index t (1 : Fin 3) * 576 + 1 * k.val = k.val; omega
  | ⟨2, _⟩ => show win0_7.index t (2 : Fin 3) * 8192 + 1 * s.val = s.val; omega

theorem iblk8_apply (t : Fin cfg0.N) (s : Fin 8192) :
    iblk m c 8 t (ix3 0 0 s) = V m c main_v14 (ix3 (gb t) 0 s) := by
  show V m c main_v14 (((cfg0.win 8).blk t).view.emb (ix3 0 0 s)) = _
  congr 1
  have h0 : (grid0.coords t 0).val < 2 := (grid0.coords t 0).isLt
  have h1 : (grid0.coords t 1).val < 512 := (grid0.coords t 1).isLt
  have e0 : win0_8.index t (0 : Fin 3) = (grid0.coords t 0).val := Nat.mod_eq_of_lt (by omega)
  have e1 : win0_8.index t (1 : Fin 3) = 0 := rfl
  have e2 : win0_8.index t (2 : Fin 3) = 0 := rfl
  funext x
  apply Fin.ext
  match x with
  | ⟨0, _⟩ => show win0_8.index t (0 : Fin 3) * 1 + 1 * 0 = (grid0.coords t 0).val; omega
  | ⟨1, _⟩ => show win0_8.index t (1 : Fin 3) * 1 + 1 * 0 = 0; omega
  | ⟨2, _⟩ => show win0_8.index t (2 : Fin 3) * 8192 + 1 * s.val = s.val; omega

theorem iblk9_apply (t : Fin cfg0.N) (k : Fin 128) (s : Fin 8192) :
    iblk m c 9 t (ix3 0 k s) = V m c main_v12 (ix3 (gb t) k s) := by
  show V m c main_v12 (((cfg0.win 9).blk t).view.emb (ix3 0 k s)) = _
  congr 1
  have h0 : (grid0.coords t 0).val < 2 := (grid0.coords t 0).isLt
  have h1 : (grid0.coords t 1).val < 512 := (grid0.coords t 1).isLt
  have e0 : win0_9.index t (0 : Fin 3) = (grid0.coords t 0).val := Nat.mod_eq_of_lt (by omega)
  have e1 : win0_9.index t (1 : Fin 3) = 0 := rfl
  have e2 : win0_9.index t (2 : Fin 3) = 0 := rfl
  funext x
  apply Fin.ext
  match x with
  | ⟨0, _⟩ => show win0_9.index t (0 : Fin 3) * 1 + 1 * 0 = (grid0.coords t 0).val; omega
  | ⟨1, _⟩ => show win0_9.index t (1 : Fin 3) * 128 + 1 * k.val = k.val; omega
  | ⟨2, _⟩ => show win0_9.index t (2 : Fin 3) * 8192 + 1 * s.val = s.val; omega

theorem iblk10_apply (t : Fin cfg0.N) (s : Fin 8192) :
    iblk m c 10 t (ix3 0 0 s) = V m c main_v15 (ix3 (gb t) 0 s) := by
  show V m c main_v15 (((cfg0.win 10).blk t).view.emb (ix3 0 0 s)) = _
  congr 1
  have h0 : (grid0.coords t 0).val < 2 := (grid0.coords t 0).isLt
  have h1 : (grid0.coords t 1).val < 512 := (grid0.coords t 1).isLt
  have e0 : win0_10.index t (0 : Fin 3) = (grid0.coords t 0).val := Nat.mod_eq_of_lt (by omega)
  have e1 : win0_10.index t (1 : Fin 3) = 0 := rfl
  have e2 : win0_10.index t (2 : Fin 3) = 0 := rfl
  funext x
  apply Fin.ext
  match x with
  | ⟨0, _⟩ => show win0_10.index t (0 : Fin 3) * 1 + 1 * 0 = (grid0.coords t 0).val; omega
  | ⟨1, _⟩ => show win0_10.index t (1 : Fin 3) * 1 + 1 * 0 = 0; omega
  | ⟨2, _⟩ => show win0_10.index t (2 : Fin 3) * 8192 + 1 * s.val = s.val; omega

/-- Where the block of the first result lies. -/
theorem emb13 (t : Fin cfg0.N) (a : Fin 16) :
    ((cfg0.win 13).blk t).view.emb (ix3 0 a 0) = (ix3 (gb t) (tok (gi t) a) 0 : S2x8192x1.Idx) := by
  have h0 : (grid0.coords t 0).val < 2 := (grid0.coords t 0).isLt
  have h1 : (grid0.coords t 1).val < 512 := (grid0.coords t 1).isLt
  have e0 : win0_13.index t (0 : Fin 3) = (grid0.coords t 0).val := Nat.mod_eq_of_lt (by omega)
  have e1 : win0_13.index t (1 : Fin 3) = (grid0.coords t 1).val := Nat.mod_eq_of_lt (by omega)
  have e2 : win0_13.index t (2 : Fin 3) = 0 := rfl
  funext x
  apply Fin.ext
  match x with
  | ⟨0, _⟩ => show win0_13.index t (0 : Fin 3) * 1 + 1 * 0 = (grid0.coords t 0).val; omega
  | ⟨1, _⟩ => show win0_13.index t (1 : Fin 3) * 16 + 1 * a.val = 16 * (grid0.coords t 1).val + a.val; omega
  | ⟨2, _⟩ => show win0_13.index t (2 : Fin 3) * 1 + 1 * 0 = 0; omega

end Cert.Proof.KIV
-- ==== Proof.KIV.Arr.lean ====
/-
  The index logits and the target probabilities in the argument arrays, as the kernel computes them.
-/
module

public import proofs.«01_k».proof.KernelIdeal
public import Idealize.ShloMosaic.Lib.Pointwise

@[expose] public section

noncomputable section

namespace Cert.Proof.KIV

open Cert.KernelIdeal
open Idealize.ShloMosaic

/-- The index logit of query token `t` and key `s` in batch `b`. -/
def LGa (a5 : FVec Ideal S2x8192x48x128 .fp8e4m3) (a6 : FVec Ideal S2x8192x48 .f32) (a7 : FVec Ideal S2x8192x128 .fp8e4m3) (a8 : FVec Ideal S2x8192 .f32)
    (a9 : FVec Ideal S2x8192x48 .bf16) (b : Fin 2) (t s : Fin 8192) : EReal :=
  if s.val ≤ t.val then
    (∑ j : Fin 48, max (∑ k : Fin 128, (a5 (ix4 b t j k) : EReal) * (a7 (ix3 b s k) : EReal)) 0
      * ((a9 (ix3 b t j) : EReal) * (a6 (ix3 b t j) : EReal))) * (a8 (ix2 b s) : EReal)
  else ⊥

/-- The target probability of query token `t` and key `s` in batch `b`; `x` and `y` are the factors of the scale and of the normalizer. -/
def PPa (x y : EReal) (a0 : FVec Ideal S2x8192x20x576 .fp8e4m3) (a1 : FVec Ideal S2x8192x20 .f32) (a2 : FVec Ideal S2x8192x576 .fp8e4m3) (a3 : FVec Ideal S2x8192 .f32)
    (a4 : FVec Ideal S2x20x8192 .f32) (b : Fin 2) (t s : Fin 8192) : EReal :=
  if s.val ≤ t.val then
    (∑ h : Fin 20, Ideal.exp2 ((∑ k : Fin 576, (a0 (ix4 b t h k) : EReal) * (a2 (ix3 b s k) : EReal)) * ((a1 (ix3 b t h) : EReal) * x)
      * (a3 (ix2 b s) : EReal) - (a4 (ix3 b h t) : EReal) * y)) * Ideal.ofBits .f32 0x3D4CCCCD#32
  else 0

end Cert.Proof.KIV
-- ==== Proof.KIV.Pipe.lean ====
/-
  The run of the kernel over the extended reals: it terminates, faults nowhere, leaves its argument arrays as they were and
  every semaphore at zero, and each entry of the first result is the divergence of its row, in the argument arrays.
-/
module

public import proofs.«01_k».proof.Proof.KIV.Run
public import proofs.«01_k».proof.Proof.KIV.Host
public import proofs.«01_k».proof.Proof.KIV.Arr

@[expose] public section

set_option maxRecDepth 16384

noncomputable section

namespace Cert.Proof.KIV

open Cert.KernelIdeal Cert.Proof.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

local notation "𝕄" => MT nD τ sig Unit (Elt Ideal) ℕ (UU nD τ) ℕ

/-- The body as the pipeline calls it at point `t`. -/
theorem defs₀_row (t : Fin cfg0.N) :
    defs₀ (F := Ideal) .tc cfg0.body (cfg0.bodyArgs t (cfg0.slots t)) = Gen.bodyAt0 (F := Ideal) t := by
  unfold defs₀; rw [Defs.onTc_tc]

/-- A whole buffer held, read as the whole-buffer memref held. -/
theorem pt_whole (c : Dev nD) (b : Ref sig .tc) (f : Buf (Elt Ideal) ((c : Thread nD τ).loc b)) :
    (((c : Thread nD τ).loc b) ↦{fullShare} f : sProp 𝕄) = pt c (Memref.whole b) f := by
  simp only [pt, Memref.view_whole, View.set_whole]

variable (m : (ℓ : Loc nD τ sig) → Buf (Elt Ideal) ℓ)

/-- The proof data: arrays as the region finds them, a relation `R` for what the body leaves in the output windows. -/
abbrev rdat (R : Dev nD → (w : Fin cfg0.W) → Fin cfg0.N → (Y X : (cfg0.win w).block.Idx → Elt Ideal (cfg0.win w).elt) → Prop) (c : Dev nD) :
    RDat τ (Elt Ideal) Unit ℕ (UR sig nD τ) ℕ cfg0 c where
  A w := Gen.V m c (Pipeline.arrRef spec0 w)
  after w t Y X := if (cfg0.win w).isOut then R c w t Y X else X = Y
  Φ _ := Pipeline.ΦA spec0 c
  q _ := fullShare
  owed _ := 0

section

variable (c : Dev nD)

/-- The index logits in the arrays of memory `m`. -/
def LGm (b : Fin 2) (t s : Fin 8192) : EReal :=
  LGa (m ((c : Thread nD τ).loc main_arg5)) (m ((c : Thread nD τ).loc main_arg6)) (m ((c : Thread nD τ).loc main_arg7)) (m ((c : Thread nD τ).loc main_arg8)) (m ((c : Thread nD τ).loc main_arg9)) b t s

/-- The target probabilities in the arrays of memory `m`. -/
def PPm (b : Fin 2) (t s : Fin 8192) : EReal :=
  PPa kSM kL2 (m ((c : Thread nD τ).loc main_arg0)) (m ((c : Thread nD τ).loc main_arg1)) (m ((c : Thread nD τ).loc main_arg2)) (m ((c : Thread nD τ).loc main_arg3)) (m ((c : Thread nD τ).loc main_arg4)) b t s

theorem LG_iblk (t : Fin cfg0.N) (a : Fin 16) :
    LG (gi t).val (Gen.iblk m c 3 t) (Gen.iblk m c 9 t) (Gen.iblk m c 10 t) (W22 (Gen.iblk m c 4 t) (Gen.iblk m c 5 t)) a
      = LGm m c (gb t) (tok (gi t) a) := by
  funext s
  have e3 := fun (j : Fin 48) (k : Fin 128) => (iblk3_apply m c t (row j a) k).trans (V_v5_apply m c (gb t) (gi t) j a k)
  have e9 := fun (k : Fin 128) => (iblk9_apply m c t k s).trans (V_v12_apply m c (gb t) k s)
  have e10 := (iblk10_apply m c t s).trans (V_v15_apply m c (gb t) s)
  have e4 := fun (j : Fin 48) => (iblk4_apply m c t a j).trans (V_v10_apply m c (gb t) (tok (gi t) a) j)
  have e5 := fun (j : Fin 48) => (iblk5_apply m c t a j).trans (congrFun (Gen.V_main_arg6 m c) (ix3 (gb t) (tok (gi t) a) j))
  simp only [LG, RR, W22_row, e3, e9, e10, e4, e5]
  rfl

theorem PP_iblk (t : Fin cfg0.N) (a : Fin 16) :
    PP (gi t).val (Gen.iblk m c 0 t) (Gen.iblk m c 7 t) (Gen.iblk m c 8 t) (W24 (Gen.iblk m c 1 t) kSM) (W24 (Gen.iblk m c 2 t) kL2) a
      = PPm m c (gb t) (tok (gi t) a) := by
  funext s
  have e0 := fun (h : Fin 20) (k : Fin 576) => (iblk0_apply m c t (row h a) k).trans (V_v2_apply m c (gb t) (gi t) h a k)
  have e7 := fun (k : Fin 576) => (iblk7_apply m c t k s).trans (V_v11_apply m c (gb t) k s)
  have e8 := (iblk8_apply m c t s).trans (V_v14_apply m c (gb t) s)
  have e1 := fun (h : Fin 20) => (iblk1_apply m c t a h).trans (congrFun (Gen.V_main_arg1 m c) (ix3 (gb t) (tok (gi t) a) h))
  have e2 := fun (h : Fin 20) => (iblk2_apply m c t a h).trans (V_v9_apply m c (gb t) (tok (gi t) a) h)
  simp only [PP, W24_row, e0, e7, e8, e1, e2]
  rfl

/-- The divergence of the row of query token `t` in batch `b`. -/
def KV (b : Fin 2) (t : Fin 8192) : EReal := KLrow t.val (LGm m c b t) (PPm m c b t)

/-- The rows a grid point leaves in the block of the first result. -/
def Good (t : Fin cfg0.N) (X : (cfg0.win 13).block.Idx → Elt Ideal (cfg0.win 13).elt) : Prop :=
  ∀ a : Fin 16, X (ix3 0 a 0) = KV m c (gb t) (tok (gi t) a)

/-- What the body leaves in the output windows: the rows in the first, anything in the others. -/
abbrev rowR (c : Dev nD) (w : Fin cfg0.W) (t : Fin cfg0.N) (_ X : (cfg0.win w).block.Idx → Elt Ideal (cfg0.win w).elt) : Prop :=
  ∀ h : w = 13, Good m c t (h ▸ X)

/-- An input window holds its block wherever the body is handed it. -/
theorem found (w : Fin cfg0.W) (hw : (cfg0.win w).isOut = false)
    (hclip : ∀ t t' : Fin cfg0.N, (cfg0.win w).index t = (cfg0.win w).index t' → (cfg0.win w).clip (cfg0.grid.coords t) = (cfg0.win w).clip (cfg0.grid.coords t')) (t : Fin cfg0.N) (Y) (hY : (rdat m (rowR m) c).Finds w t Y) :
    ∃ d, Y = (rdat m (rowR m) c).fetched w t d :=
  RDat.finds_in_eq_fetched (rdat m (rowR m) c) w hw
    hclip (fun t Y X h => by
      have h' : (if (cfg0.win w).isOut = true then rowR m c w t Y X else X = Y) := h
      rwa [if_neg (by rw [hw]; decide)] at h') t Y hY

end

set_option maxHeartbeats 4000000 in
theorem body_obligation (c : Dev nD) : (rdat m (rowR m) c).BodyObligation (defs₀ (F := Ideal)) 𝒱₀ () Set.univ := by
  intro t Y hY
  rw [Gen.bigSep_W0, Gen.bigSep_W0, defs₀_row]
  simp only [Pipeline.ΦA, Gen.scopedRest0_eq, pt_whole, owns]
  iintro ⟨⟨⟨⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩, HP⟩, HO, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩⟩
  have x2 : View.read (Elt Ideal) (win0_0.stage (cfg0.slots t 0)).view f2 = Gen.iblk m c 0 t := h2.trans (by obtain ⟨d, hd⟩ := found m c 0 rfl (fun _ _ _ => rfl) t (Y 0) (hY 0); exact hd.trans rfl)
  have x3 : View.read (Elt Ideal) (win0_1.stage (cfg0.slots t 1)).view f3 = Gen.iblk m c 1 t := h3.trans (by obtain ⟨d, hd⟩ := found m c 1 rfl (fun _ _ _ => rfl) t (Y 1) (hY 1); exact hd.trans rfl)
  have x4 : View.read (Elt Ideal) (win0_2.stage (cfg0.slots t 2)).view f4 = Gen.iblk m c 2 t := h4.trans (by obtain ⟨d, hd⟩ := found m c 2 rfl (fun _ _ _ => rfl) t (Y 2) (hY 2); exact hd.trans rfl)
  have x5 : View.read (Elt Ideal) (win0_3.stage (cfg0.slots t 3)).view f5 = Gen.iblk m c 3 t := h5.trans (by obtain ⟨d, hd⟩ := found m c 3 rfl (fun _ _ _ => rfl) t (Y 3) (hY 3); exact hd.trans rfl)
  have x6 : View.read (Elt Ideal) (win0_4.stage (cfg0.slots t 4)).view f6 = Gen.iblk m c 4 t := h6.trans (by obtain ⟨d, hd⟩ := found m c 4 rfl (fun _ _ _ => rfl) t (Y 4) (hY 4); exact hd.trans rfl)
  have x7 : View.read (Elt Ideal) (win0_5.stage (cfg0.slots t 5)).view f7 = Gen.iblk m c 5 t := h7.trans (by obtain ⟨d, hd⟩ := found m c 5 rfl (fun _ _ _ => rfl) t (Y 5) (hY 5); exact hd.trans rfl)
  have x9 : View.read (Elt Ideal) (win0_7.stage (cfg0.slots t 7)).view f9 = Gen.iblk m c 7 t := h9.trans (by obtain ⟨d, hd⟩ := found m c 7 rfl (fun _ _ _ => rfl) t (Y 7) (hY 7); exact hd.trans rfl)
  have x10 : View.read (Elt Ideal) (win0_8.stage (cfg0.slots t 8)).view f10 = Gen.iblk m c 8 t := h10.trans (by obtain ⟨d, hd⟩ := found m c 8 rfl (fun _ _ _ => rfl) t (Y 8) (hY 8); exact hd.trans rfl)
  have x11 : View.read (Elt Ideal) (win0_9.stage (cfg0.slots t 9)).view f11 = Gen.iblk m c 9 t := h11.trans (by obtain ⟨d, hd⟩ := found m c 9 rfl (fun _ _ _ => rfl) t (Y 9) (hY 9); exact hd.trans rfl)
  have x12 : View.read (Elt Ideal) (win0_10.stage (cfg0.slots t 10)).view f12 = Gen.iblk m c 10 t := h12.trans (by obtain ⟨d, hd⟩ := found m c 10 rfl (fun _ _ _ => rfl) t (Y 10) (hY 10); exact hd.trans rfl)
  iapply (body_run c (grid0.coords t) (win0_0.stage (cfg0.slots t 0)) (Gen.hstage0_0 (cfg0.slots t 0)) (win0_1.stage (cfg0.slots t 1)) (Gen.hstage0_1 (cfg0.slots t 1)) (win0_2.stage (cfg0.slots t 2)) (Gen.hstage0_2 (cfg0.slots t 2)) (win0_3.stage (cfg0.slots t 3)) (Gen.hstage0_3 (cfg0.slots t 3)) (win0_4.stage (cfg0.slots t 4)) (Gen.hstage0_4 (cfg0.slots t 4)) (win0_5.stage (cfg0.slots t 5)) (Gen.hstage0_5 (cfg0.slots t 5)) (win0_6.stage (cfg0.slots t 6)) (Gen.hstage0_6 (cfg0.slots t 6)) (win0_7.stage (cfg0.slots t 7)) (Gen.hstage0_7 (cfg0.slots t 7)) (win0_8.stage (cfg0.slots t 8)) (Gen.hstage0_8 (cfg0.slots t 8)) (win0_9.stage (cfg0.slots t 9)) (Gen.hstage0_9 (cfg0.slots t 9)) (win0_10.stage (cfg0.slots t 10)) (Gen.hstage0_10 (cfg0.slots t 10)) (win0_11.stage (cfg0.slots t 11)) (Gen.hstage0_11 (cfg0.slots t 11)) (win0_12.stage (cfg0.slots t 12)) (Gen.hstage0_12 (cfg0.slots t 12)) (win0_13.stage (cfg0.slots t 13)) (Gen.hstage0_13 (cfg0.slots t 13)) (win0_14.stage (cfg0.slots t 14)) (Gen.hstage0_14 (cfg0.slots t 14)) (win0_15.stage (cfg0.slots t 15)) (Gen.hstage0_15 (cfg0.slots t 15)) (win0_16.stage (cfg0.slots t 16)) (Gen.hstage0_16 (cfg0.slots t 16)) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) f2 f3 f4 f5 f6 f7 f8 f9 f10 f11 f12 f13 f14 f15 f16 f17 f18 f19 f20 f21 f22 f23 f24 f25 f26 f27 f28)
  isplitl [H2 H3 H4 H5 H6 H7 H8 H9 H10 H11 H12 H13 H14 H15 H16 H17 H18 H19 H20 H21 H22 H23 H24 H25 H26 H27 H28]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    iexact H28
  iintro ⟨H2, H3, H4, H5, H6, H7, H8, H9, H10, H11, H12, H13, H14, ⟨%g15, H15, %hg⟩, ⟨%g16, H16⟩, ⟨%g17, H17⟩, ⟨%g18, H18⟩, ⟨%g19, H19⟩, ⟨%g20, H20⟩, ⟨%g21, H21⟩, ⟨%g22, H22⟩, ⟨%g23, H23⟩, ⟨%g24, H24⟩, ⟨%g25, H25⟩, ⟨%g26, H26⟩, ⟨%g27, H27⟩, ⟨%g28, H28⟩⟩
  isplitl [H19 H20 H21 H22 H23 H24 H25 H26 H27 H28 HP]
  · isplitl [H19 H20 H21 H22 H23 H24 H25 H26 H27 H28]
    · isplitl [H19]; · iexists g19; iexact H19
      isplitl [H20]; · iexists g20; iexact H20
      isplitl [H21]; · iexists g21; iexact H21
      isplitl [H22]; · iexists g22; iexact H22
      isplitl [H23]; · iexists g23; iexact H23
      isplitl [H24]; · iexists g24; iexact H24
      isplitl [H25]; · iexists g25; iexact H25
      isplitl [H26]; · iexists g26; iexact H26
      isplitl [H27]; · iexists g27; iexact H27
      iexists g28; iexact H28
    · iexact HP
  isplitl [HO]; · iexact HO
  isplitl [H2]
  · iexists _; isplitr; · ipureintro; exact rfl
    iexists f2; isplitr; · ipureintro; exact h2
    iexact H2
  isplitl [H3]
  · iexists _; isplitr; · ipureintro; exact rfl
    iexists f3; isplitr; · ipureintro; exact h3
    iexact H3
  isplitl [H4]
  · iexists _; isplitr; · ipureintro; exact rfl
    iexists f4; isplitr; · ipureintro; exact h4
    iexact H4
  isplitl [H5]
  · iexists _; isplitr; · ipureintro; exact rfl
    iexists f5; isplitr; · ipureintro; exact h5
    iexact H5
  isplitl [H6]
  · iexists _; isplitr; · ipureintro; exact rfl
    iexists f6; isplitr; · ipureintro; exact h6
    iexact H6
  isplitl [H7]
  · iexists _; isplitr; · ipureintro; exact rfl
    iexists f7; isplitr; · ipureintro; exact h7
    iexact H7
  isplitl [H8]
  · iexists _; isplitr; · ipureintro; exact rfl
    iexists f8; isplitr; · ipureintro; exact h8
    iexact H8
  isplitl [H9]
  · iexists _; isplitr; · ipureintro; exact rfl
    iexists f9; isplitr; · ipureintro; exact h9
    iexact H9
  isplitl [H10]
  · iexists _; isplitr; · ipureintro; exact rfl
    iexists f10; isplitr; · ipureintro; exact h10
    iexact H10
  isplitl [H11]
  · iexists _; isplitr; · ipureintro; exact rfl
    iexists f11; isplitr; · ipureintro; exact h11
    iexact H11
  isplitl [H12]
  · iexists _; isplitr; · ipureintro; exact rfl
    iexists f12; isplitr; · ipureintro; exact h12
    iexact H12
  isplitl [H13]
  · iexists _; isplitr; · ipureintro; exact rfl
    iexists f13; isplitr; · ipureintro; exact h13
    iexact H13
  isplitl [H14]
  · iexists _; isplitr; · ipureintro; exact rfl
    iexists f14; isplitr; · ipureintro; exact h14
    iexact H14
  isplitl [H15]
  · iexists (View.read (Elt Ideal) (win0_13.stage (cfg0.slots t 13)).view g15); isplitr
    · ipureintro
      refine Eq.mpr (if_pos trivial) (fun h => ?_)
      show Good m c t _
      intro a
      refine (hg a).trans ?_
      rw [x2, x3, x4, x5, x6, x7, x9, x10, x11, x12]
      exact congrArg₂ (KLrow _) (LG_iblk m c t a) (PP_iblk m c t a)
    iexists g15; isplitr; · ipureintro; exact rfl
    iexact H15
  isplitl [H16]
  · iexists (View.read (Elt Ideal) (win0_14.stage (cfg0.slots t 14)).view g16); isplitr; · ipureintro; exact Eq.mpr (if_pos trivial) (fun h => absurd (congrArg Fin.val h) (by decide))
    iexists g16; isplitr; · ipureintro; exact rfl
    iexact H16
  isplitl [H17]
  · iexists (View.read (Elt Ideal) (win0_15.stage (cfg0.slots t 15)).view g17); isplitr; · ipureintro; exact Eq.mpr (if_pos trivial) (fun h => absurd (congrArg Fin.val h) (by decide))
    iexists g17; isplitr; · ipureintro; exact rfl
    iexact H17
  iexists (View.read (Elt Ideal) (win0_16.stage (cfg0.slots t 16)).view g18); isplitr; · ipureintro; exact Eq.mpr (if_pos trivial) (fun h => absurd (congrArg Fin.val h) (by decide))
  iexists g18; isplitr; · ipureintro; exact rfl
  iexact H18

end Cert.Proof.KIV
-- ==== Proof.KIV.Final.lean ====
/-
  The run of the kernel: the first result holds the divergence of every query token's row; the arguments and the semaphores are as found.
-/
module

public import proofs.«01_k».proof.Proof.KIV.Pipe
public import Idealize.ShloMosaic.Lib.Pipeline.ArrRel

@[expose] public section

noncomputable section

namespace Cert.Proof.KIV

open Cert.KernelIdeal Cert.Proof.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)
local notation "𝕄" => MT nD τ sig Unit (Elt Ideal) ℕ (UU nD τ) ℕ
variable (m : (ℓ : Loc nD τ sig) → Buf (Elt Ideal) ℓ)
variable (c : Dev nD)

/-- The run: results, arguments, semaphores. -/
theorem run (ρ : Dev nD → PrngReg) : θ_run (defs (F := Ideal)) (onTc (τ := τ) (main (F := Ideal))) ⟨m, fun _ => 0, ρ⟩ (fun r => (∀ c : Dev nD,
      (r.2.mem ((c.tc : Thread nD τ).loc main_v16_0) = fun i => KV m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  refine RDat.θ_run_frame cfgs 0 Gen.launch0 defs₀ 𝒱₀ (rdat m (rowR m)) m ρ main (body_obligation m)
    (fun c w => by simp only [RDat.share, ite_self]) (fun _ _ => rfl) (Gen.V m) (Gen.hmain m 𝒱₀) (fun _ _ => rfl) (fun _ _ => rfl) _ ?_
  rintro r ⟨h, hs⟩
  refine ⟨fun c => ⟨?_, ((h c).2 main_arg0 (Pipeline.mem_restRefs_of main_arg0 (by decide) (by decide))).trans (Gen.V_main_arg0 m c),
    (h.arr_in c 1 rfl).trans (Gen.V_main_arg1 m c),
    ((h c).2 main_arg2 (Pipeline.mem_restRefs_of main_arg2 (by decide) (by decide))).trans (Gen.V_main_arg2 m c),
    ((h c).2 main_arg3 (Pipeline.mem_restRefs_of main_arg3 (by decide) (by decide))).trans (Gen.V_main_arg3 m c),
    ((h c).2 main_arg4 (Pipeline.mem_restRefs_of main_arg4 (by decide) (by decide))).trans (Gen.V_main_arg4 m c),
    ((h c).2 main_arg5 (Pipeline.mem_restRefs_of main_arg5 (by decide) (by decide))).trans (Gen.V_main_arg5 m c),
    (h.arr_in c 5 rfl).trans (Gen.V_main_arg6 m c),
    (h.arr_in c 11 rfl).trans (Gen.V_main_arg7 m c),
    ((h c).2 main_arg8 (Pipeline.mem_restRefs_of main_arg8 (by decide) (by decide))).trans (Gen.V_main_arg8 m c),
    ((h c).2 main_arg9 (Pipeline.mem_restRefs_of main_arg9 (by decide) (by decide))).trans (Gen.V_main_arg9 m c)⟩, hs⟩
  obtain ⟨after, hL, hA⟩ := RDat.FramePost.exists_exact h c
  refine (hA 13).trans ?_
  funext i
  refine Dat.arrAt_forall_of_covers ((rdat m (rowR m) c).withAfter after) 13 (fun i v => v = KV m c (i 0) (i 1)) (by decide +kernel) (fun t hf y => ?_) i
  obtain ⟨Y, _, hX⟩ := hL 13 t hf
  have hX1 : if True then rowR m c 13 t Y (after 13 t) else after 13 t = Y := hX
  have hX' : Good m c t (after 13 t) := (Eq.mp (if_pos trivial) hX1 : rowR m c 13 t Y (after 13 t)) rfl
  obtain ⟨a, rfl⟩ : ∃ a : Fin 16, y = (ix3 0 a 0 : S1x16x1.Idx) := ⟨y 1, by
    funext x
    match x with
    | ⟨0, _⟩ => exact Subsingleton.elim (α := Fin 1) _ _
    | ⟨1, _⟩ => rfl
    | ⟨2, _⟩ => exact Subsingleton.elim (α := Fin 1) _ _⟩
  rw [emb13]
  exact hX' a

end Cert.Proof.KIV
-- ==== Proof.Eq.lean ====
/-
  The logits and the target probabilities of the kernel are those of the reference: over the extended reals, for scales of
  the index codes that are non-negative numbers.
-/
module

public import proofs.«01_k».proof.Proof.KIV.Arr
public import Mathlib.Data.EReal.Operations
public import Mathlib.Analysis.SpecialFunctions.Pow.Real

@[expose] public section

noncomputable section

namespace Cert.Proof

open Idealize.ShloMosaic

theorem sum_mul_nonneg {n : ℕ} (f : Fin n → EReal) (c : EReal) (h0 : 0 ≤ c) (h1 : c ≠ ⊤) : (∑ j, f j) * c = ∑ j, f j * c := by
  induction n with
  | zero => simp
  | succ n ih => rw [Fin.sum_univ_succ, Fin.sum_univ_succ, EReal.right_distrib_of_nonneg_of_ne_top h0 h1, ih]

theorem relu_scale (r x y : EReal) (hx : 0 ≤ x) (hy : 0 ≤ y) : max (r * x * y) 0 = max r 0 * x * y := by
  rcases le_total 0 r with h | h
  · rw [max_eq_left h, max_eq_left (mul_nonneg (mul_nonneg h hx) hy)]
  · rw [max_eq_right h, zero_mul, zero_mul, mul_assoc]
    exact max_eq_right (EReal.mul_nonpos_iff.2 (Or.inr ⟨h, mul_nonneg hx hy⟩))

/-- One logit. -/
theorem logit_eq {n : ℕ} (r w x : Fin n → EReal) (y : EReal) (hx : ∀ j, 0 ≤ x j) (hy : 0 ≤ y) (hy' : y ≠ ⊤) :
    (∑ j, max (r j) 0 * (w j * x j)) * y = ∑ j, w j * max (r j * x j * y) 0 := by
  rw [sum_mul_nonneg _ _ hy hy']
  refine Finset.sum_congr rfl fun j _ => ?_
  rw [relu_scale _ _ _ (hx j) hy]
  ac_rfl

theorem exp2_div (x : EReal) : Ideal.exp2 (x * (((Real.log 2)⁻¹ : ℝ) : EReal)) = Ideal.exp x := by
  have hl : (0 : ℝ) < (Real.log 2)⁻¹ := inv_pos.2 (Real.log_pos (by norm_num))
  induction x with
  | bot => rw [EReal.bot_mul_coe_of_pos hl]; rfl
  | top => rw [EReal.top_mul_coe_of_pos hl]; rfl
  | coe r =>
    rw [← EReal.coe_mul]
    show ((Real.rpow 2 (r * (Real.log 2)⁻¹) : ℝ) : EReal) = (Real.exp r : EReal)
    congr 1
    show (2 : ℝ) ^ (r * (Real.log 2)⁻¹) = Real.exp r
    rw [Real.rpow_def_of_pos (by norm_num)]
    congr 1
    field_simp

/-- One target term: the scale and the normalizer divided by `log 2`, and a power of 2, are an exponential. -/
theorem prob_eq (r x y l : EReal) (q : ℝ) :
    Ideal.exp2 (r * (x * ((q * (Real.log 2)⁻¹ : ℝ) : EReal)) * y - l * (((Real.log 2)⁻¹ : ℝ) : EReal)) = Ideal.exp (r * ((q : EReal) * x) * y - l) := by
  have hl : (0 : ℝ) < (Real.log 2)⁻¹ := inv_pos.2 (Real.log_pos (by norm_num))
  rw [← exp2_div]
  congr 1
  rw [sub_eq_add_neg, sub_eq_add_neg, EReal.right_distrib_of_nonneg_of_ne_top (EReal.coe_nonneg.2 hl.le) (EReal.coe_ne_top _), EReal.coe_mul,
    EReal.neg_mul]
  congr 1
  ac_rfl

end Cert.Proof
-- ==== Proof.RI.Value.lean ====
/-
  What the reference computes, element by element in its argument arrays.
-/
module

public import proofs.«01_k».proof.Proof.Gen.ReferenceIdeal.Value
public import Idealize.ShloMosaic.Lib.Pointwise

@[expose] public section

set_option maxRecDepth 16384

noncomputable section

namespace Cert.Proof.RI

open Cert.ReferenceIdeal Cert.ReferenceIdeal.Gen
open Idealize.ShloMosaic Idealize.ShloMosaic.TcCoe Idealize.ShloMosaic.Tactic

theorem raw_apply (a0 : Vec Ideal S2x8192x20x576 .fp8e4m3) (a1 : Vec Ideal S2x8192x20 .f32) (a2 : Vec Ideal S2x8192x576 .fp8e4m3) (a3 : Vec Ideal S2x8192 .f32)
    (b : Fin 2) (h : Fin 20) (t s : Fin 8192) :
    k0_pay5 a0 a2 a3 a1 (ix4 b h t s) = (∑ k : Fin 576, (a2 (ix3 b s k) : EReal) * (a0 (ix4 b t h k) : EReal))
      * (Named.named (F := Ideal) (φ := .f32) κ "sm_scale" 0x3DA1E89B#32 * (a1 (ix3 b t h) : EReal)) * (a3 (ix2 b s) : EReal) := by
  unfold k0_pay5
  pointwise

/-- The target probabilities. -/
def Pt (v27 : FVec Ideal S2x20x8192x8192 .f32) (v28 : IVec S2x1x8192x8192 1) (v29 : Vec Ideal S2x20x8192 .f32) : FVec Ideal S2x8192x8192 .f32 :=
  mulf (multiReduction .add [1] S2x8192x8192 (select (broadcastTo S2x20x8192x8192 (shapeCast S2x1x8192x8192 v28 shapeCasts_S2x1x8192x8192_S2x1x8192x8192) broadcasts_S2x1x8192x8192_S2x20x8192x8192)
    (exp (subf v27 (broadcastTo S2x20x8192x8192 (shapeCast S2x20x8192x1 v29 shapeCasts_S2x20x8192_S2x20x8192x1) broadcasts_S2x20x8192x1_S2x20x8192x8192)))
    (broadcast S2x20x8192x8192 (Scalar.ofBits (F := Ideal) .f32 0x00000000#32))) 0x00000000#32 reduces_S2x20x8192x8192_S2x8192x8192 (.inl rfl) rfl)
    (broadcast S2x8192x8192 (Scalar.ofBits .f32 0x3D4CCCCD#32))

/-- The index logits. -/
def Lt (v5 : FVec Ideal S2x8192x48x128 .f32) (v7 : FVec Ideal S2x8192x128 .f32) (v9 : FVec Ideal S2x8192x48 .f32) (v10 : Vec Ideal S2x8192x48 .f32) (v12 : Vec Ideal S2x8192 .f32) :
    FVec Ideal S2x8192x8192 .f32 :=
  matmul dot_S2x8192x48_S2x8192x48x8192_S2x8192x8192_2_2_n_3_01_01 none v9
    (maximumf (mulf (mulf (matmul dot_S2x8192x48x128_S2x8192x128_S2x8192x48x8192_3_2_12_1_0_0 none v5 v7 (constant S2x8192x48x8192 .f32 0x00000000#32))
      (broadcastTo S2x8192x48x8192 (shapeCast S2x8192x48x1 v10 shapeCasts_S2x8192x48_S2x8192x48x1) broadcasts_S2x8192x48x1_S2x8192x48x8192))
      (broadcastTo S2x8192x48x8192 (shapeCast S2x1x1x8192 v12 shapeCasts_S2x8192_S2x1x1x8192) broadcasts_S2x1x1x8192_S2x8192x48x8192))
      (broadcast S2x8192x48x8192 (Scalar.ofBits (F := Ideal) .f32 0x00000000#32))) (constant S2x8192x8192 .f32 0x00000000#32)

/-- A value per query, repeated over the keys. -/
def rep (w : FVec Ideal S2x8192 .f32) : FVec Ideal S2x8192x8192 .f32 :=
  broadcastTo S2x8192x8192 (shapeCast S2x8192x1 w shapeCasts_S2x8192_S2x8192x1) broadcasts_S2x8192x1_S2x8192x8192

/-- The greatest entry of each row. -/
def mxR (x : FVec Ideal S2x8192x8192 .f32) : FVec Ideal S2x8192 .f32 :=
  multiReduction .maximumf [2] S2x8192 x 0xFF800000#32 reduces_S2x8192x8192_S2x8192 (.inl rfl) rfl

/-- The sum of each row. -/
def smR (x : FVec Ideal S2x8192x8192 .f32) : FVec Ideal S2x8192 .f32 :=
  multiReduction .add [2] S2x8192 x 0x00000000#32 reduces_S2x8192x8192_S2x8192 (.inl rfl) rfl

/-- The logits where the key is visible, `-∞` elsewhere. -/
def Xt (v15 : IVec S2x8192x8192 1) (L : FVec Ideal S2x8192x8192 .f32) : FVec Ideal S2x8192x8192 .f32 :=
  select v15 L (broadcast S2x8192x8192 (Scalar.ofBits (F := Ideal) .f32 0xFF800000#32))

/-- The divergence terms. -/
def Kt (v15 : IVec S2x8192x8192 1) (P L : FVec Ideal S2x8192x8192 .f32) (W : FVec Ideal S2x8192 .f32) : FVec Ideal S2x8192x8192 .f32 :=
  select v15 (mulf P (subf (log P) (subf L (rep W)))) (broadcast S2x8192x8192 (Scalar.ofBits (F := Ideal) .f32 0x00000000#32))

theorem pay7_eq (v5 : FVec Ideal S2x8192x48x128 .f32) (v7 : FVec Ideal S2x8192x128 .f32) (v9 : FVec Ideal S2x8192x48 .f32) (v10 : Vec Ideal S2x8192x48 .f32) (v12 : Vec Ideal S2x8192 .f32)
    (v15 : IVec S2x8192x8192 1) (v27 : FVec Ideal S2x20x8192x8192 .f32) (v28 : IVec S2x1x8192x8192 1) (v29 : Vec Ideal S2x20x8192 .f32) :
    k0_pay7 v5 v7 v9 v10 v12 v15 v27 v28 v29 = shapeCast S2x8192x1 (smR (Kt v15 (Pt v27 v28 v29) (Lt v5 v7 v9 v10 v12)
      (addf (mxR (Xt v15 (Lt v5 v7 v9 v10 v12))) (log (smR (exp (subf (Xt v15 (Lt v5 v7 v9 v10 v12)) (rep (mxR (Xt v15 (Lt v5 v7 v9 v10 v12)))))))))))
      shapeCasts_S2x8192_S2x8192x1 := rfl

theorem Pt_apply (v27 : FVec Ideal S2x20x8192x8192 .f32) (v28 : IVec S2x1x8192x8192 1) (v29 : Vec Ideal S2x20x8192 .f32) (b : Fin 2) (t s : Fin 8192) :
    Pt v27 v28 v29 (ix3 b t s) = (∑ h : Fin 20, Scalar.select (v28 (ix4 b 0 t s)) (Ideal.exp ((v27 (ix4 b h t s) : EReal) - (v29 (ix3 b h t) : EReal))) 0)
      * Ideal.ofBits .f32 0x3D4CCCCD#32 := by
  unfold Pt
  pointwise

theorem Lt_apply (v5 : FVec Ideal S2x8192x48x128 .f32) (v7 : FVec Ideal S2x8192x128 .f32) (v9 : FVec Ideal S2x8192x48 .f32) (v10 : Vec Ideal S2x8192x48 .f32) (v12 : Vec Ideal S2x8192 .f32)
    (b : Fin 2) (t s : Fin 8192) :
    Lt v5 v7 v9 v10 v12 (ix3 b t s) = ∑ j : Fin 48, (v9 (ix3 b t j) : EReal) * max ((∑ k : Fin 128, (v5 (ix4 b t j k) : EReal) * (v7 (ix3 b s k) : EReal))
      * (v10 (ix3 b t j) : EReal) * (v12 (ix2 b s) : EReal)) 0 := by
  unfold Lt
  pointwise

theorem rep_apply (w : FVec Ideal S2x8192 .f32) (b : Fin 2) (t s : Fin 8192) : rep w (ix3 b t s) = w (ix2 b t) := by
  unfold rep
  pointwise

theorem mxR_apply (x : FVec Ideal S2x8192x8192 .f32) (b : Fin 2) (t : Fin 8192) :
    mxR x (ix2 b t) = Finset.univ.fold max (Ideal.ofBits .f32 0xFF800000#32) (fun s : Fin 8192 => (x (ix3 b t s) : EReal)) := by
  unfold mxR
  pointwise

theorem smR_apply (x : FVec Ideal S2x8192x8192 .f32) (b : Fin 2) (t : Fin 8192) : smR x (ix2 b t) = ∑ s : Fin 8192, (x (ix3 b t s) : EReal) := by
  unfold smR
  pointwise

theorem cast_apply (w : FVec Ideal S2x8192 .f32) (h) (b : Fin 2) (t : Fin 8192) : shapeCast S2x8192x1 w h (ix3 b t 0) = w (ix2 b t) := by
  pointwise

theorem sle_ofNat (s t : Fin 8192) : IntOp.cmpi .sle (BitVec.ofNat 32 s.val) (BitVec.ofNat 32 t.val) = if s.val ≤ t.val then 1#1 else 0#1 := by
  have h1 : (BitVec.ofNat 32 s.val).toInt = s.val := by
    rw [BitVec.toInt_eq_toNat_of_lt (by simp; omega)]
    simp; omega
  have h2 : (BitVec.ofNat 32 t.val).toInt = t.val := by
    rw [BitVec.toInt_eq_toNat_of_lt (by simp; omega)]
    simp; omega
  by_cases h : s.val ≤ t.val
  · rw [if_pos h]
    simp [IntOp.cmpi, BitVec.sle, h1, h2, h]
  · rw [if_neg h]
    simp [IntOp.cmpi, BitVec.sle, h1, h2, h]

theorem pay4_apply (b : Fin 2) (t s : Fin 8192) : k0_pay4 (ix3 b t s) = if s.val ≤ t.val then 1#1 else 0#1 := by
  refine Eq.trans ?_ (sle_ofNat s t)
  unfold k0_pay4
  pointwise

theorem pay6_apply (b : Fin 2) (t s : Fin 8192) : k0_pay6 (ix4 b 0 t s) = if s.val ≤ t.val then 1#1 else 0#1 := by
  refine Eq.trans ?_ (pay4_apply b t s)
  unfold k0_pay6
  pointwise

end Cert.Proof.RI
-- ==== Proof.Value.lean ====
/-
  The reference's result is the kernel's formula, for scales of the index codes that are non-negative numbers; and the
  precondition says that they are.
-/
module

public import proofs.«01_k».proof.Proof.Eq
public import proofs.«01_k».proof.Proof.KIV.Row
public import proofs.«01_k».proof.Proof.RI.Value
public import proofs.«01_k».proof.Pre_scales_ok
public import Idealize.ShloMosaic.PureOps.IdealRules

@[expose] public section

set_option maxRecDepth 16384

noncomputable section

namespace Cert.Proof

open Idealize.ShloMosaic
open Cert.ReferenceIdeal Cert.ReferenceIdeal.Gen Cert.Proof.RI

/-- The kernel's scale and its `log₂ e`. -/
abbrev kSM : EReal := Named.named (F := Ideal) (φ := .f32) Cert.KernelIdeal.κ "sm_scale_log2e" 0x3DE995B3#32
abbrev kL2 : EReal := Named.named (F := Ideal) (φ := .f32) Cert.KernelIdeal.κ "log2e" 0x3FB8AA3B#32

theorem kSM_eq : kSM = (((Real.sqrt 160)⁻¹ * (Real.log 2)⁻¹ : ℝ) : EReal) :=
  IdealRules.named_const.ideal_named_scalar _ _ _ _ rfl

theorem kL2_eq : kL2 = (((Real.log 2)⁻¹ : ℝ) : EReal) :=
  IdealRules.named_const.ideal_named_scalar _ _ _ _ rfl

theorem rSM_eq : Named.named (F := Ideal) (φ := .f32) Cert.ReferenceIdeal.κ "sm_scale" 0x3DA1E89B#32 = (((Real.sqrt 160)⁻¹ : ℝ) : EReal) :=
  IdealRules.named_const.ideal_named_scalar _ _ _ _ rfl

section

variable (a0 : FVec Ideal S2x8192x20x576 .fp8e4m3) (a1 : FVec Ideal S2x8192x20 .f32) (a2 : FVec Ideal S2x8192x576 .fp8e4m3) (a3 : FVec Ideal S2x8192 .f32)
  (a4 : FVec Ideal S2x20x8192 .f32) (a5 : FVec Ideal S2x8192x48x128 .fp8e4m3) (a6 : FVec Ideal S2x8192x48 .f32) (a7 : FVec Ideal S2x8192x128 .fp8e4m3)
  (a8 : FVec Ideal S2x8192 .f32) (a9 : FVec Ideal S2x8192x48 .bf16)

/-- The reference's logits. -/
abbrev Lr : FVec Ideal S2x8192x8192 .f32 := Lt (k0_pay1 a5) (k0_pay2 a7) (k0_pay3 a9) a6 a8

/-- The reference's target probabilities. -/
abbrev Pr : FVec Ideal S2x8192x8192 .f32 := Pt (k0_pay5 a0 a2 a3 a1) k0_pay6 a4

theorem Lr_eq (h6 : ∀ b t j, 0 ≤ (a6 (ix3 b t j) : EReal)) (h8 : ∀ b s, 0 ≤ (a8 (ix2 b s) : EReal) ∧ (a8 (ix2 b s) : EReal) ≠ ⊤) (b : Fin 2) (t s : Fin 8192)
    (hs : s.val ≤ t.val) : Lr a5 a6 a7 a8 a9 (ix3 b t s) = KIV.LGa a5 a6 a7 a8 a9 b t s := by
  rw [KIV.LGa, if_pos hs]
  exact (Lt_apply _ _ _ _ _ b t s).trans (logit_eq _ _ _ _ (fun j => h6 b t j) (h8 b s).1 (h8 b s).2).symm

theorem Pr_eq (b : Fin 2) (t s : Fin 8192) (hs : s.val ≤ t.val) : Pr a0 a1 a2 a3 a4 (ix3 b t s) = KIV.PPa kSM kL2 a0 a1 a2 a3 a4 b t s := by
  rw [KIV.PPa, if_pos hs, kSM_eq, kL2_eq]
  refine (Pt_apply _ _ _ b t s).trans ?_
  congr 1
  refine Finset.sum_congr rfl fun h _ => ?_
  rw [pay6_apply, if_pos hs, raw_apply, rSM_eq, prob_eq]
  refine Eq.trans (b := Ideal.exp _) rfl ?_
  congr 4
  exact Finset.sum_congr rfl fun k _ => mul_comm _ _

theorem Xt_eq (h6 : ∀ b t j, 0 ≤ (a6 (ix3 b t j) : EReal)) (h8 : ∀ b s, 0 ≤ (a8 (ix2 b s) : EReal) ∧ (a8 (ix2 b s) : EReal) ≠ ⊤) (b : Fin 2) (t s : Fin 8192) :
    Xt k0_pay4 (Lr a5 a6 a7 a8 a9) (ix3 b t s) = KIV.LGa a5 a6 a7 a8 a9 b t s := by
  show Scalar.select (k0_pay4 (ix3 b t s)) (Lr a5 a6 a7 a8 a9 (ix3 b t s)) (Ideal.ofBits .f32 0xFF800000#32) = _
  rw [pay4_apply]
  by_cases hs : s.val ≤ t.val
  · rw [if_pos hs, ← Lr_eq a5 a6 a7 a8 a9 h6 h8 b t s hs]; rfl
  · rw [if_neg hs, KIV.LGa, if_neg hs]
    exact KIV.ofBits_negInf

theorem mxR_eq (X : FVec Ideal S2x8192x8192 .f32) (g : Fin 8192 → EReal) (b : Fin 2) (t : Fin 8192) (h : ∀ s, X (ix3 b t s) = g s) :
    mxR X (ix2 b t) = Finset.univ.sup g := by
  rw [mxR_apply, KIV.ofBits_negInf]
  simp only [h]
  rfl

theorem smR_eq (X : FVec Ideal S2x8192x8192 .f32) (g : Fin 8192 → EReal) (b : Fin 2) (t : Fin 8192) (h : ∀ s, X (ix3 b t s) = g s) :
    smR X (ix2 b t) = ∑ s, g s :=
  (smR_apply X b t).trans (Finset.sum_congr rfl fun s _ => h s)

theorem select_true (x y : EReal) : Scalar.select 1#1 x y = x := rfl

theorem select_false (x y : EReal) : Scalar.select 0#1 x y = y := rfl

theorem addlog_apply (A B : FVec Ideal S2x8192 .f32) (i : S2x8192.Idx) : (addf A (log B) i : EReal) = (A i : EReal) + Ideal.log (B i) := rfl

theorem expsub_apply (A B : FVec Ideal S2x8192x8192 .f32) (i : S2x8192x8192.Idx) : exp (subf A B) i = Ideal.exp ((A i : EReal) - (B i : EReal)) := rfl

theorem Kt_apply (v : IVec S2x8192x8192 1) (P L : FVec Ideal S2x8192x8192 .f32) (W : FVec Ideal S2x8192 .f32) (i : S2x8192x8192.Idx) :
    Kt v P L W i = Scalar.select (v i) ((P i : EReal) * (Ideal.log (P i) - ((L i : EReal) - (rep W i : EReal)))) (Ideal.ofBits .f32 0x00000000#32) := rfl

theorem term_congr {p p' l l' : EReal} (w : EReal) (hp : p = p') (hl : l = l') : p * (Ideal.log p - (l - w)) = p' * (Ideal.log p' - (l' - w)) := by
  rw [hp, hl]

theorem lse_eq (X : FVec Ideal S2x8192x8192 .f32) (g : Fin 8192 → EReal) (b : Fin 2) (t : Fin 8192) (h : ∀ s, X (ix3 b t s) = g s) :
    addf (mxR X) (log (smR (exp (subf X (rep (mxR X)))))) (ix2 b t) = Finset.univ.sup g + Ideal.log (∑ r : Fin 8192, Ideal.exp (g r - Finset.univ.sup g)) := by
  refine (addlog_apply _ _ _).trans ?_
  rw [mxR_eq X g b t h, smR_eq _ (fun r => Ideal.exp (g r - Finset.univ.sup g)) b t fun s => ?_]
  refine (expsub_apply _ _ _).trans ?_
  rw [rep_apply, mxR_eq X g b t h, h]

/-- The reference's result at a query token. -/
theorem G10_eq (h6 : ∀ b t j, 0 ≤ (a6 (ix3 b t j) : EReal)) (h8 : ∀ b s, 0 ≤ (a8 (ix2 b s) : EReal) ∧ (a8 (ix2 b s) : EReal) ≠ ⊤) (b : Fin 2) (t : Fin 8192) :
    Cert.ReferenceIdeal.Value.G10 (F := Ideal) a0 a1 a2 a3 a4 a5 a6 a7 a8 a9 (ix3 b t 0) = (KIV.KLrow t.val (KIV.LGa a5 a6 a7 a8 a9 b t) (KIV.PPa kSM kL2 a0 a1 a2 a3 a4 b t) : EReal) := by
  have hW := lse_eq _ _ b t (Xt_eq a5 a6 a7 a8 a9 h6 h8 b t)
  refine (congrFun (pay7_eq _ _ _ _ _ _ _ _ _) _).trans ((cast_apply _ _ b t).trans (smR_eq _ _ b t fun s => ?_))
  refine (Kt_apply _ _ _ _ _).trans ?_
  rw [pay4_apply]
  by_cases hs : s.val ≤ t.val
  · rw [if_pos hs, if_pos hs, rep_apply, hW]
    refine (select_true _ _).trans ?_
    exact term_congr _ (Pr_eq a0 a1 a2 a3 a4 b t s hs) (Lr_eq a5 a6 a7 a8 a9 h6 h8 b t s hs)
  · rw [if_neg hs, if_neg hs]
    exact (select_false _ _).trans (Ideal.ofBits_zero .f32)

instance facts_pre : Cert.Pre_scales_ok.Facts where
  bcast_S_S2x8192x48 := by decide
  bcast_S_S2x8192 := by decide

theorem ofBits_inf : Ideal.ofBits .f32 0x7F800000#32 = ⊤ := by simp [Ideal.ofBits, Ideal.ieee]

theorem and_cmp (x : EReal) (h : IntOp.andi (Ideal.cmp .oge x (Ideal.ofBits .f32 0x00000000#32)) (Ideal.cmp .olt x (Ideal.ofBits .f32 0x7F800000#32)) = 1#1) :
    0 ≤ x ∧ x ≠ ⊤ := by
  rw [Ideal.ofBits_zero, ofBits_inf] at h
  by_cases h0 : 0 ≤ x <;> by_cases h1 : x < ⊤ <;> simp [Ideal.cmp, h0, h1, IntOp.andi] at h
  exact ⟨h0, h1.ne⟩

theorem pre_a6 (h : (Cert.Pre_scales_ok.fn (F := Ideal) a0 a1 a2 a3 a4 a5 a6 a7 a8 a9).1 = fun _ => 1#1) (b : Fin 2) (t : Fin 8192) (j : Fin 48) :
    0 ≤ (a6 (ix3 b t j) : EReal) :=
  (and_cmp _ (congrFun h (ix3 b t j))).1

theorem pre_a8 (h : (Cert.Pre_scales_ok.fn (F := Ideal) a0 a1 a2 a3 a4 a5 a6 a7 a8 a9).2 = fun _ => 1#1) (b : Fin 2) (s : Fin 8192) :
    0 ≤ (a8 (ix2 b s) : EReal) ∧ (a8 (ix2 b s) : EReal) ≠ ⊤ :=
  and_cmp _ (congrFun h (ix2 b s))

end

end Cert.Proof
-- ==== Proof.lean ====
module

public import proofs.«01_k».proof.Defs
public import proofs.«01_k».proof.Proof.K.Frame
public import proofs.«01_k».proof.Proof.KIV.Final
public import proofs.«01_k».proof.Proof.Value

@[expose] public section

noncomputable section

namespace Cert.Proof

open Idealize.ShloMosaic Idealize.SL.Sem

theorem frame_ki : Cert.quiescent_KernelIdeal := fun m ρ _ =>
  (θ_run Cert.KernelIdeal.defs _ _).mono (fun _ h => ⟨fun c => (h.1 c).2, h.2⟩) (KIV.run m ρ)

theorem preserves : Cert.preserves_Kernel_KernelIdeal :=
  ⟨IdealRules.named_const.statement _ "sm_scale_log2e" .f32 _ _ rfl, IdealRules.named_const.statement _ "log2e" .f32 _ _ rfl⟩

theorem value_eq (m : (ℓ : Loc Cert.KernelIdeal.nD Cert.KernelIdeal.τ Cert.KernelIdeal.sig) → Buf (Elt Ideal) ℓ) (h : Cert.Pre_KernelIdeal_scales_ok m)
    (c : Dev Cert.KernelIdeal.nD) :
    Cert.ReferenceIdeal.Value.G10 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      = fun i => KIV.KV m c (i 0) (i 1) := by
  funext i
  obtain ⟨h6, h8⟩ := h c
  have hi : i = ix3 (i 0) (i 1) 0 := by
    funext a
    fin_cases a
    · rfl
    · rfl
    · exact Subsingleton.elim (α := Fin 1) _ _
  rw [hi]
  exact G10_eq _ _ _ _ _ _ _ _ _ _ (pre_a6 _ _ _ _ _ _ _ _ _ _ h6) (pre_a8 _ _ _ _ _ _ _ _ _ _ h8) (i 0) (i 1)

theorem algebraic : Cert.algebraic_KernelIdeal_ReferenceIdeal_pre_scales_ok := fun m g m' g' hpre hm =>
  ⟨fun c i => KIV.KV m c (i 0) (i 1),
    (θ_run Cert.KernelIdeal.defs _ _).mono (fun _ h => h.1) (KIV.run m g),
    (θ_run Cert.ReferenceIdeal.defs _ _).mono (fun r h c => ⟨(h c).1.trans (by
      obtain ⟨e0, e1, e2, e3, e4, e5, e6, e7, e8, e9⟩ := hm c
      rw [e0, e1, e2, e3, e4, e5, e6, e7, e8, e9]
      exact value_eq m hpre c), (h c).2⟩) (Cert.ReferenceIdeal.Value.run (F := Ideal) m' g')⟩

theorem claim : Cert.Claim := ⟨Cert.Kernel.Gen.facts, Cert.KernelIdeal.Gen.facts, Cert.ReferenceIdeal.Gen.facts, facts_pre,
  fun m ρ _ => Kernel.frame m ρ, frame_ki, fun m ρ _ => frame_ki m ρ trivial,
  fun m ρ _ => Cert.ReferenceIdeal.Gen.frame m ρ, fun m ρ _ => Cert.ReferenceIdeal.Gen.frame m ρ, preserves, algebraic⟩

end Cert.Proof

end
